-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "hidden" .f32 0xF149F2CA#32 ⊥
  ∧ IdealRules.named_const.Statement Cert.KernelIdeal.κ "shown" .f32 0x7149F2CA#32 ⊤
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60_0) = v0 c
          ∧ r.2.mem ((c.tc : Thread Cert.ReferenceIdeal.nD Cert.ReferenceIdeal.τ).loc Cert.ReferenceIdeal.main_v60_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x32x160 : Shape := ⟨4, ![2, 1024, 32, 160]⟩
abbrev S2x32 : Shape := ⟨2, ![2, 32]⟩
abbrev S2x1024x8x160 : Shape := ⟨4, ![2, 1024, 8, 160]⟩
abbrev S2x8 : Shape := ⟨2, ![2, 8]⟩
abbrev S2x32x220 : Shape := ⟨3, ![2, 32, 220]⟩
abbrev S2x32x400 : Shape := ⟨3, ![2, 32, 400]⟩
abbrev S2x32x160x1024 : Shape := ⟨4, ![2, 32, 160, 1024]⟩
abbrev S2x8x160x1024 : Shape := ⟨4, ![2, 8, 160, 1024]⟩
abbrev S2x8x4x220 : Shape := ⟨4, ![2, 8, 4, 220]⟩
abbrev S2x8x4x400 : Shape := ⟨4, ![2, 8, 4, 400]⟩
abbrev S2x1024x5120 : Shape := ⟨3, ![2, 1024, 5120]⟩
abbrev S2x8x128 : Shape := ⟨3, ![2, 8, 128]⟩
abbrev S1x1x4x220 : Shape := ⟨4, ![1, 1, 4, 220]⟩
abbrev S1x1x4x400 : Shape := ⟨4, ![1, 1, 4, 400]⟩
abbrev S1x4x160x1024 : Shape := ⟨4, ![1, 4, 160, 1024]⟩
abbrev S1x1x160x1024 : Shape := ⟨4, ![1, 1, 160, 1024]⟩
abbrev S1x1024x5120 : Shape := ⟨3, ![1, 1024, 5120]⟩
abbrev S1x8x128 : Shape := ⟨3, ![1, 8, 128]⟩
abbrev S32x160x1024 : Shape := ⟨3, ![32, 160, 1024]⟩
abbrev S32x2x1024 : Shape := ⟨3, ![32, 2, 1024]⟩
abbrev S1152x128 : Shape := ⟨2, ![1152, 128]⟩
abbrev S10x128 : Shape := ⟨2, ![10, 128]⟩
abbrev S1024x128 : Shape := ⟨2, ![1024, 128]⟩
abbrev S1024x160 : Shape := ⟨2, ![1024, 160]⟩
abbrev S160x1024 : Shape := ⟨2, ![160, 1024]⟩
abbrev S8x128 : Shape := ⟨2, ![8, 128]⟩
abbrev S1x1x1x220 : Shape := ⟨4, ![1, 1, 1, 220]⟩
abbrev S1x220 : Shape := ⟨2, ![1, 220]⟩
abbrev S1x1 : Shape := ⟨2, ![1, 1]⟩
abbrev S8x220 : Shape := ⟨2, ![8, 220]⟩
abbrev S128x220 : Shape := ⟨2, ![128, 220]⟩
abbrev S1x1x1x400 : Shape := ⟨4, ![1, 1, 1, 400]⟩
abbrev S1x400 : Shape := ⟨2, ![1, 400]⟩
abbrev S8x400 : Shape := ⟨2, ![8, 400]⟩
abbrev S128x400 : Shape := ⟨2, ![128, 400]⟩
abbrev S2x128 : Shape := ⟨2, ![2, 128]⟩
abbrev S1x128 : Shape := ⟨2, ![1, 128]⟩
abbrev S128x128 : Shape := ⟨2, ![128, 128]⟩
abbrev S1x1x160x256 : Shape := ⟨4, ![1, 1, 160, 256]⟩
abbrev S160x256 : Shape := ⟨2, ![160, 256]⟩
abbrev S256x160 : Shape := ⟨2, ![256, 160]⟩
abbrev S256x256 : Shape := ⟨2, ![256, 256]⟩
abbrev S256x128 : Shape := ⟨2, ![256, 128]⟩
abbrev S256 : Shape := ⟨1, ![256]⟩
abbrev S1x256 : Shape := ⟨2, ![1, 256]⟩
abbrev S1x160x256 : Shape := ⟨3, ![1, 160, 256]⟩
abbrev S1x1x256 : Shape := ⟨3, ![1, 1, 256]⟩
abbrev S512x160 : Shape := ⟨2, ![512, 160]⟩
abbrev S512x256 : Shape := ⟨2, ![512, 256]⟩
abbrev S512x128 : Shape := ⟨2, ![512, 128]⟩
abbrev S160x512 : Shape := ⟨2, ![160, 512]⟩
abbrev S768x160 : Shape := ⟨2, ![768, 160]⟩
abbrev S768x256 : Shape := ⟨2, ![768, 256]⟩
abbrev S768x128 : Shape := ⟨2, ![768, 128]⟩
abbrev S160x768 : Shape := ⟨2, ![160, 768]⟩
abbrev S1024x256 : Shape := ⟨2, ![1024, 256]⟩
abbrev S1x1x128 : Shape := ⟨3, ![1, 1, 128]⟩
abbrev S1x160x128 : Shape := ⟨3, ![1, 160, 128]⟩
abbrev S160x128 : Shape := ⟨2, ![160, 128]⟩
abbrev S640x128 : Shape := ⟨2, ![640, 128]⟩
abbrev S128x640 : Shape := ⟨2, ![128, 640]⟩
abbrev S1x128x640 : Shape := ⟨3, ![1, 128, 640]⟩

abbrev nBuf : Space → Nat
  | .hbm => 17
  | .vmem => 21
  | .smem => 5
  | _ => 0

abbrev bufTy : (tb : Table) → Fin (tcTables nBuf tb) → BufTy
  | .hbm, ⟨0, _⟩ => ⟨S2x1024x32x160, .fp8e4m3⟩
  | .hbm, ⟨1, _⟩ => ⟨S2x32, .f32⟩
  | .hbm, ⟨2, _⟩ => ⟨S2x1024x8x160, .fp8e4m3⟩
  | .hbm, ⟨3, _⟩ => ⟨S2x8, .f32⟩
  | .hbm, ⟨4, _⟩ => ⟨S2x1024x8x160, .fp8e4m3⟩
  | .hbm, ⟨5, _⟩ => ⟨S2x8, .f32⟩
  | .hbm, ⟨6, _⟩ => ⟨S2x32x220, .i32⟩
  | .hbm, ⟨7, _⟩ => ⟨S2x32, .i32⟩
  | .hbm, ⟨8, _⟩ => ⟨S2x32x400, .i32⟩
  | .hbm, ⟨9, _⟩ => ⟨S2x32, .i32⟩
  | .hbm, ⟨10, _⟩ => ⟨S2x32x160x1024, .fp8e4m3⟩
  | .hbm, ⟨11, _⟩ => ⟨S2x8x160x1024, .fp8e4m3⟩
  | .hbm, ⟨12, _⟩ => ⟨S2x8x160x1024, .fp8e4m3⟩
  | .hbm, ⟨13, _⟩ => ⟨S2x8x4x220, .i32⟩
  | .hbm, ⟨14, _⟩ => ⟨S2x8x4x400, .i32⟩
  | .hbm, ⟨15, _⟩ => ⟨S2x1024x5120, .fp8e4m3⟩
  | .hbm, ⟨16, _⟩ => ⟨S2x8x128, .f32⟩
  | .local _ .vmem, ⟨0, _⟩ => ⟨S1x1x4x220, .i32⟩
  | .local _ .vmem, ⟨1, _⟩ => ⟨S1x1x4x220, .i32⟩
  | .local _ .vmem, ⟨2, _⟩ => ⟨S1x1x4x400, .i32⟩
  | .local _ .vmem, ⟨3, _⟩ => ⟨S1x1x4x400, .i32⟩
  | .local _ .vmem, ⟨4, _⟩ => ⟨S1x4x160x1024, .fp8e4m3⟩
  | .local _ .vmem, ⟨5, _⟩ => ⟨S1x4x160x1024, .fp8e4m3⟩
  | .local _ .vmem, ⟨6, _⟩ => ⟨S1x1x160x1024, .fp8e4m3⟩
  | .local _ .vmem, ⟨7, _⟩ => ⟨S1x1x160x1024, .fp8e4m3⟩
  | .local _ .vmem, ⟨8, _⟩ => ⟨S1x1x160x1024, .fp8e4m3⟩
  | .local _ .vmem, ⟨9, _⟩ => ⟨S1x1x160x1024, .fp8e4m3⟩
  | .local _ .vmem, ⟨10, _⟩ => ⟨S1x1024x5120, .fp8e4m3⟩
  | .local _ .vmem, ⟨11, _⟩ => ⟨S1x1024x5120, .fp8e4m3⟩
  | .local _ .vmem, ⟨12, _⟩ => ⟨S1x8x128, .f32⟩
  | .local _ .vmem, ⟨13, _⟩ => ⟨S1x8x128, .f32⟩
  | .local _ .vmem, ⟨14, _⟩ => ⟨S32x160x1024, .f32⟩
  | .local _ .vmem, ⟨15, _⟩ => ⟨S32x2x1024, .f32⟩
  | .local _ .vmem, ⟨16, _⟩ => ⟨S1152x128, .f32⟩
  | .local _ .vmem, ⟨17, _⟩ => ⟨S10x128, .f32⟩
  | .local _ .vmem, ⟨18, _⟩ => ⟨S1024x128, .f32⟩
  | .local _ .vmem, ⟨19, _⟩ => ⟨S1024x160, .fp8e4m3⟩
  | .local _ .vmem, ⟨20, _⟩ => ⟨S160x1024, .bf16⟩
  | .local _ .smem, ⟨0, _⟩ => ⟨S2x32, .f32⟩
  | .local _ .smem, ⟨1, _⟩ => ⟨S2x8, .f32⟩
  | .local _ .smem, ⟨2, _⟩ => ⟨S2x8, .f32⟩
  | .local _ .smem, ⟨3, _⟩ => ⟨S2x32, .i32⟩
  | .local _ .smem, ⟨4, _⟩ => ⟨S2x32, .i32⟩
  | _, _ => ⟨S2x1024x32x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c4_i32 : BitVec 32 := 4#32
  let v14 : BitVec 32 := Scalar.addi c0_i32 c4_i32
  let c1_i32 : BitVec 32 := 1#32
  ⟨c0_i32, v14, c1_i32⟩
def k0_off1 (k0_t1 : Fin k0_t1_loop.trips) : Fin 4 → Nat :=
  let c0_14 : Index := 0#32
  let c0_15 : Index := 0#32
  let c0_i32 : BitVec 32 := 0#32
  let c1_i32 : BitVec 32 := 1#32
  let arg21 : BitVec 32 := Scf.iv c0_i32 c1_i32 k0_t1
  let v20 : Index := Scalar.indexCast arg21
  let c0_16 : Index := 0#32
  ![0, 0, v20.toNat, 0]
def k0_off2 (i : grid0.Coords) (k0_t1 : Fin k0_t1_loop.trips) : Fin 2 → Nat :=
  let arg0 : BitVec 32 := BitVec.ofNat 32 (i 0).val
  let v23 : Index := Scalar.indexCast arg0
  let arg1 : BitVec 32 := BitVec.ofNat 32 (i 1).val
  let c4_i32_13 : BitVec 32 := 4#32
  let v18 : BitVec 32 := Scalar.muli arg1 c4_i32_13
  let c0_i32 : BitVec 32 := 0#32
  let c1_i32 : BitVec 32 := 1#32
  let arg21 : BitVec 32 := Scf.iv c0_i32 c1_i32 k0_t1
  let v19 : BitVec 32 := Scalar.addi v18 arg21
  let v24 : Index := Scalar.indexCast v19
  ![v23.toNat, v24.toNat]
def k0_off3 (k0_t1 : Fin k0_t1_loop.trips) : Fin 4 → Nat :=
  let c0_18 : Index := 0#32
  let c0_19 : Index := 0#32
  let c0_i32 : BitVec 32 := 0#32
  let c1_i32 : BitVec 32 := 1#32
  let arg21 : BitVec 32 := Scf.iv c0_i32 c1_i32 k0_t1
  let v50 : Index := Scalar.indexCast arg21
  let c0_20 : Index := 0#32
  ![0, 0, v50.toNat, 0]
def k0_off4 (i : grid0.Coords) : Fin 2 → Nat :=
  let arg0 : BitVec 32 := BitVec.ofNat 32 (i 0).val
  let v1420 : Index := Scalar.indexCast arg0
  let arg1 : BitVec 32 := BitVec.ofNat 32 (i 1).val
  let v1421 : Index := Scalar.indexCast arg1
  ![v1420.toNat, v1421.toNat]
def k0_off5 (k0_t1 : Fin k0_t1_loop.trips) : Fin 4 → Nat :=
  let c0_672 : Index := 0#32
  let c0_i32 : BitVec 32 := 0#32
  let c1_i32 : BitVec 32 := 1#32
  let arg21 : BitVec 32 := Scf.iv c0_i32 c1_i32 k0_t1
  let v1429 : Index := Scalar.indexCast arg21
  let c0_673 : Index := 0#32
  let c0_674 : Index := 0#32
  ![0, v1429.toNat, 0, 0]
def k0_off6 (i : grid0.Coords) (k0_t1 : Fin k0_t1_loop.trips) : Fin 3 → Nat :=
  let arg1 : BitVec 32 := BitVec.ofNat 32 (i 1).val
  let c4_i32_13 : BitVec 32 := 4#32
  let v18 : BitVec 32 := Scalar.muli arg1 c4_i32_13
  let c0_i32 : BitVec 32 := 0#32
  let c1_i32 : BitVec 32 := 1#32
  let arg21 : BitVec 32 := Scf.iv c0_i32 c1_i32 k0_t1
  let v19 : BitVec 32 := Scalar.addi v18 arg21
  let v1463 : Index := Scalar.indexCast v19
  let c0_693 : Index := 0#32
  let c0_694 : Index := 0#32
  ![v1463.toNat, 0, 0]
def k0_off7 (i : grid0.Coords) (k0_t1 : Fin k0_t1_loop.trips) : Fin 3 → Nat :=
  let arg1 : BitVec 32 := BitVec.ofNat 32 (i 1).val
  let c4_i32_13 : BitVec 32 := 4#32
  let v18 : BitVec 32 := Scalar.muli arg1 c4_i32_13
  let c0_i32 : BitVec 32 := 0#32
  let c1_i32 : BitVec 32 := 1#32
  let arg21 : BitVec 32 := Scf.iv c0_i32 c1_i32 k0_t1
  let v19 : BitVec 32 := Scalar.addi v18 arg21
  let v1473 : Index := Scalar.indexCast v19
  let c0_696 : Index := 0#32
  let c0_697 : Index := 0#32
  ![v1473.toNat, 0, 0]
def k0_off8 (k0_t1 : Fin k0_t1_loop.trips) : Fin 4 → Nat :=
  let c0_698 : Index := 0#32
  let c0_i32 : BitVec 32 := 0#32
  let c1_i32 : BitVec 32 := 1#32
  let arg21 : BitVec 32 := Scf.iv c0_i32 c1_i32 k0_t1
  let v1477 : Index := Scalar.indexCast arg21
  let c0_699 : Index := 0#32
  let c256_700 : Index := 256#32
  ![0, v1477.toNat, 0, 256]
def k0_off9 (i : grid0.Coords) (k0_t1 : Fin k0_t1_loop.trips) : Fin 3 → Nat :=
  let arg1 : BitVec 32 := BitVec.ofNat 32 (i 1).val
  let c4_i32_13 : BitVec 32 := 4#32
  let v18 : BitVec 32 := Scalar.muli arg1 c4_i32_13
  let c0_i32 : BitVec 32 := 0#32
  let c1_i32 : BitVec 32 := 1#32
  let arg21 : BitVec 32 := Scf.iv c0_i32 c1_i32 k0_t1
  let v19 : BitVec 32 := Scalar.addi v18 arg21
  let v1514 : Index := Scalar.indexCast v19
  let c0_719 : Index := 0#32
  let c256_720 : Index := 256#32
  ![v1514.toNat, 0, 256]
def k0_off10 (i : grid0.Coords) (k0_t1 : Fin k0_t1_loop.trips) : Fin 3 → Nat :=
  let arg1 : BitVec 32 := BitVec.ofNat 32 (i 1).val
  let c4_i32_13 : BitVec 32 := 4#32
  let v18 : BitVec 32 := Scalar.muli arg1 c4_i32_13
  let c0_i32 : BitVec 32 := 0#32
  let c1_i32 : BitVec 32 := 1#32
  let arg21 : BitVec 32 := Scf.iv c0_i32 c1_i32 k0_t1
  let v19 : BitVec 32 := Scalar.addi v18 arg21
  let v1524 : Index := Scalar.indexCast v19
  let c0_722 : Index := 0#32
  let c256_723 : Index := 256#32
  ![v1524.toNat, 0, 256]
def k0_off11 (k0_t1 : Fin k0_t1_loop.trips) : Fin 4 → Nat :=
  let c0_724 : Index := 0#32
  let c0_i32 : BitVec 32 := 0#32
  let c1_i32 : BitVec 32 := 1#32
  let arg21 : BitVec 32 := Scf.iv c0_i32 c1_i32 k0_t1
  let v1528 : Index := Scalar.indexCast arg21
  let c0_725 : Index := 0#32
  let c512_726 : Index := 512#32
  ![0, v1528.toNat, 0, 512]
def k0_off12 (i : grid0.Coords) (k0_t1 : Fin k0_t1_loop.trips) : Fin 3 → Nat :=
  let arg1 : BitVec 32 := BitVec.ofNat 32 (i 1).val
  let c4_i32_13 : BitVec 32 := 4#32
  let v18 : BitVec 32 := Scalar.muli arg1 c4_i32_13
  let c0_i32 : BitVec 32 := 0#32
  let c1_i32 : BitVec 32 := 1#32
  let arg21 : BitVec 32 := Scf.iv c0_i32 c1_i32 k0_t1
  let v19 : BitVec 32 := Scalar.addi v18 arg21
  let v1565 : Index := Scalar.indexCast v19
  let c0_745 : Index := 0#32
  let c512_746 : Index := 512#32
  ![v1565.toNat, 0, 512]
def k0_off13 (i : grid0.Coords) (k0_t1 : Fin k0_t1_loop.trips) : Fin 3 → Nat :=
  let arg1 : BitVec 32 := BitVec.ofNat 32 (i 1).val
  let c4_i32_13 : BitVec 32 := 4#32
  let v18 : BitVec 32 := Scalar.muli arg1 c4_i32_13
  let c0_i32 : BitVec 32 := 0#32
  let c1_i32 : BitVec 32 := 1#32
  let arg21 : BitVec 32 := Scf.iv c0_i32 c1_i32 k0_t1
  let v19 : BitVec 32 := Scalar.addi v18 arg21
  let v1575 : Index := Scalar.indexCast v19
  let c0_748 : Index := 0#32
  let c512_749 : Index := 512#32
  ![v1575.toNat, 0, 512]
def k0_off14 (k0_t1 : Fin k0_t1_loop.trips) : Fin 4 → Nat :=
  let c0_750 : Index := 0#32
  let c0_i32 : BitVec 32 := 0#32
  let c1_i32 : BitVec 32 := 1#32
  let arg21 : BitVec 32 := Scf.iv c0_i32 c1_i32 k0_t1
  let v1579 : Index := Scalar.indexCast arg21
  let c0_751 : Index := 0#32
  let c768_752 : Index := 768#32
  ![0, v1579.toNat, 0, 768]
def k0_off15 (i : grid0.Coords) (k0_t1 : Fin k0_t1_loop.trips) : Fin 3 → Nat :=
  let arg1 : BitVec 32 := BitVec.ofNat 32 (i 1).val
  let c4_i32_13 : BitVec 32 := 4#32
  let v18 : BitVec 32 := Scalar.muli arg1 c4_i32_13
  let c0_i32 : BitVec 32 := 0#32
  let c1_i32 : BitVec 32 := 1#32
  let arg21 : BitVec 32 := Scf.iv c0_i32 c1_i32 k0_t1
  let v19 : BitVec 32 := Scalar.addi v18 arg21
  let v1616 : Index := Scalar.indexCast v19
  let c0_771 : Index := 0#32
  let c768_772 : Index := 768#32
  ![v1616.toNat, 0, 768]
def k0_off16 (i : grid0.Coords) (k0_t1 : Fin k0_t1_loop.trips) : Fin 3 → Nat :=
  let arg1 : BitVec 32 := BitVec.ofNat 32 (i 1).val
  let c4_i32_13 : BitVec 32 := 4#32
  let v18 : BitVec 32 := Scalar.muli arg1 c4_i32_13
  let c0_i32 : BitVec 32 := 0#32
  let c1_i32 : BitVec 32 := 1#32
  let arg21 : BitVec 32 := Scf.iv c0_i32 c1_i32 k0_t1
  let v19 : BitVec 32 := Scalar.addi v18 arg21
  let v1626 : Index := Scalar.indexCast v19
  let c0_774 : Index := 0#32
  let c768_775 : Index := 768#32
  ![v1626.toNat, 0, 768]
def k0_cond1 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_12 : BitVec 32 := 0#32
  let v17 : BitVec 1 := Scalar.cmpi .ne v16 c0_i32_12
  v17

@[reducible] def k0_t2_loop : Scf.Loop 32 :=
  let c0_i32_13 : BitVec 32 := 0#32
  let c8_i32 : BitVec 32 := 8#32
  let v18 : BitVec 32 := Scalar.addi c0_i32_13 c8_i32
  let c1_i32_14 : BitVec 32 := 1#32
  ⟨c0_i32_13, v18, c1_i32_14⟩
def k0_mult1 (k0_t2 : Fin k0_t2_loop.trips) : BitVec 32 :=
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  v19
def k0_off17 (k0_t2 : Fin k0_t2_loop.trips) : Fin 3 → Nat :=
  let c0_16 : Index := 0#32
  let c0_17 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v21 : Index := Scalar.indexCast v20
  ![0, 0, v21.toNat]
def k0_off18 (k0_t2 : Fin k0_t2_loop.trips) : Fin 3 → Nat :=
  let c1 : Index := 1#32
  let c0_18 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v24 : Index := Scalar.indexCast v20
  ![1, 0, v24.toNat]
def k0_off19 (k0_t2 : Fin k0_t2_loop.trips) : Fin 3 → Nat :=
  let c2 : Index := 2#32
  let c0_19 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v28 : Index := Scalar.indexCast v20
  ![2, 0, v28.toNat]
def k0_off20 (k0_t2 : Fin k0_t2_loop.trips) : Fin 3 → Nat :=
  let c3 : Index := 3#32
  let c0_20 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v32 : Index := Scalar.indexCast v20
  ![3, 0, v32.toNat]
def k0_off21 (k0_t2 : Fin k0_t2_loop.trips) : Fin 3 → Nat :=
  let c4 : Index := 4#32
  let c0_21 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v36 : Index := Scalar.indexCast v20
  ![4, 0, v36.toNat]
def k0_off22 (k0_t2 : Fin k0_t2_loop.trips) : Fin 3 → Nat :=
  let c5 : Index := 5#32
  let c0_22 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v40 : Index := Scalar.indexCast v20
  ![5, 0, v40.toNat]
def k0_off23 (k0_t2 : Fin k0_t2_loop.trips) : Fin 3 → Nat :=
  let c6 : Index := 6#32
  let c0_23 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v44 : Index := Scalar.indexCast v20
  ![6, 0, v44.toNat]
def k0_off24 (k0_t2 : Fin k0_t2_loop.trips) : Fin 3 → Nat :=
  let c7 : Index := 7#32
  let c0_24 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v48 : Index := Scalar.indexCast v20
  ![7, 0, v48.toNat]
def k0_off25 (k0_t2 : Fin k0_t2_loop.trips) : Fin 3 → Nat :=
  let c8 : Index := 8#32
  let c0_25 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v52 : Index := Scalar.indexCast v20
  ![8, 0, v52.toNat]
def k0_off26 (k0_t2 : Fin k0_t2_loop.trips) : Fin 3 → Nat :=
  let c9 : Index := 9#32
  let c0_26 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v56 : Index := Scalar.indexCast v20
  ![9, 0, v56.toNat]
def k0_off27 (k0_t2 : Fin k0_t2_loop.trips) : Fin 3 → Nat :=
  let c10 : Index := 10#32
  let c0_27 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v60 : Index := Scalar.indexCast v20
  ![10, 0, v60.toNat]
def k0_off28 (k0_t2 : Fin k0_t2_loop.trips) : Fin 3 → Nat :=
  let c11 : Index := 11#32
  let c0_28 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v64 : Index := Scalar.indexCast v20
  ![11, 0, v64.toNat]
def k0_off29 (k0_t2 : Fin k0_t2_loop.trips) : Fin 3 → Nat :=
  let c12 : Index := 12#32
  let c0_29 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v68 : Index := Scalar.indexCast v20
  ![12, 0, v68.toNat]
def k0_off30 (k0_t2 : Fin k0_t2_loop.trips) : Fin 3 → Nat :=
  let c13 : Index := 13#32
  let c0_30 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v72 : Index := Scalar.indexCast v20
  ![13, 0, v72.toNat]
def k0_off31 (k0_t2 : Fin k0_t2_loop.trips) : Fin 3 → Nat :=
  let c14 : Index := 14#32
  let c0_31 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v76 : Index := Scalar.indexCast v20
  ![14, 0, v76.toNat]
def k0_off32 (k0_t2 : Fin k0_t2_loop.trips) : Fin 3 → Nat :=
  let c15 : Index := 15#32
  let c0_32 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v80 : Index := Scalar.indexCast v20
  ![15, 0, v80.toNat]
def k0_off33 (k0_t2 : Fin k0_t2_loop.trips) : Fin 3 → Nat :=
  let c16 : Index := 16#32
  let c0_33 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v84 : Index := Scalar.indexCast v20
  ![16, 0, v84.toNat]
def k0_off34 (k0_t2 : Fin k0_t2_loop.trips) : Fin 3 → Nat :=
  let c17 : Index := 17#32
  let c0_34 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v88 : Index := Scalar.indexCast v20
  ![17, 0, v88.toNat]
def k0_off35 (k0_t2 : Fin k0_t2_loop.trips) : Fin 3 → Nat :=
  let c18 : Index := 18#32
  let c0_35 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v92 : Index := Scalar.indexCast v20
  ![18, 0, v92.toNat]
def k0_off36 (k0_t2 : Fin k0_t2_loop.trips) : Fin 3 → Nat :=
  let c19 : Index := 19#32
  let c0_36 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v96 : Index := Scalar.indexCast v20
  ![19, 0, v96.toNat]
def k0_off37 (k0_t2 : Fin k0_t2_loop.trips) : Fin 3 → Nat :=
  let c20 : Index := 20#32
  let c0_37 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v100 : Index := Scalar.indexCast v20
  ![20, 0, v100.toNat]
def k0_off38 (k0_t2 : Fin k0_t2_loop.trips) : Fin 3 → Nat :=
  let c21 : Index := 21#32
  let c0_38 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v104 : Index := Scalar.indexCast v20
  ![21, 0, v104.toNat]
def k0_off39 (k0_t2 : Fin k0_t2_loop.trips) : Fin 3 → Nat :=
  let c22 : Index := 22#32
  let c0_39 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v108 : Index := Scalar.indexCast v20
  ![22, 0, v108.toNat]
def k0_off40 (k0_t2 : Fin k0_t2_loop.trips) : Fin 3 → Nat :=
  let c23 : Index := 23#32
  let c0_40 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v112 : Index := Scalar.indexCast v20
  ![23, 0, v112.toNat]
def k0_off41 (k0_t2 : Fin k0_t2_loop.trips) : Fin 3 → Nat :=
  let c24 : Index := 24#32
  let c0_41 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v116 : Index := Scalar.indexCast v20
  ![24, 0, v116.toNat]
def k0_off42 (k0_t2 : Fin k0_t2_loop.trips) : Fin 3 → Nat :=
  let c25 : Index := 25#32
  let c0_42 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v120 : Index := Scalar.indexCast v20
  ![25, 0, v120.toNat]
def k0_off43 (k0_t2 : Fin k0_t2_loop.trips) : Fin 3 → Nat :=
  let c26 : Index := 26#32
  let c0_43 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v124 : Index := Scalar.indexCast v20
  ![26, 0, v124.toNat]
def k0_off44 (k0_t2 : Fin k0_t2_loop.trips) : Fin 3 → Nat :=
  let c27 : Index := 27#32
  let c0_44 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v128 : Index := Scalar.indexCast v20
  ![27, 0, v128.toNat]
def k0_off45 (k0_t2 : Fin k0_t2_loop.trips) : Fin 3 → Nat :=
  let c28 : Index := 28#32
  let c0_45 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v132 : Index := Scalar.indexCast v20
  ![28, 0, v132.toNat]
def k0_off46 (k0_t2 : Fin k0_t2_loop.trips) : Fin 3 → Nat :=
  let c29 : Index := 29#32
  let c0_46 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v136 : Index := Scalar.indexCast v20
  ![29, 0, v136.toNat]
def k0_off47 (k0_t2 : Fin k0_t2_loop.trips) : Fin 3 → Nat :=
  let c30 : Index := 30#32
  let c0_47 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v140 : Index := Scalar.indexCast v20
  ![30, 0, v140.toNat]
def k0_off48 (k0_t2 : Fin k0_t2_loop.trips) : Fin 3 → Nat :=
  let c31 : Index := 31#32
  let c0_48 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v144 : Index := Scalar.indexCast v20
  ![31, 0, v144.toNat]
def k0_off49 (k0_t2 : Fin k0_t2_loop.trips) : Fin 3 → Nat :=
  let c0_73 : Index := 0#32
  let c0_i32_13 : BitVec 32 := 0#32
  let c1_i32_14 : BitVec 32 := 1#32
  let arg21 : BitVec 32 := Scf.iv c0_i32_13 c1_i32_14 k0_t2
  let v241 : Index := Scalar.indexCast arg21
  let c0_74 : Index := 0#32
  ![0, v241.toNat, 0]
@[reducible] def k0_t3_loop : Scf.Loop 32 :=
  let c0_i32_77 : BitVec 32 := 0#32
  let c8_i32_78 : BitVec 32 := 8#32
  let v251 : BitVec 32 := Scalar.addi c0_i32_77 c8_i32_78
  let c1_i32_79 : BitVec 32 := 1#32
  ⟨c0_i32_77, v251, c1_i32_79⟩
def k0_off50 (i : grid0.Coords) (k0_t3 : Fin k0_t3_loop.trips) : Fin 2 → Nat :=
  let arg0 : BitVec 32 := BitVec.ofNat 32 (i 0).val
  let v252 : Index := Scalar.indexCast arg0
  let c0_i32_77 : BitVec 32 := 0#32
  let c1_i32_79 : BitVec 32 := 1#32
  let arg22 : BitVec 32 := Scf.iv c0_i32_77 c1_i32_79 k0_t3
  let v253 : Index := Scalar.indexCast arg22
  ![v252.toNat, v253.toNat]
def k0_off51 (k0_t2 : Fin k0_t2_loop.trips) (k0_t3 : Fin k0_t3_loop.trips) (c0_i32_82 : BitVec 32) : Fin 3 → Nat :=
  let c0_i32_77 : BitVec 32 := 0#32
  let c1_i32_79 : BitVec 32 := 1#32
  let arg22 : BitVec 32 := Scf.iv c0_i32_77 c1_i32_79 k0_t3
  let c4_i32_81 : BitVec 32 := 4#32
  let v257 : BitVec 32 := Scalar.muli arg22 c4_i32_81
  let v258 : BitVec 32 := Scalar.addi v257 c0_i32_82
  let v259 : Index := Scalar.indexCast v258
  let c0_83 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v260 : Index := Scalar.indexCast v20
  ![v259.toNat, 0, v260.toNat]
def k0_mult2 (k0_t3 : Fin k0_t3_loop.trips) : BitVec 32 :=
  let c0_i32_77 : BitVec 32 := 0#32
  let c1_i32_79 : BitVec 32 := 1#32
  let arg22 : BitVec 32 := Scf.iv c0_i32_77 c1_i32_79 k0_t3
  let c4_i32_105 : BitVec 32 := 4#32
  let v321 : BitVec 32 := Scalar.muli arg22 c4_i32_105
  let c160_i32 : BitVec 32 := 160#32
  let v322 : BitVec 32 := Scalar.muli v321 c160_i32
  v322
def k0_off52 (k0_t2 : Fin k0_t2_loop.trips) (k0_t3 : Fin k0_t3_loop.trips) : Fin 3 → Nat :=
  let c0_108 : Index := 0#32
  let c0_i32_13 : BitVec 32 := 0#32
  let c1_i32_14 : BitVec 32 := 1#32
  let arg21 : BitVec 32 := Scf.iv c0_i32_13 c1_i32_14 k0_t2
  let c128_i32 : BitVec 32 := 128#32
  let v19 : BitVec 32 := Scalar.muli arg21 c128_i32
  let v20 : BitVec 32 := v19
  let v326 : Index := Scalar.indexCast v20
  let c0_i32_77 : BitVec 32 := 0#32
  let c1_i32_79 : BitVec 32 := 1#32
  let arg22 : BitVec 32 := Scf.iv c0_i32_77 c1_i32_79 k0_t3
  let c4_i32_105 : BitVec 32 := 4#32
  let v321 : BitVec 32 := Scalar.muli arg22 c4_i32_105
  let c160_i32 : BitVec 32 := 160#32
  let v322 : BitVec 32 := Scalar.muli v321 c160_i32
  let v323 : BitVec 32 := v322
  let v327 : Index := Scalar.indexCast v323
  ![0, v326.toNat, v327.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S2x32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S2x32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4x220 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4x400 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x160x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x160x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x160x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "hidden" => some ⊥
  | "log2e" => some (((Real.log 2)⁻¹ : ℝ) : EReal)
  | "shown" => some ⊤
  | _ => none
-- ==== ReferenceIdeal.lean ====
abbrev S2x1024x32x160 : Shape := ⟨4, ![2, 1024, 32, 160]⟩
abbrev S2x32 : Shape := ⟨2, ![2, 32]⟩
abbrev S2x1024x8x160 : Shape := ⟨4, ![2, 1024, 8, 160]⟩
abbrev S2x8 : Shape := ⟨2, ![2, 8]⟩
abbrev S2x32x220 : Shape := ⟨3, ![2, 32, 220]⟩
abbrev S2x32x400 : Shape := ⟨3, ![2, 32, 400]⟩
abbrev S2x32x1024x160 : Shape := ⟨4, ![2, 32, 1024, 160]⟩
abbrev S64x1024x160 : Shape := ⟨3, ![64, 1024, 160]⟩
abbrev S2x8x4 : Shape := ⟨3, ![2, 8, 4]⟩
abbrev S2x8x1 : Shape := ⟨3, ![2, 8, 1]⟩
abbrev S_ : Shape := ⟨0, ![]⟩
abbrev S1024x1024 : Shape := ⟨2, ![1024, 1024]⟩
abbrev S220 : Shape := ⟨1, ![220]⟩
abbrev S2x32x1 : Shape := ⟨3, ![2, 32, 1]⟩
abbrev S1x1x220 : Shape := ⟨3, ![1, 1, 220]⟩
abbrev S2x32x220x1x1 : Shape := ⟨5, ![2, 32, 220, 1, 1]⟩
abbrev S1x1x1x1024x1024 : Shape := ⟨5, ![1, 1, 1, 1024, 1024]⟩
abbrev S2x32x220x1024x1024 : Shape := ⟨5, ![2, 32, 220, 1024, 1024]⟩
abbrev S2x32x1024x1024 : Shape := ⟨4, ![2, 32, 1024, 1024]⟩
abbrev S400 : Shape := ⟨1, ![400]⟩
abbrev S1x1x400 : Shape := ⟨3, ![1, 1, 400]⟩
abbrev S2x32x400x1x1 : Shape := ⟨5, ![2, 32, 400, 1, 1]⟩
abbrev S2x32x400x1024x1024 : Shape := ⟨5, ![2, 32, 400, 1024, 1024]⟩
abbrev S1x1x1024x1024 : Shape := ⟨4, ![1, 1, 1024, 1024]⟩
abbrev S2x8x1024x160 : Shape := ⟨4, ![2, 8, 1024, 160]⟩
abbrev S2x8x1x1024x160 : Shape := ⟨5, ![2, 8, 1, 1024, 160]⟩
abbrev S2x8x4x1024x160 : Shape := ⟨5, ![2, 8, 4, 1024, 160]⟩
abbrev S64x1x1 : Shape := ⟨3, ![64, 1, 1]⟩
abbrev S64x1024x1024 : Shape := ⟨3, ![64, 1024, 1024]⟩
abbrev S2x1024x5120 : Shape := ⟨3, ![2, 1024, 5120]⟩
abbrev S2x8x128 : Shape := ⟨3, ![2, 8, 128]⟩
abbrev S64x1024 : Shape := ⟨2, ![64, 1024]⟩
abbrev S64x1024x1 : Shape := ⟨3, ![64, 1024, 1]⟩
abbrev S2x1024 : Shape := ⟨2, ![2, 1024]⟩
abbrev S2x1024x1 : Shape := ⟨3, ![2, 1024, 1]⟩

abbrev nBuf : Space → Nat
  | .hbm => 75
  | .vmem => 8
  | .smem => 0
  | _ => 0

abbrev bufTy : (tb : Table) → Fin (tcTables nBuf tb) → BufTy
  | .hbm, ⟨0, _⟩ => ⟨S2x1024x32x160, .fp8e4m3⟩
  | .hbm, ⟨1, _⟩ => ⟨S2x32, .f32⟩
  | .hbm, ⟨2, _⟩ => ⟨S2x1024x8x160, .fp8e4m3⟩
  | .hbm, ⟨3, _⟩ => ⟨S2x8, .f32⟩
  | .hbm, ⟨4, _⟩ => ⟨S2x1024x8x160, .fp8e4m3⟩
  | .hbm, ⟨5, _⟩ => ⟨S2x8, .f32⟩
  | .hbm, ⟨6, _⟩ => ⟨S2x32x220, .i32⟩
  | .hbm, ⟨7, _⟩ => ⟨S2x32, .i32⟩
  | .hbm, ⟨8, _⟩ => ⟨S2x32x400, .i32⟩
  | .hbm, ⟨9, _⟩ => ⟨S2x32, .i32⟩
  | .hbm, ⟨10, _⟩ => ⟨S2x32x1024x160, .fp8e4m3⟩
  | .hbm, ⟨11, _⟩ => ⟨S64x1024x160, .fp8e4m3⟩
  | .hbm, ⟨12, _⟩ => ⟨S2x8x4, .f32⟩
  | .hbm, ⟨13, _⟩ => ⟨S2x8x1, .f32⟩
  | .hbm, ⟨14, _⟩ => ⟨S2x8x4, .f32⟩
  | .hbm, ⟨15, _⟩ => ⟨S2x8x4, .f32⟩
  | .hbm, ⟨16, _⟩ => ⟨S_, .f32⟩
  | .hbm, ⟨17, _⟩ => ⟨S2x8x4, .f32⟩
  | .hbm, ⟨18, _⟩ => ⟨S2x8x4, .f32⟩
  | .hbm, ⟨19, _⟩ => ⟨S2x8x1, .f32⟩
  | .hbm, ⟨20, _⟩ => ⟨S2x8x4, .f32⟩
  | .hbm, ⟨21, _⟩ => ⟨S1024x1024, .i32⟩
  | .hbm, ⟨22, _⟩ => ⟨S1024x1024, .i32⟩
  | .hbm, ⟨23, _⟩ => ⟨S1024x1024, .i1⟩
  | .hbm, ⟨24, _⟩ => ⟨S220, .i32⟩
  | .hbm, ⟨25, _⟩ => ⟨S2x32x1, .i32⟩
  | .hbm, ⟨26, _⟩ => ⟨S1x1x220, .i32⟩
  | .hbm, ⟨27, _⟩ => ⟨S2x32x220, .i32⟩
  | .hbm, ⟨28, _⟩ => ⟨S2x32x220, .i32⟩
  | .hbm, ⟨29, _⟩ => ⟨S2x32x220, .i1⟩
  | .hbm, ⟨30, _⟩ => ⟨S2x32x220x1x1, .i32⟩
  | .hbm, ⟨31, _⟩ => ⟨S1x1x1x1024x1024, .i32⟩
  | .hbm, ⟨32, _⟩ => ⟨S2x32x220x1024x1024, .i32⟩
  | .hbm, ⟨33, _⟩ => ⟨S2x32x220x1024x1024, .i32⟩
  | .hbm, ⟨34, _⟩ => ⟨S2x32x220x1024x1024, .i1⟩
  | .hbm, ⟨35, _⟩ => ⟨S2x32x220x1x1, .i1⟩
  | .hbm, ⟨36, _⟩ => ⟨S2x32x220x1024x1024, .i1⟩
  | .hbm, ⟨37, _⟩ => ⟨S2x32x220x1024x1024, .i1⟩
  | .hbm, ⟨38, _⟩ => ⟨S_, .i1⟩
  | .hbm, ⟨39, _⟩ => ⟨S2x32x1024x1024, .i1⟩
  | .hbm, ⟨40, _⟩ => ⟨S1024x1024, .i32⟩
  | .hbm, ⟨41, _⟩ => ⟨S400, .i32⟩
  | .hbm, ⟨42, _⟩ => ⟨S2x32x1, .i32⟩
  | .hbm, ⟨43, _⟩ => ⟨S1x1x400, .i32⟩
  | .hbm, ⟨44, _⟩ => ⟨S2x32x400, .i32⟩
  | .hbm, ⟨45, _⟩ => ⟨S2x32x400, .i32⟩
  | .hbm, ⟨46, _⟩ => ⟨S2x32x400, .i1⟩
  | .hbm, ⟨47, _⟩ => ⟨S2x32x400x1x1, .i32⟩
  | .hbm, ⟨48, _⟩ => ⟨S1x1x1x1024x1024, .i32⟩
  | .hbm, ⟨49, _⟩ => ⟨S2x32x400x1024x1024, .i32⟩
  | .hbm, ⟨50, _⟩ => ⟨S2x32x400x1024x1024, .i32⟩
  | .hbm, ⟨51, _⟩ => ⟨S2x32x400x1024x1024, .i1⟩
  | .hbm, ⟨52, _⟩ => ⟨S2x32x400x1x1, .i1⟩
  | .hbm, ⟨53, _⟩ => ⟨S2x32x400x1024x1024, .i1⟩
  | .hbm, ⟨54, _⟩ => ⟨S2x32x400x1024x1024, .i1⟩
  | .hbm, ⟨55, _⟩ => ⟨S_, .i1⟩
  | .hbm, ⟨56, _⟩ => ⟨S2x32x1024x1024, .i1⟩
  | .hbm, ⟨57, _⟩ => ⟨S2x32x1024x1024, .i1⟩
  | .hbm, ⟨58, _⟩ => ⟨S1x1x1024x1024, .i1⟩
  | .hbm, ⟨59, _⟩ => ⟨S2x32x1024x1024, .i1⟩
  | .hbm, ⟨60, _⟩ => ⟨S2x32x1024x1024, .i1⟩
  | .hbm, ⟨61, _⟩ => ⟨S2x32x1024x1024, .i32⟩
  | .hbm, ⟨62, _⟩ => ⟨S2x8x1024x160, .fp8e4m3⟩
  | .hbm, ⟨63, _⟩ => ⟨S2x8x1x1024x160, .fp8e4m3⟩
  | .hbm, ⟨64, _⟩ => ⟨S2x8x4x1024x160, .fp8e4m3⟩
  | .hbm, ⟨65, _⟩ => ⟨S64x1024x160, .fp8e4m3⟩
  | .hbm, ⟨66, _⟩ => ⟨S2x8x1024x160, .fp8e4m3⟩
  | .hbm, ⟨67, _⟩ => ⟨S2x8x1x1024x160, .fp8e4m3⟩
  | .hbm, ⟨68, _⟩ => ⟨S2x8x4x1024x160, .fp8e4m3⟩
  | .hbm, ⟨69, _⟩ => ⟨S64x1024x160, .fp8e4m3⟩
  | .hbm, ⟨70, _⟩ => ⟨S64x1x1, .f32⟩
  | .hbm, ⟨71, _⟩ => ⟨S64x1x1, .f32⟩
  | .hbm, ⟨72, _⟩ => ⟨S64x1024x1024, .i32⟩
  | .hbm, ⟨73, _⟩ => ⟨S2x1024x5120, .fp8e4m3⟩
  | .hbm, ⟨74, _⟩ => ⟨S2x8x128, .f32⟩
  | .local _ .vmem, ⟨0, _⟩ => ⟨S64x1024x160, .fp8e4m3⟩
  | .local _ .vmem, ⟨1, _⟩ => ⟨S64x1024x160, .fp8e4m3⟩
  | .local _ .vmem, ⟨2, _⟩ => ⟨S64x1024x160, .fp8e4m3⟩
  | .local _ .vmem, ⟨3, _⟩ => ⟨S64x1x1, .f32⟩
  | .local _ .vmem, ⟨4, _⟩ => ⟨S64x1x1, .f32⟩
  | .local _ .vmem, ⟨5, _⟩ => ⟨S64x1024x1024, .i32⟩
  | .local _ .vmem, ⟨6, _⟩ => ⟨S2x1024x5120, .fp8e4m3⟩
  | .local _ .vmem, ⟨7, _⟩ => ⟨S2x8x128, .f32⟩
  | _, _ => ⟨S2x1024x32x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_0 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60_0 : Ref sig .tc := ⟨.hbm, 73, rfl⟩
abbrev main_v60_1 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "log2" => some ((Real.log 2 : ℝ) : EReal)
  | _ => none

abbrev grid0 : Pipeline.Grid := .none

abbrev stage0_0 : Fin 1 → Memref sig .tc .vmem S64x1024x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelFrame.lean ====
/-
  The frame of `Kernel`: @main runs to its end from any memory, the argument arrays end unchanged and every counter is
  back at zero. The kernel's body is run by `sl_exec`; the loop over the head groups is the generated one, the loop over
  the token blocks of the last grid point has the invariant stated here. Every window is forgotten: nothing is said of
  what the kernel leaves in its results.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-! ## The loop over the token blocks -/

set_option warn.classDefReducibility false in
/-- Before every trip of the last phase's loop over the token blocks: the value scales and the carried outputs and maxima
    at what they were, the two result blocks and the staging buffer at some contents. -/
@[sl_loop] def loopInv_k0_t2 (c : Dev nD) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole) (k0_h1 : k0_cond1 i = 1#1)
    (X4 : BufTy.Contents (Elt F) arg4.view.ty) (X14 : BufTy.Contents (Elt F) arg14.view.ty) (X15 : BufTy.Contents (Elt F) arg15.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) k0_h1 where
  inv := fun _ _ => iprop((arg4.view.loc (c : Thread nD τ) ↦[arg4.view.set]{fullShare} X4) ∗ (arg14.view.loc (c : Thread nD τ) ↦[arg14.view.set]{fullShare} X14) ∗ (arg15.view.loc (c : Thread nD τ) ↦[arg15.view.set]{fullShare} X15) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step := fun k acc => by
    unfold k0_t2_body
    iintro ⟨H4, H14, H15, ⟨%f12, H12⟩, ⟨%f13, H13⟩, ⟨%f19, H19⟩⟩
    sl_exec
    sl_step
    isplitl [H4]; · iexact H4
    isplitl [H14]; · iexact H14
    isplitl [H15]; · iexact H15
    isplitl [H12]; · iexists _; iexact H12
    isplitl [H13]; · iexists _; iexact H13
    iexists _; iexact H19

/-! ## The body, run once -/

/-- The body's triple, for any continuation: from every window and every scratch buffer at some contents, the kernel runs to
    its return and hands them all back at some contents. -/
theorem kernelRun (c : Dev nD) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) Set.univ (cc0_vs_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_vs_attn_eq_skeleton]; unfold cc0_vs_attn_skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  by_cases h1 : k0_cond1 i = 1#1
  all_goals
  sl_exec
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

/-! ## The proof data and the body obligation -/

/-- Every window is forgotten. -/
def forgets0 : Fin 12 → Bool := fun _ => true

variable (m : (ℓ : Loc nD τ sig) → Buf (Elt F) ℓ) (ρ : Dev nD → PrngReg)

/-- The proof data on core `c`: the arrays as the region finds them; what the body leaves unnamed; the class's invariant; full
    shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between the points, conjunct by conjunct: each scratch buffer at some contents, the generator register at
    some state. -/
theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d))
def bodyPost (c : Dev nD) (t : Fin cfg0.N) : sProp 𝕄 :=
  iprop((dats m 0 c).Φ t.succ ∗ (dats m 0 c).owesAt () t.succ ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4, S5, S6⟩, Hg⟩, HO, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) _)
  isplitl [W0]; · iexists _; iexact W0
  isplitl [W1]; · iexists _; iexact W1
  isplitl [W2]; · iexists _; iexact W2
  isplitl [W3]; · iexists _; iexact W3
  isplitl [W4]; · iexists _; iexact W4
  isplitl [W5]; · iexists _; iexact W5
  isplitl [W6]; · iexists _; iexact W6
  isplitl [W7]; · iexists _; iexact W7
  isplitl [W8]; · iexists _; iexact W8
  isplitl [W9]; · iexists _; iexact W9
  isplitl [W10]; · iexists _; iexact W10
  isplitl [W11]; · iexists _; iexact W11
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨W0, W1, W2, W3, W4, W5, W6, W7, W8, W9, W10, W11, S0, S1, S2, S3, S4, S5, S6⟩
  isplitl [S0 S1 S2 S3 S4 S5 S6 Hg]
  · isplitl [S0 S1 S2 S3 S4 S5 S6]
    · skip
      isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexact W11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the windows forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters every weakly fair execution of @main terminates; every final state has the input
    windows' arrays and the arrays of no window at their contents when the region is entered, and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, its argument arrays end unchanged and every counter ends at zero. -/
theorem frame :
    θ_run (defs (F := F)) (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => by
    have hc := h.1
    refine ⟨?_, ?_, ?_, ?_, ?_, ?_, ?_, ?_, ?_, ?_⟩
    · exact ((hc c).2 main_arg0 (Pipeline.mem_restRefs_of main_arg0 (by decide) (by decide))).trans (V_main_arg0 m c)
    · exact (Pipeline.RDat.FramePost.arr_in hc c 0 rfl).trans (V_main_arg1 m c)
    · exact ((hc c).2 main_arg2 (Pipeline.mem_restRefs_of main_arg2 (by decide) (by decide))).trans (V_main_arg2 m c)
    · exact (Pipeline.RDat.FramePost.arr_in hc c 1 rfl).trans (V_main_arg3 m c)
    · exact ((hc c).2 main_arg4 (Pipeline.mem_restRefs_of main_arg4 (by decide) (by decide))).trans (V_main_arg4 m c)
    · exact (Pipeline.RDat.FramePost.arr_in hc c 2 rfl).trans (V_main_arg5 m c)
    · exact ((hc c).2 main_arg6 (Pipeline.mem_restRefs_of main_arg6 (by decide) (by decide))).trans (V_main_arg6 m c)
    · exact (Pipeline.RDat.FramePost.arr_in hc c 3 rfl).trans (V_main_arg7 m c)
    · exact ((hc c).2 main_arg8 (Pipeline.mem_restRefs_of main_arg8 (by decide) (by decide))).trans (V_main_arg8 m c)
    · exact (Pipeline.RDat.FramePost.arr_in hc c 4 rfl).trans (V_main_arg9 m c), h.2⟩) (run_main m ρ)

end Cert.Kernel.Hand

end
-- ==== Proof.KernelIdealFrame.lean ====
/-
  The frame of `KernelIdeal`: @main runs to its end from any memory, the argument arrays end unchanged and every counter is
  back at zero. The kernel's body is run by `sl_exec`; the loop over the head groups is the generated one, the loop over
  the token blocks of the last grid point has the invariant stated here. Every window is forgotten: nothing is said of
  what the kernel leaves in its results.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## The loop over the token blocks -/

set_option warn.classDefReducibility false in
/-- Before every trip of the last phase's loop over the token blocks: the value scales and the carried outputs and maxima
    at what they were, the two result blocks and the staging buffer at some contents. -/
@[sl_loop] def loopInv_k0_t2 (c : Dev nD) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole) (k0_h1 : k0_cond1 i = 1#1)
    (X4 : BufTy.Contents (Elt F) arg4.view.ty) (X14 : BufTy.Contents (Elt F) arg14.view.ty) (X15 : BufTy.Contents (Elt F) arg15.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) k0_h1 where
  inv := fun _ _ => iprop((arg4.view.loc (c : Thread nD τ) ↦[arg4.view.set]{fullShare} X4) ∗ (arg14.view.loc (c : Thread nD τ) ↦[arg14.view.set]{fullShare} X14) ∗ (arg15.view.loc (c : Thread nD τ) ↦[arg15.view.set]{fullShare} X15) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step := fun k acc => by
    unfold k0_t2_body
    iintro ⟨H4, H14, H15, ⟨%f12, H12⟩, ⟨%f13, H13⟩, ⟨%f19, H19⟩⟩
    sl_exec
    sl_step
    isplitl [H4]; · iexact H4
    isplitl [H14]; · iexact H14
    isplitl [H15]; · iexact H15
    isplitl [H12]; · iexists _; iexact H12
    isplitl [H13]; · iexists _; iexact H13
    iexists _; iexact H19

/-! ## The body, run once -/

/-- The body's triple, for any continuation: from every window and every scratch buffer at some contents, the kernel runs to
    its return and hands them all back at some contents. -/
theorem kernelRun (c : Dev nD) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) Set.univ (cc0_vs_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_vs_attn_eq_skeleton]; unfold cc0_vs_attn_skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  by_cases h1 : k0_cond1 i = 1#1
  all_goals
  sl_exec
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

/-! ## The proof data and the body obligation -/

/-- Every window is forgotten. -/
def forgets0 : Fin 12 → Bool := fun _ => true

variable (m : (ℓ : Loc nD τ sig) → Buf (Elt F) ℓ) (ρ : Dev nD → PrngReg)

/-- The proof data on core `c`: the arrays as the region finds them; what the body leaves unnamed; the class's invariant; full
    shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between the points, conjunct by conjunct: each scratch buffer at some contents, the generator register at
    some state. -/
theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d))
def bodyPost (c : Dev nD) (t : Fin cfg0.N) : sProp 𝕄 :=
  iprop((dats m 0 c).Φ t.succ ∗ (dats m 0 c).owesAt () t.succ ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4, S5, S6⟩, Hg⟩, HO, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) _)
  isplitl [W0]; · iexists _; iexact W0
  isplitl [W1]; · iexists _; iexact W1
  isplitl [W2]; · iexists _; iexact W2
  isplitl [W3]; · iexists _; iexact W3
  isplitl [W4]; · iexists _; iexact W4
  isplitl [W5]; · iexists _; iexact W5
  isplitl [W6]; · iexists _; iexact W6
  isplitl [W7]; · iexists _; iexact W7
  isplitl [W8]; · iexists _; iexact W8
  isplitl [W9]; · iexists _; iexact W9
  isplitl [W10]; · iexists _; iexact W10
  isplitl [W11]; · iexists _; iexact W11
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨W0, W1, W2, W3, W4, W5, W6, W7, W8, W9, W10, W11, S0, S1, S2, S3, S4, S5, S6⟩
  isplitl [S0 S1 S2 S3 S4 S5 S6 Hg]
  · isplitl [S0 S1 S2 S3 S4 S5 S6]
    · skip
      isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexact W11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the windows forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters every weakly fair execution of @main terminates; every final state has the input
    windows' arrays and the arrays of no window at their contents when the region is entered, and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, its argument arrays end unchanged and every counter ends at zero. -/
theorem frame :
    θ_run (defs (F := F)) (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => by
    have hc := h.1
    refine ⟨?_, ?_, ?_, ?_, ?_, ?_, ?_, ?_, ?_, ?_⟩
    · exact ((hc c).2 main_arg0 (Pipeline.mem_restRefs_of main_arg0 (by decide) (by decide))).trans (V_main_arg0 m c)
    · exact (Pipeline.RDat.FramePost.arr_in hc c 0 rfl).trans (V_main_arg1 m c)
    · exact ((hc c).2 main_arg2 (Pipeline.mem_restRefs_of main_arg2 (by decide) (by decide))).trans (V_main_arg2 m c)
    · exact (Pipeline.RDat.FramePost.arr_in hc c 1 rfl).trans (V_main_arg3 m c)
    · exact ((hc c).2 main_arg4 (Pipeline.mem_restRefs_of main_arg4 (by decide) (by decide))).trans (V_main_arg4 m c)
    · exact (Pipeline.RDat.FramePost.arr_in hc c 2 rfl).trans (V_main_arg5 m c)
    · exact ((hc c).2 main_arg6 (Pipeline.mem_restRefs_of main_arg6 (by decide) (by decide))).trans (V_main_arg6 m c)
    · exact (Pipeline.RDat.FramePost.arr_in hc c 3 rfl).trans (V_main_arg7 m c)
    · exact ((hc c).2 main_arg8 (Pipeline.mem_restRefs_of main_arg8 (by decide) (by decide))).trans (V_main_arg8 m c)
    · exact (Pipeline.RDat.FramePost.arr_in hc c 4 rfl).trans (V_main_arg9 m c), h.2⟩) (run_main m ρ)

end Cert.KernelIdeal.Hand

end
-- ==== Proof.Scale.lean ====
module

public import Idealize.ShloMosaic.Lib.Pointwise

/-! # Powers of two, and the exponent of a token's scale

The reference takes the exponent of the scale from a logarithm. The kernel finds it by comparing with powers of two that
it builds from words. This file shows that both give the same power of two. -/

@[expose] public section

noncomputable section

open Idealize.ShloMosaic

namespace Cert.Attn

/-- The word whose exponent field is `n` and whose fraction is zero denotes `2 ^ (n - 127)`. -/
theorem ofBits_pow2 (b : BitVec 32) (n : ℕ) (h1 : 1 ≤ n) (h2 : n ≤ 254) (hb : b.toNat = n * 2 ^ 23) :
    Ideal.ofBits .f32 b = (((2 : ℝ) ^ ((n : ℤ) - 127) : ℝ) : EReal) := by
  have hneg : (b.extractLsb' 31 1 == 1#1) = false := by
    rw [beq_eq_false_iff_ne]
    intro h
    have := congrArg BitVec.toNat h
    rw [BitVec.extractLsb'_toNat, hb, Nat.shiftRight_eq_div_pow] at this
    simp at this
    omega
  have hex : (b.extractLsb' 23 8).toNat = n := by
    rw [BitVec.extractLsb'_toNat, hb, Nat.shiftRight_eq_div_pow]
    omega
  have hfr : (b.extractLsb' 0 23).toNat = 0 := by
    rw [BitVec.extractLsb'_toNat, hb, Nat.shiftRight_eq_div_pow]
    omega
  show Ideal.ieee 8 23 b = _
  unfold Ideal.ieee
  simp only [hneg, hex, hfr]
  rw [if_neg (by norm_num; omega), if_neg (by omega)]
  congr 1
  have : ((2 : ℝ) ^ ((n : ℤ) - 127)) = (2 : ℝ) ^ (23 : ℤ) * (2 : ℝ) ^ ((n : ℤ) - 127 - 23) := by
    rw [← zpow_add₀ two_ne_zero]; congr 1; ring
  rw [this]
  norm_num

theorem ofBits_word (b : BitVec 32) (hb : b.toNat = 0) : Ideal.ofBits .f32 b = 0 := by
  obtain rfl : b = 0#32 := BitVec.eq_of_toNat_eq (by simpa using hb)
  exact Ideal.ofBits_zero_f32

theorem half_eq : Ideal.ofBits FTy.f32 1056964608#32 = ((1 / 2 : ℝ) : EReal) := by
  rw [ofBits_pow2 _ 126 (by norm_num) (by norm_num) (by decide)]
  norm_num

end Cert.Attn

end
-- ==== Proof.Masks.lean ====
module

public import proofs.«01_k».proof.Proof.Gen.KernelIdeal.Loops
public import proofs.«01_k».proof.Proof.Scale
public import Idealize.ShloMosaic.Lib.Pointwise
public import Idealize.ShloMosaic.Lib.VecWindow

/-! # The mask tables of one head

The kernel turns a head's list of vertical keys and its list of slash offsets into two tables. A listed position reads
`⊤` and any other position reads `⊥`, so a minimum with a table's entry either keeps a score or hides it. This file
states what each table holds. -/

@[expose] public section

set_option maxRecDepth 16384

noncomputable section

open Idealize.ShloMosaic Idealize.SL.Sem

namespace Cert.Attn

/-- Position `p` is one of the first `c` entries of a list of words. -/
def Listed {N : ℕ} (row : Fin N → BitVec 32) (c : BitVec 32) (p : ℕ) : Prop :=
  ∃ x : Fin N, (BitVec.ofNat 32 x.val).slt c = true ∧ row x = BitVec.ofNat 32 p

open Classical in
/-- `⊤` where a proposition holds and `⊥` where it does not. -/
def cap (P : Prop) : EReal := if P then ⊤ else ⊥

theorem min_cap (x : EReal) (P : Prop) [Decidable P] : min x (cap P) = if P then x else ⊥ := by
  unfold cap; split_ifs <;> simp

theorem max_cap (P Q : Prop) : max (cap P) (cap Q) = cap (P ∨ Q) := by
  unfold cap; by_cases P <;> by_cases Q <;> simp [*]

theorem cap_congr {P Q : Prop} (h : P ↔ Q) : cap P = cap Q := by rw [propext h]

/-- A word's high part and low part name its position. -/
theorem word_split (w : BitVec 32) (n l : ℕ) (hn : n < 8) (hl : l < 128) :
    (BitVec.ofNat 32 n = w.sshiftRight 7 ∧ BitVec.ofNat 32 l = w &&& 127#32) ↔ w = BitVec.ofNat 32 (128 * n + l) := by
  have e1 : (w &&& 127#32).toNat = w.toNat % 128 := by
    rw [BitVec.toNat_and]
    exact Nat.and_two_pow_sub_one_eq_mod w.toNat 7
  have e2 : (w.sshiftRight 7).toInt = w.toInt / 128 := by
    rw [BitVec.toInt_sshiftRight, Int.shiftRight_eq_div_pow]; rfl
  have e3 := BitVec.toInt_eq_toNat_cond w
  have hw := w.isLt
  constructor
  · rintro ⟨h1, h2⟩
    have h1' : ((BitVec.ofNat 32 n).toInt : ℤ) = w.toInt / 128 := by rw [h1, e2]
    have h2' : (BitVec.ofNat 32 l).toNat = w.toNat % 128 := by rw [h2, e1]
    rw [BitVec.toInt_eq_toNat_cond, BitVec.toNat_ofNat, Nat.mod_eq_of_lt (by omega : n < 2 ^ 32)] at h1'
    rw [BitVec.toNat_ofNat, Nat.mod_eq_of_lt (by omega : l < 2 ^ 32)] at h2'
    apply BitVec.eq_of_toNat_eq
    rw [BitVec.toNat_ofNat, Nat.mod_eq_of_lt (by omega : 128 * n + l < 2 ^ 32)]
    split_ifs at e3 h1' <;> omega
  · intro h
    have h' : w.toNat = 128 * n + l := by
      rw [h, BitVec.toNat_ofNat, Nat.mod_eq_of_lt (by omega : 128 * n + l < 2 ^ 32)]
    constructor
    · apply BitVec.eq_of_toInt_eq
      rw [e2, BitVec.toInt_eq_toNat_cond, BitVec.toNat_ofNat, Nat.mod_eq_of_lt (by omega : n < 2 ^ 32)]
      split_ifs at e3 ⊢ <;> omega
    · apply BitVec.eq_of_toNat_eq
      rw [e1, BitVec.toNat_ofNat, Nat.mod_eq_of_lt (by omega : l < 2 ^ 32)]
      omega

open Classical in
/-- One entry of a one-hot table. -/
theorem hot_eq (a b : BitVec 32) :
    FloatOps.sitofp (F := Ideal) FTy.f32 (BitVec.setWidth 32 (IntOp.cmpi CmpIPredicate.eq a b)) = if a = b then (1 : EReal) else 0 := by
  by_cases h : a = b
  · subst h; simp [IntOp.cmpi, FloatOps.sitofp]
  · have : (a == b) = false := by simp [h]
    simp [IntOp.cmpi, FloatOps.sitofp, this, h]

/-- The product of the two one-hot tables, taken over a list, is above a half exactly at the listed positions. -/
theorem member_sum {N : ℕ} (row : Fin N → BitVec 32) (c : BitVec 32) (n : Fin 8) (l : Fin 128) :
    (Ideal.ofBits FTy.f32 1056964608#32 <
      ∑ x : Fin N, (FloatOps.sitofp (F := Ideal) FTy.f32 (BitVec.setWidth 32
            (IntOp.cmpi CmpIPredicate.eq (BitVec.ofNat 32 ↑n)
              (Scalar.select (IntOp.cmpi CmpIPredicate.slt (BitVec.ofNat 32 ↑x) c)
                (IntOp.shrsi ArithUnit.vector (row x) 7#32) 4294967295#32))) *
        FloatOps.sitofp (F := Ideal) FTy.f32 (BitVec.setWidth 32
            (IntOp.cmpi CmpIPredicate.eq (BitVec.ofNat 32 ↑l) (IntOp.andi (row x) 127#32))) : EReal)) ↔
    Listed row c (128 * n.val + l.val) := by
  classical
  have term : ∀ x : Fin N, (FloatOps.sitofp (F := Ideal) FTy.f32 (BitVec.setWidth 32
            (IntOp.cmpi CmpIPredicate.eq (BitVec.ofNat 32 ↑n)
              (Scalar.select (IntOp.cmpi CmpIPredicate.slt (BitVec.ofNat 32 ↑x) c)
                (IntOp.shrsi ArithUnit.vector (row x) 7#32) 4294967295#32))) *
        FloatOps.sitofp (F := Ideal) FTy.f32 (BitVec.setWidth 32
            (IntOp.cmpi CmpIPredicate.eq (BitVec.ofNat 32 ↑l) (IntOp.andi (row x) 127#32))) : EReal) =
      if (BitVec.ofNat 32 x.val).slt c = true ∧ row x = BitVec.ofNat 32 (128 * n.val + l.val) then 1 else 0 := by
    intro x
    rw [hot_eq, hot_eq]
    have hs : IntOp.shrsi ArithUnit.vector (row x) 7#32 = (row x).sshiftRight 7 := by
      unfold IntOp.shrsi; rw [if_pos (by decide)]; rfl
    have hsplit := word_split (row x) n.val l.val n.isLt l.isLt
    rw [hs]
    by_cases hc : (BitVec.ofNat 32 x.val).slt c = true
    · have e : Scalar.select (IntOp.cmpi CmpIPredicate.slt (BitVec.ofNat 32 ↑x) c) ((row x).sshiftRight 7) 4294967295#32
          = (row x).sshiftRight 7 := by
        simp [IntOp.cmpi, hc, Scalar.select]
      rw [e]
      simp only [IntOp.andi, hc, true_and, ← hsplit]
      split_ifs <;> simp_all
    · have e : Scalar.select (IntOp.cmpi CmpIPredicate.slt (BitVec.ofNat 32 ↑x) c) ((row x).sshiftRight 7) 4294967295#32
          = 4294967295#32 := by
        simp [IntOp.cmpi, hc, Scalar.select]
      rw [e]
      have hne : ¬ (BitVec.ofNat 32 n.val = 4294967295#32) := by
        intro h
        have := congrArg BitVec.toNat h
        rw [BitVec.toNat_ofNat] at this
        have := n.isLt
        simp at *
        omega
      simp [hne, hc]
  rw [Finset.sum_congr rfl fun x _ => term x, half_eq]
  constructor
  · intro h
    by_contra hno
    rw [Finset.sum_eq_zero] at h
    · have : (0 : EReal) ≤ ((1 / 2 : ℝ) : EReal) := EReal.coe_nonneg.mpr (by norm_num)
      exact absurd h (not_lt.mpr this)
    · intro x _
      rw [if_neg]
      exact fun hx => hno ⟨x, hx⟩
  · rintro ⟨x, hx⟩
    have h1 : (1 : EReal) ≤ ∑ x : Fin N, if (BitVec.ofNat 32 x.val).slt c = true ∧ row x = BitVec.ofNat 32 (128 * n.val + l.val) then (1 : EReal) else 0 := by
      have := Finset.single_le_sum (f := fun x : Fin N => if (BitVec.ofNat 32 x.val).slt c = true ∧ row x = BitVec.ofNat 32 (128 * n.val + l.val) then (1 : EReal) else 0)
        (fun i _ => by split_ifs <;> simp) (Finset.mem_univ x)
      simpa [hx] using this
    refine lt_of_lt_of_le ?_ h1
    rw [← EReal.coe_one]
    exact EReal.coe_lt_coe_iff.mpr (by norm_num)

end Cert.Attn

namespace Cert.KernelIdeal.Hand

open Cert.KernelIdeal Cert.KernelIdeal.Gen Cert.Attn

theorem shown_eq : Named.named (F := Ideal) (φ := .f32) κ "shown" 1900671690#32 = ⊤ := IdealRules.named_const.ideal_named_scalar _ _ _ _ rfl
theorem hidden_eq : Named.named (F := Ideal) (φ := .f32) κ "hidden" 4048155338#32 = ⊥ := IdealRules.named_const.ideal_named_scalar _ _ _ _ rfl
theorem log2e_eq : Named.named (F := Ideal) (φ := .f32) κ "log2e" 0x3FB8AA3B#32 = (((Real.log 2)⁻¹ : ℝ) : EReal) := IdealRules.named_const.ideal_named_scalar _ _ _ _ rfl

open Classical in
theorem cap_if (P : Prop) [Decidable P] :
    (if P then Named.named (F := Ideal) (φ := .f32) κ "shown" 1900671690#32 else Named.named (F := Ideal) (φ := .f32) κ "hidden" 4048155338#32) = cap P := by
  rw [shown_eq, hidden_eq]; unfold cap; split_ifs <;> rfl

/-- The table of the vertical keys, as rows of 128. -/
theorem vertical_table (v : Vec Ideal S1x1x1x220 .i32) (c : Elt Ideal .i32) (n : Fin 8) (l : Fin 128) :
    k0_pay325 (F := Ideal) (k0_pay10 v c) (ix2 n l) = cap (Listed (fun x => v (ix4 0 0 0 x)) c (128 * n.val + l.val)) := by
  pointwise [k0_pay325, k0_pay10]
  rw [cap_if]
  exact cap_congr (member_sum (fun x => v (ix4 0 0 0 x)) c n l)

/-- The table of the slash offsets, as rows of 128. -/
theorem slash_table (v : Vec Ideal S1x1x1x400 .i32) (c : Elt Ideal .i32) (n : Fin 8) (l : Fin 128) :
    k0_pay14 (F := Ideal) (k0_pay11 (F := Ideal) v) (k0_pay12 (F := Ideal) v c) 127#32 (ix2 n l)
      = cap (Listed (fun x => v (ix4 0 0 0 x)) c (128 * n.val + l.val)) := by
  pointwise [k0_pay14, k0_pay11, k0_pay12]
  rw [cap_if]
  exact cap_congr (member_sum (fun x => v (ix4 0 0 0 x)) c n l)

end Cert.KernelIdeal.Hand

end
-- ==== Proof.MaskTables.lean ====
module

public import proofs.«01_k».proof.Proof.Masks
public import Idealize.ShloMosaic.Lib.Ring

/-! # The mask tables in scratch memory

Each trip over the heads leaves two tables in scratch. One holds, for every key, whether it is a listed vertical key. The
other holds the slash table turned so that a row is a key and a lane is a token. This file states what a load of either
table reads. -/

@[expose] public section

set_option maxRecDepth 16384

noncomputable section

open Idealize.ShloMosaic Idealize.SL.Sem

namespace Cert.KernelIdeal.Hand

open Cert.KernelIdeal Cert.KernelIdeal.Gen Cert.Attn

/-- A load of a rectangle of pieces that all agree with `G` and cover the view reads `G`. -/
theorem readCov_apply {sig : RefSig} {κ : Kind} {sp : Space} {s : Shape} {e : EltTy} (v : View sig κ sp s e)
    (L : List (View.Piece (Elt Ideal) s e)) (G : s.Idx → Elt Ideal e)
    (hL : ∀ p ∈ L, ∀ x : p.1.shape.Idx, p.2 x = G (p.1.emb x)) (hc : ∀ y : s.Idx, ∃ p ∈ L, y ∈ p.1.set)
    {off size : Fin s.rank → ℕ} (inb : ∀ a, off a + size a ≤ s.size a) (y : (Rect.unit off size inb).shape.Idx) :
    v.readCov L (Rect.unit off size inb).toLoadRect y = G ((Rect.unit off size inb).emb y) := by
  unfold View.readCov
  rw [View.readAt_unit v _ inb rfl inb]
  exact View.read_writes_apply_of_pieces v _ G L hL _ (hc _)

/-- The slash offsets of head `k` of the block. -/
def sRow (arg8 : Memref sig Kind.tc Space.vmem S1x1x4x400 EltTy.i32) (X8 : BufTy.Contents (Elt Ideal) arg8.view.ty)
    (k : Fin k0_t1_loop.trips) : Vec Ideal S1x1x1x400 .i32 :=
  View.readAt (Elt Ideal) arg8.view (Rect.unit (s := S1x1x4x400) (k0_off3 k) S1x1x1x400.size (k0_off3_inb k)).toLoadRect X8

/-- The vertical keys of head `k` of the block. -/
def vRow (arg7 : Memref sig Kind.tc Space.vmem S1x1x4x220 EltTy.i32) (X7 : BufTy.Contents (Elt Ideal) arg7.view.ty)
    (k : Fin k0_t1_loop.trips) : Vec Ideal S1x1x1x220 .i32 :=
  View.readAt (Elt Ideal) arg7.view (Rect.unit (s := S1x1x4x220) (k0_off1 k) S1x1x1x220.size (k0_off1_inb k)).toLoadRect X7

/-- A count of head `k` of the block. -/
def count (i : grid0.Coords) (arg : Memref sig Kind.tc Space.smem S2x32 EltTy.i32) (X : BufTy.Contents (Elt Ideal) arg.view.ty)
    (k : Fin k0_t1_loop.trips) : BitVec 32 :=
  View.readAt (Elt Ideal) arg.view (Rect.unit (s := S2x32) (k0_off2 i k) S1x1.size (k0_off2_inb i k)).toLoadRect X
    (Shape.Idx.first (Nat.lt_of_lt_of_eq Nat.one_pos numel1_S1x1.symm))

/-- Token minus key `p` is a listed slash offset of head `k`. -/
def SlashAt (i : grid0.Coords) (arg6 : Memref sig Kind.tc Space.smem S2x32 EltTy.i32)
    (arg8 : Memref sig Kind.tc Space.vmem S1x1x4x400 EltTy.i32) (X6 : BufTy.Contents (Elt Ideal) arg6.view.ty)
    (X8 : BufTy.Contents (Elt Ideal) arg8.view.ty) (k : Fin k0_t1_loop.trips) (p : ℕ) : Prop :=
  Listed (fun x : Fin 400 => sRow arg8 X8 k (ix4 0 0 0 x)) (count i arg6 X6 k) p

/-- Key `p` is a listed vertical key of head `k`. -/
def VerticalAt (i : grid0.Coords) (arg5 : Memref sig Kind.tc Space.smem S2x32 EltTy.i32)
    (arg7 : Memref sig Kind.tc Space.vmem S1x1x4x220 EltTy.i32) (X5 : BufTy.Contents (Elt Ideal) arg5.view.ty)
    (X7 : BufTy.Contents (Elt Ideal) arg7.view.ty) (k : Fin k0_t1_loop.trips) (p : ℕ) : Prop :=
  Listed (fun x : Fin 220 => vRow arg7 X7 k (ix4 0 0 0 x)) (count i arg5 X5 k) p

section
variable (i : grid0.Coords)
  (arg5 arg6 : Memref sig Kind.tc Space.smem S2x32 EltTy.i32)
  (arg7 : Memref sig Kind.tc Space.vmem S1x1x4x220 EltTy.i32)
  (arg8 : Memref sig Kind.tc Space.vmem S1x1x4x400 EltTy.i32)
  (arg16 : Memref sig Kind.tc Space.vmem S1152x128 EltTy.f32)
  (arg17 : Memref sig Kind.tc Space.vmem S10x128 EltTy.f32)
  (arg18 : Memref sig Kind.tc Space.vmem S1024x128 EltTy.f32)
  (v12 v13 : IVec S8x128 32)
  (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty)
  (k : Fin k0_t1_loop.trips)

/-- The slash table with two hidden rows before it. -/
def paddedSlash (y : S10x128.Idx) : EReal :=
  cap (2 ≤ (y 0).val ∧ SlashAt i arg6 arg8 X6 X8 k (128 * ((y 0).val - 2) + (y 1).val))

theorem digits_eq : trip_k0_t1.sl.v52 (F := Ideal) arg8 X8 k = k0_pay11 (F := Ideal) (sRow arg8 X8 k) := rfl

theorem rows_eq : trip_k0_t1.sl.v62 (F := Ideal) i arg6 arg8 X6 X8 k = k0_pay12 (F := Ideal) (sRow arg8 X8 k) (count i arg6 X6 k) := rfl

theorem paddedSlash_table (a : Fin 8) (b : Fin 128) (y : S10x128.Idx) (h0 : (y 0).val = 2 + a.val) (h1 : (y 1).val = b.val) :
    k0_pay14 (F := Ideal) (trip_k0_t1.sl.v52 (F := Ideal) arg8 X8 k) (trip_k0_t1.sl.v62 (F := Ideal) i arg6 arg8 X6 X8 k) 127#32 (ix2 a b)
      = paddedSlash i arg6 arg8 X6 X8 k y := by
  rw [digits_eq, rows_eq, slash_table (sRow arg8 X8 k) (count i arg6 X6 k) a b]
  unfold paddedSlash
  refine cap_congr ?_
  rw [h0, h1, Nat.add_sub_cancel_left]
  exact ⟨fun h => ⟨by omega, h⟩, fun h => h.2⟩

theorem paddedSlash_pieces : ∀ p ∈ trip_k0_t1.sl.HW_arg17_2 (F := Ideal) i arg6 arg8 X6 X8 k, ∀ x : p.1.shape.Idx,
    p.2 x = paddedSlash i arg6 arg8 X6 X8 k (p.1.emb x) := by
  unfold trip_k0_t1.sl.HW_arg17_2
  refine List.forall_mem_cons.2 ⟨?_, List.forall_mem_cons.2 ⟨?_, fun _ h => absurd h List.not_mem_nil⟩⟩
  · intro x
    have h := paddedSlash_table i arg6 arg8 X6 X8 k (x 0) (x 1) ((Rect.unit (s := S10x128) ![2, 0] S8x128.size inb_S10x128_S8x128_2_0).emb x)
      (by show 2 + 1 * (x 0).val = _; omega) (by show 0 + 1 * (x 1).val = _; omega)
    rw [← eq_ix2 (n0 := 8) (n1 := 128) x] at h
    dsimp only
    exact h
  · intro x
    have h0 : ((Rect.unit (s := S10x128) ![0, 0] S2x128.size inb_S10x128_S2x128_0_0).emb x 0).val = (x 0).val := by
      show 0 + 1 * (x 0).val = _; omega
    have hx : (x 0).val < 2 := (x 0).isLt
    have hb : paddedSlash i arg6 arg8 X6 X8 k ((Rect.unit (s := S10x128) ![0, 0] S2x128.size inb_S10x128_S2x128_0_0).emb x) = ⊥ := by
      unfold paddedSlash cap
      rw [if_neg]
      rw [h0]; omega
    refine Eq.trans ?_ hb.symm
    obtain ⟨a, b, rfl⟩ : ∃ (a : Fin 2) (b : Fin 128), x = ix2 a b := ⟨x 0, x 1, eq_ix2 x⟩
    show k0_pay13 (F := Ideal) (ix2 a b) = ⊥
    pointwise [k0_pay13]
    exact hidden_eq

theorem paddedSlash_cover (y : S10x128.Idx) :
    ∃ p ∈ trip_k0_t1.sl.HW_arg17_2 (F := Ideal) i arg6 arg8 X6 X8 k, y ∈ p.1.set := by
  unfold trip_k0_t1.sl.HW_arg17_2
  by_cases h : 2 ≤ (y 0).val
  · refine ⟨_, List.mem_cons_self, ?_⟩
    rw [Rect.mem_set_unit]
    intro a
    match a with
    | ⟨0, _⟩ => exact ⟨h, by have := (y 0).isLt; exact this⟩
    | ⟨1, _⟩ => exact ⟨Nat.zero_le _, by have := (y 1).isLt; exact this⟩
  · refine ⟨_, List.mem_cons_of_mem _ List.mem_cons_self, ?_⟩
    rw [Rect.mem_set_unit]
    intro a
    match a with
    | ⟨0, _⟩ => exact ⟨Nat.zero_le _, by show (y 0).val < 0 + 2; omega⟩
    | ⟨1, _⟩ => exact ⟨Nat.zero_le _, by have := (y 1).isLt; exact this⟩

/-- Row `r` of the padded slash table, as the kernel loads it. -/
def slashRow (r : ℕ) (inb : ∀ a, (![r, 0] : Fin 2 → ℕ) a + S1x128.size a ≤ S10x128.size a) : Vec Ideal S1x128 .f32 :=
  arg17.view.readCov (trip_k0_t1.sl.HW_arg17_2 (F := Ideal) i arg6 arg8 X6 X8 k) (Rect.unit (s := S10x128) ![r, 0] S1x128.size inb).toLoadRect

theorem slashRow_apply (r : ℕ) (inb) (l : Fin 128) :
    slashRow i arg6 arg8 arg17 X6 X8 k r inb (ix2 0 l) = cap (2 ≤ r ∧ SlashAt i arg6 arg8 X6 X8 k (128 * (r - 2) + l.val)) := by
  unfold slashRow
  refine (readCov_apply arg17.view _ (paddedSlash i arg6 arg8 X6 X8 k) (paddedSlash_pieces i arg6 arg8 X6 X8 k)
    (paddedSlash_cover i arg6 arg8 X6 X8 k) inb (ix2 0 l)).trans (cap_congr ?_)
  have h0 : ((Rect.unit (s := S10x128) ![r, 0] S1x128.size inb).emb (ix2 0 l) 0).val = r := by
    show r + 1 * 0 = _; omega
  have h1 : ((Rect.unit (s := S10x128) ![r, 0] S1x128.size inb).emb (ix2 0 l) 1).val = l.val := by
    show 0 + 1 * l.val = _; omega
  show (2 ≤ ((Rect.unit (s := S10x128) ![r, 0] S1x128.size inb).emb (ix2 0 l) 0).val ∧ SlashAt i arg6 arg8 X6 X8 k
    (128 * (((Rect.unit (s := S10x128) ![r, 0] S1x128.size inb).emb (ix2 0 l) 0).val - 2) + ((Rect.unit (s := S10x128) ![r, 0] S1x128.size inb).emb (ix2 0 l) 1).val)) ↔ _
  rw [h0, h1]

/-- Two rows of the padded slash table, turned by `s` lanes in every sublane and one more lane per sublane, and joined. -/
def turned (s : BitVec 32) (rowA rowB : Vec Ideal S1x128 .f32) : FVec Ideal S8x128 .f32 :=
  shapeCast S8x128 (select (cmpi .sge v12 (addi (broadcast S8x128 s) v13))
    (dynamicRotate 1 s (some (1, 0)) (broadcastTo S8x128 (shapeCast S1x128 rowB shapeCasts_S1x128_S1x128) broadcasts_S1x128_S8x128) rotates_S8x128_d1s1a0)
    (dynamicRotate 1 s (some (1, 0)) (broadcastTo S8x128 (shapeCast S1x128 rowA shapeCasts_S1x128_S1x128) broadcasts_S1x128_S8x128) rotates_S8x128_d1s1a0))
    shapeCasts_S8x128_S8x128

theorem turned_apply (q : ℕ) (hq : q < 16) (rowA rowB : Vec Ideal S1x128 .f32) (s : Fin 8) (l : Fin 128)
    (h12 : v12 (ix2 s l) = BitVec.ofNat 32 l.val) (h13 : v13 (ix2 s l) = BitVec.ofNat 32 s.val) :
    turned v12 v13 (BitVec.ofNat 32 (8 * q)) rowA rowB (ix2 s l) =
      if 8 * q + s.val ≤ l.val then rowB (ix2 0 ⟨(l.val + 128 - (8 * q + s.val)) % 128, Nat.mod_lt _ (by norm_num)⟩)
      else rowA (ix2 0 ⟨(l.val + 128 - (8 * q + s.val)) % 128, Nat.mod_lt _ (by norm_num)⟩) := by
  unfold turned
  pointwise
  rw [h12, h13]
  have hs := s.isLt
  have hl := l.isLt
  have e1 : (BitVec.ofNat 32 (8 * q)).toNat = 8 * q := by rw [BitVec.toNat_ofNat]; omega
  have e2 : IntOp.cmpi CmpIPredicate.sge (BitVec.ofNat 32 l.val) (IntOp.addi (BitVec.ofNat 32 (8 * q)) (BitVec.ofNat 32 s.val))
      = BitVec.ofBool (decide (8 * q + s.val ≤ l.val)) := by
    simp only [IntOp.cmpi, IntOp.addi, ← BitVec.ofNat_add]
    congr 1
    rw [BitVec.sle_eq_decide]
    congr 1
    have hi : ∀ n : ℕ, n < 256 → (BitVec.ofNat 32 n).toInt = n := fun n hn => by
      rw [BitVec.toInt_eq_toNat_of_lt] <;> rw [BitVec.toNat_ofNat] <;> omega
    rw [hi _ (by omega), hi _ (by omega)]
    simp only [eq_iff_iff]
    omega
  rw [e2]
  have e3 : (l.val + 128 - (8 * q + s.val) % 128) % 128 = (l.val + 128 - (8 * q + s.val)) % 128 := by omega
  simp only [Nat.mod_eq_of_lt (show 8 * q < 4294967296 by omega), e1, e3]
  by_cases hc : 8 * q + s.val ≤ l.val <;> simp [hc, Scalar.select]

/-- The turned slash table: row `u`, lane `l` belongs to the difference `896 + l - u`. -/
def turnedSlash (y : S1152x128.Idx) : EReal :=
  cap ((y 0).val ≤ 896 + (y 1).val ∧ SlashAt i arg6 arg8 X6 X8 k (896 + (y 1).val - (y 0).val))

theorem turned_piece (h12 : ∀ y, v12 y = BitVec.ofNat 32 (y 1).val) (h13 : ∀ y, v13 y = BitVec.ofNat 32 (y 0).val)
    (q r : ℕ) (hq : q < 16) (hr : r ≤ 8) (inbA inbB) (u : ℕ) (hu : u = 128 * (8 - r) + 8 * q)
    (inb : ∀ a, (![u, 0] : Fin 2 → ℕ) a + S8x128.size a ≤ S1152x128.size a) (w : FVec Ideal S8x128 .f32)
    (hw : w = turned v12 v13 (BitVec.ofNat 32 (8 * q)) (slashRow i arg6 arg8 arg17 X6 X8 k r inbA) (slashRow i arg6 arg8 arg17 X6 X8 k (r + 1) inbB))
    (x : (Rect.unit (s := S1152x128) ![u, 0] S8x128.size inb).shape.Idx) :
    w x = turnedSlash i arg6 arg8 X6 X8 k ((Rect.unit (s := S1152x128) ![u, 0] S8x128.size inb).emb x) := by
  obtain ⟨s, l, rfl⟩ : ∃ (s : Fin 8) (l : Fin 128), x = ix2 s l := ⟨x 0, x 1, eq_ix2 x⟩
  rw [hw, turned_apply v12 v13 q hq _ _ s l (h12 _) (h13 _), slashRow_apply, slashRow_apply]
  unfold turnedSlash
  have h0 : ((Rect.unit (s := S1152x128) ![u, 0] S8x128.size inb).emb (ix2 s l) 0).val = u + s.val := by
    show u + 1 * s.val = _; omega
  have h1 : ((Rect.unit (s := S1152x128) ![u, 0] S8x128.size inb).emb (ix2 s l) 1).val = l.val := by
    show 0 + 1 * l.val = _; omega
  rw [h0, h1]
  have hs := s.isLt
  have hl := l.isLt
  have e : ∀ a b : ℕ, a = b → (SlashAt i arg6 arg8 X6 X8 k a ↔ SlashAt i arg6 arg8 X6 X8 k b) := fun a b h => by rw [h]
  dsimp only
  split_ifs with hc
  · refine cap_congr ⟨fun h => ⟨by omega, (e _ _ (by omega)).1 h.2⟩, fun h => ⟨by omega, (e _ _ (by omega)).1 h.2⟩⟩
  · refine cap_congr ⟨fun h => ⟨by omega, (e _ _ (by omega)).1 h.2⟩, fun h => ⟨by omega, (e _ _ (by omega)).1 h.2⟩⟩

theorem turnedSlash_pieces (h12 : ∀ y, v12 y = BitVec.ofNat 32 (y 1).val) (h13 : ∀ y, v13 y = BitVec.ofNat 32 (y 0).val) :
    ∀ p ∈ trip_k0_t1.sl.HW_arg16_144 (F := Ideal) i arg6 arg8 arg17 v12 v13 X6 X8 k, ∀ x : p.1.shape.Idx,
      p.2 x = turnedSlash i arg6 arg8 X6 X8 k (p.1.emb x) := by
  unfold trip_k0_t1.sl.HW_arg16_144
  refine List.forall_mem_cons.2 ⟨fun x => turned_piece i arg6 arg8 arg17 v12 v13 X6 X8 k h12 h13 15 8 (by decide) (by decide) (by decide) (by decide) 120 rfl (by decide) _ rfl x, ?_⟩
  refine List.forall_mem_cons.2 ⟨fun x => turned_piece i arg6 arg8 arg17 v12 v13 X6 X8 k h12 h13 15 7 (by decide) (by decide) (by decide) (by decide) 248 rfl (by decide) _ rfl x, ?_⟩
  refine List.forall_mem_cons.2 ⟨fun x => turned_piece i arg6 arg8 arg17 v12 v13 X6 X8 k h12 h13 15 6 (by decide) (by decide) (by decide) (by decide) 376 rfl (by decide) _ rfl x, ?_⟩
  refine List.forall_mem_cons.2 ⟨fun x => turned_piece i arg6 arg8 arg17 v12 v13 X6 X8 k h12 h13 15 5 (by decide) (by decide) (by decide) (by decide) 504 rfl (by decide) _ rfl x, ?_⟩
  refine List.forall_mem_cons.2 ⟨fun x => turned_piece i arg6 arg8 arg17 v12 v13 X6 X8 k h12 h13 15 4 (by decide) (by decide) (by decide) (by decide) 632 rfl (by decide) _ rfl x, ?_⟩
  refine List.forall_mem_cons.2 ⟨fun x => turned_piece i arg6 arg8 arg17 v12 v13 X6 X8 k h12 h13 15 3 (by decide) (by decide) (by decide) (by decide) 760 rfl (by decide) _ rfl x, ?_⟩
  refine List.forall_mem_cons.2 ⟨fun x => turned_piece i arg6 arg8 arg17 v12 v13 X6 X8 k h12 h13 15 2 (by decide) (by decide) (by decide) (by decide) 888 rfl (by decide) _ rfl x, ?_⟩
  refine List.forall_mem_cons.2 ⟨fun x => turned_piece i arg6 arg8 arg17 v12 v13 X6 X8 k h12 h13 15 1 (by decide) (by decide) (by decide) (by decide) 1016 rfl (by decide) _ rfl x, ?_⟩
  refine List.forall_mem_cons.2 ⟨fun x => turned_piece i arg6 arg8 arg17 v12 v13 X6 X8 k h12 h13 15 0 (by decide) (by decide) (by decide) (by decide) 1144 rfl (by decide) _ rfl x, ?_⟩
  refine List.forall_mem_cons.2 ⟨fun x => turned_piece i arg6 arg8 arg17 v12 v13 X6 X8 k h12 h13 14 8 (by decide) (by decide) (by decide) (by decide) 112 rfl (by decide) _ rfl x, ?_⟩
  refine List.forall_mem_cons.2 ⟨fun x => turned_piece i arg6 arg8 arg17 v12 v13 X6 X8 k h12 h13 14 7 (by decide) (by decide) (by decide) (by decide) 240 rfl (by decide) _ rfl x, ?_⟩
  refine List.forall_mem_cons.2 ⟨fun x => turned_piece i arg6 arg8 arg17 v12 v13 X6 X8 k h12 h13 14 6 (by decide) (by decide) (by decide) (by decide) 368 rfl (by decide) _ rfl x, ?_⟩
  refine List.forall_mem_cons.2 ⟨fun x => turned_piece i arg6 arg8 arg17 v12 v13 X6 X8 k h12 h13 14 5 (by decide) (by decide) (by decide) (by decide) 496 rfl (by decide) _ rfl x, ?_⟩
  refine List.forall_mem_cons.2 ⟨fun x => turned_piece i arg6 arg8 arg17 v12 v13 X6 X8 k h12 h13 14 4 (by decide) (by decide) (by decide) (by decide) 624 rfl (by decide) _ rfl x, ?_⟩
  refine List.forall_mem_cons.2 ⟨fun x => turned_piece i arg6 arg8 arg17 v12 v13 X6 X8 k h12 h13 14 3 (by decide) (by decide) (by decide) (by decide) 752 rfl (by decide) _ rfl x, ?_⟩
  refine List.forall_mem_cons.2 ⟨fun x => turned_piece i arg6 arg8 arg17 v12 v13 X6 X8 k h12 h13 14 2 (by decide) (by decide) (by decide) (by decide) 880 rfl (by decide) _ rfl x, ?_⟩
  refine List.forall_mem_cons.2 ⟨fun x => turned_piece i arg6 arg8 arg17 v12 v13 X6 X8 k h12 h13 14 1 (by decide) (by decide) (by decide) (by decide) 1008 rfl (by decide) _ rfl x, ?_⟩
  refine List.forall_mem_cons.2 ⟨fun x => turned_piece i arg6 arg8 arg17 v12 v13 X6 X8 k h12 h13 14 0 (by decide) (by decide) (by decide) (by decide) 1136 rfl (by decide) _ rfl x, ?_⟩
  refine List.forall_mem_cons.2 ⟨fun x => turned_piece i arg6 arg8 arg17 v12 v13 X6 X8 k h12 h13 13 8 (by decide) (by decide) (by decide) (by decide) 104 rfl (by decide) _ rfl x, ?_⟩
  refine List.forall_mem_cons.2 ⟨fun x => turned_piece i arg6 arg8 arg17 v12 v13 X6 X8 k h12 h13 13 7 (by decide) (by decide) (by decide) (by decide) 232 rfl (by decide) _ rfl x, ?_⟩
  refine List.forall_mem_cons.2 ⟨fun x => turned_piece i arg6 arg8 arg17 v12 v13 X6 X8 k h12 h13 13 6 (by decide) (by decide) (by decide) (by decide) 360 rfl (by decide) _ rfl x, ?_⟩
  refine List.forall_mem_cons.2 ⟨fun x => turned_piece i arg6 arg8 arg17 v12 v13 X6 X8 k h12 h13 13 5 (by decide) (by decide) (by decide) (by decide) 488 rfl (by decide) _ rfl x, ?_⟩
  refine List.forall_mem_cons.2 ⟨fun x => turned_piece i arg6 arg8 arg17 v12 v13 X6 X8 k h12 h13 13 4 (by decide) (by decide) (by decide) (by decide) 616 rfl (by decide) _ rfl x, ?_⟩
  refine List.forall_mem_cons.2 ⟨fun x => turned_piece i arg6 arg8 arg17 v12 v13 X6 X8 k h12 h13 13 3 (by decide) (by decide) (by decide) (by decide) 744 rfl (by decide) _ rfl x, ?_⟩
  refine List.forall_mem_cons.2 ⟨fun x => turned_piece i arg6 arg8 arg17 v12 v13 X6 X8 k h12 h13 13 2 (by decide) (by decide) (by decide) (by decide) 872 rfl (by decide) _ rfl x, ?_⟩
  refine List.forall_mem_cons.2 ⟨fun x => turned_piece i arg6 arg8 arg17 v12 v13 X6 X8 k h12 h13 13 1 (by decide) (by decide) (by decide) (by decide) 1000 rfl (by decide) _ rfl x, ?_⟩
  refine List.forall_mem_cons.2 ⟨fun x => turned_piece i arg6 arg8 arg17 v12 v13 X6 X8 k h12 h13 13 0 (by decide) (by decide) (by decide) (by decide) 1128 rfl (by decide) _ rfl x, ?_⟩
  refine List.forall_mem_cons.2 ⟨fun x => turned_piece i arg6 arg8 arg17 v12 v13 X6 X8 k h12 h13 12 8 (by decide) (by decide) (by decide) (by decide) 96 rfl (by decide) _ rfl x, ?_⟩
  refine List.forall_mem_cons.2 ⟨fun x => turned_piece i arg6 arg8 arg17 v12 v13 X6 X8 k h12 h13 12 7 (by decide) (by decide) (by decide) (by decide) 224 rfl (by decide) _ rfl x, ?_⟩
  refine List.forall_mem_cons.2 ⟨fun x => turned_piece i arg6 arg8 arg17 v12 v13 X6 X8 k h12 h13 12 6 (by decide) (by decide) (by decide) (by decide) 352 rfl (by decide) _ rfl x, ?_⟩
  refine List.forall_mem_cons.2 ⟨fun x => turned_piece i arg6 arg8 arg17 v12 v13 X6 X8 k h12 h13 12 5 (by decide) (by decide) (by decide) (by decide) 480 rfl (by decide) _ rfl x, ?_⟩
  refine List.forall_mem_cons.2 ⟨fun x => turned_piece i arg6 arg8 arg17 v12 v13 X6 X8 k h12 h13 12 4 (by decide) (by decide) (by decide) (by decide) 608 rfl (by decide) _ rfl x, ?_⟩
  refine List.forall_mem_cons.2 ⟨fun x => turned_piece i arg6 arg8 arg17 v12 v13 X6 X8 k h12 h13 12 3 (by decide) (by decide) (by decide) (by decide) 736 rfl (by decide) _ rfl x, ?_⟩
  refine List.forall_mem_cons.2 ⟨fun x => turned_piece i arg6 arg8 arg17 v12 v13 X6 X8 k h12 h13 12 2 (by decide) (by decide) (by decide) (by decide) 864 rfl (by decide) _ rfl x, ?_⟩
  refine List.forall_mem_cons.2 ⟨fun x => turned_piece i arg6 arg8 arg17 v12 v13 X6 X8 k h12 h13 12 1 (by decide) (by decide) (by decide) (by decide) 992 rfl (by decide) _ rfl x, ?_⟩
  refine List.forall_mem_cons.2 ⟨fun x => turned_piece i arg6 arg8 arg17 v12 v13 X6 X8 k h12 h13 12 0 (by decide) (by decide) (by decide) (by decide) 1120 rfl (by decide) _ rfl x, ?_⟩
  refine List.forall_mem_cons.2 ⟨fun x => turned_piece i arg6 arg8 arg17 v12 v13 X6 X8 k h12 h13 11 8 (by decide) (by decide) (by decide) (by decide) 88 rfl (by decide) _ rfl x, ?_⟩
  refine List.forall_mem_cons.2 ⟨fun x => turned_piece i arg6 arg8 arg17 v12 v13 X6 X8 k h12 h13 11 7 (by decide) (by decide) (by decide) (by decide) 216 rfl (by decide) _ rfl x, ?_⟩
  refine List.forall_mem_cons.2 ⟨fun x => turned_piece i arg6 arg8 arg17 v12 v13 X6 X8 k h12 h13 11 6 (by decide) (by decide) (by decide) (by decide) 344 rfl (by decide) _ rfl x, ?_⟩
  refine List.forall_mem_cons.2 ⟨fun x => turned_piece i arg6 arg8 arg17 v12 v13 X6 X8 k h12 h13 11 5 (by decide) (by decide) (by decide) (by decide) 472 rfl (by decide) _ rfl x, ?_⟩
  refine List.forall_mem_cons.2 ⟨fun x => turned_piece i arg6 arg8 arg17 v12 v13 X6 X8 k h12 h13 11 4 (by decide) (by decide) (by decide) (by decide) 600 rfl (by decide) _ rfl x, ?_⟩
  refine List.forall_mem_cons.2 ⟨fun x => turned_piece i arg6 arg8 arg17 v12 v13 X6 X8 k h12 h13 11 3 (by decide) (by decide) (by decide) (by decide) 728 rfl (by decide) _ rfl x, ?_⟩
  refine List.forall_mem_cons.2 ⟨fun x => turned_piece i arg6 arg8 arg17 v12 v13 X6 X8 k h12 h13 11 2 (by decide) (by decide) (by decide) (by decide) 856 rfl (by decide) _ rfl x, ?_⟩
  refine List.forall_mem_cons.2 ⟨fun x => turned_piece i arg6 arg8 arg17 v12 v13 X6 X8 k h12 h13 11 1 (by decide) (by decide) (by decide) (by decide) 984 rfl (by decide) _ rfl x, ?_⟩
  refine List.forall_mem_cons.2 ⟨fun x => turned_piece i arg6 arg8 arg17 v12 v13 X6 X8 k h12 h13 11 0 (by decide) (by decide) (by decide) (by decide) 1112 rfl (by decide) _ rfl x, ?_⟩
  refine List.forall_mem_cons.2 ⟨fun x => turned_piece i arg6 arg8 arg17 v12 v13 X6 X8 k h12 h13 10 8 (by decide) (by decide) (by decide) (by decide) 80 rfl (by decide) _ rfl x, ?_⟩
  refine List.forall_mem_cons.2 ⟨fun x => turned_piece i arg6 arg8 arg17 v12 v13 X6 X8 k h12 h13 10 7 (by decide) (by decide) (by decide) (by decide) 208 rfl (by decide) _ rfl x, ?_⟩
  refine List.forall_mem_cons.2 ⟨fun x => turned_piece i arg6 arg8 arg17 v12 v13 X6 X8 k h12 h13 10 6 (by decide) (by decide) (by decide) (by decide) 336 rfl (by decide) _ rfl x, ?_⟩
  refine List.forall_mem_cons.2 ⟨fun x => turned_piece i arg6 arg8 arg17 v12 v13 X6 X8 k h12 h13 10 5 (by decide) (by decide) (by decide) (by decide) 464 rfl (by decide) _ rfl x, ?_⟩
  refine List.forall_mem_cons.2 ⟨fun x => turned_piece i arg6 arg8 arg17 v12 v13 X6 X8 k h12 h13 10 4 (by decide) (by decide) (by decide) (by decide) 592 rfl (by decide) _ rfl x, ?_⟩
  refine List.forall_mem_cons.2 ⟨fun x => turned_piece i arg6 arg8 arg17 v12 v13 X6 X8 k h12 h13 10 3 (by decide) (by decide) (by decide) (by decide) 720 rfl (by decide) _ rfl x, ?_⟩
  refine List.forall_mem_cons.2 ⟨fun x => turned_piece i arg6 arg8 arg17 v12 v13 X6 X8 k h12 h13 10 2 (by decide) (by decide) (by decide) (by decide) 848 rfl (by decide) _ rfl x, ?_⟩
  refine List.forall_mem_cons.2 ⟨fun x => turned_piece i arg6 arg8 arg17 v12 v13 X6 X8 k h12 h13 10 1 (by decide) (by decide) (by decide) (by decide) 976 rfl (by decide) _ rfl x, ?_⟩
  refine List.forall_mem_cons.2 ⟨fun x => turned_piece i arg6 arg8 arg17 v12 v13 X6 X8 k h12 h13 10 0 (by decide) (by decide) (by decide) (by decide) 1104 rfl (by decide) _ rfl x, ?_⟩
  refine List.forall_mem_cons.2 ⟨fun x => turned_piece i arg6 arg8 arg17 v12 v13 X6 X8 k h12 h13 9 8 (by decide) (by decide) (by decide) (by decide) 72 rfl (by decide) _ rfl x, ?_⟩
  refine List.forall_mem_cons.2 ⟨fun x => turned_piece i arg6 arg8 arg17 v12 v13 X6 X8 k h12 h13 9 7 (by decide) (by decide) (by decide) (by decide) 200 rfl (by decide) _ rfl x, ?_⟩
  refine List.forall_mem_cons.2 ⟨fun x => turned_piece i arg6 arg8 arg17 v12 v13 X6 X8 k h12 h13 9 6 (by decide) (by decide) (by decide) (by decide) 328 rfl (by decide) _ rfl x, ?_⟩
  refine List.forall_mem_cons.2 ⟨fun x => turned_piece i arg6 arg8 arg17 v12 v13 X6 X8 k h12 h13 9 5 (by decide) (by decide) (by decide) (by decide) 456 rfl (by decide) _ rfl x, ?_⟩
  refine List.forall_mem_cons.2 ⟨fun x => turned_piece i arg6 arg8 arg17 v12 v13 X6 X8 k h12 h13 9 4 (by decide) (by decide) (by decide) (by decide) 584 rfl (by decide) _ rfl x, ?_⟩
  refine List.forall_mem_cons.2 ⟨fun x => turned_piece i arg6 arg8 arg17 v12 v13 X6 X8 k h12 h13 9 3 (by decide) (by decide) (by decide) (by decide) 712 rfl (by decide) _ rfl x, ?_⟩
  refine List.forall_mem_cons.2 ⟨fun x => turned_piece i arg6 arg8 arg17 v12 v13 X6 X8 k h12 h13 9 2 (by decide) (by decide) (by decide) (by decide) 840 rfl (by decide) _ rfl x, ?_⟩
  refine List.forall_mem_cons.2 ⟨fun x => turned_piece i arg6 arg8 arg17 v12 v13 X6 X8 k h12 h13 9 1 (by decide) (by decide) (by decide) (by decide) 968 rfl (by decide) _ rfl x, ?_⟩
  refine List.forall_mem_cons.2 ⟨fun x => turned_piece i arg6 arg8 arg17 v12 v13 X6 X8 k h12 h13 9 0 (by decide) (by decide) (by decide) (by decide) 1096 rfl (by decide) _ rfl x, ?_⟩
  refine List.forall_mem_cons.2 ⟨fun x => turned_piece i arg6 arg8 arg17 v12 v13 X6 X8 k h12 h13 8 8 (by decide) (by decide) (by decide) (by decide) 64 rfl (by decide) _ rfl x, ?_⟩
  refine List.forall_mem_cons.2 ⟨fun x => turned_piece i arg6 arg8 arg17 v12 v13 X6 X8 k h12 h13 8 7 (by decide) (by decide) (by decide) (by decide) 192 rfl (by decide) _ rfl x, ?_⟩
  refine List.forall_mem_cons.2 ⟨fun x => turned_piece i arg6 arg8 arg17 v12 v13 X6 X8 k h12 h13 8 6 (by decide) (by decide) (by decide) (by decide) 320 rfl (by decide) _ rfl x, ?_⟩
  refine List.forall_mem_cons.2 ⟨fun x => turned_piece i arg6 arg8 arg17 v12 v13 X6 X8 k h12 h13 8 5 (by decide) (by decide) (by decide) (by decide) 448 rfl (by decide) _ rfl x, ?_⟩
  refine List.forall_mem_cons.2 ⟨fun x => turned_piece i arg6 arg8 arg17 v12 v13 X6 X8 k h12 h13 8 4 (by decide) (by decide) (by decide) (by decide) 576 rfl (by decide) _ rfl x, ?_⟩
  refine List.forall_mem_cons.2 ⟨fun x => turned_piece i arg6 arg8 arg17 v12 v13 X6 X8 k h12 h13 8 3 (by decide) (by decide) (by decide) (by decide) 704 rfl (by decide) _ rfl x, ?_⟩
  refine List.forall_mem_cons.2 ⟨fun x => turned_piece i arg6 arg8 arg17 v12 v13 X6 X8 k h12 h13 8 2 (by decide) (by decide) (by decide) (by decide) 832 rfl (by decide) _ rfl x, ?_⟩
  refine List.forall_mem_cons.2 ⟨fun x => turned_piece i arg6 arg8 arg17 v12 v13 X6 X8 k h12 h13 8 1 (by decide) (by decide) (by decide) (by decide) 960 rfl (by decide) _ rfl x, ?_⟩
  refine List.forall_mem_cons.2 ⟨fun x => turned_piece i arg6 arg8 arg17 v12 v13 X6 X8 k h12 h13 8 0 (by decide) (by decide) (by decide) (by decide) 1088 rfl (by decide) _ rfl x, ?_⟩
  refine List.forall_mem_cons.2 ⟨fun x => turned_piece i arg6 arg8 arg17 v12 v13 X6 X8 k h12 h13 7 8 (by decide) (by decide) (by decide) (by decide) 56 rfl (by decide) _ rfl x, ?_⟩
  refine List.forall_mem_cons.2 ⟨fun x => turned_piece i arg6 arg8 arg17 v12 v13 X6 X8 k h12 h13 7 7 (by decide) (by decide) (by decide) (by decide) 184 rfl (by decide) _ rfl x, ?_⟩
  refine List.forall_mem_cons.2 ⟨fun x => turned_piece i arg6 arg8 arg17 v12 v13 X6 X8 k h12 h13 7 6 (by decide) (by decide) (by decide) (by decide) 312 rfl (by decide) _ rfl x, ?_⟩
  refine List.forall_mem_cons.2 ⟨fun x => turned_piece i arg6 arg8 arg17 v12 v13 X6 X8 k h12 h13 7 5 (by decide) (by decide) (by decide) (by decide) 440 rfl (by decide) _ rfl x, ?_⟩
  refine List.forall_mem_cons.2 ⟨fun x => turned_piece i arg6 arg8 arg17 v12 v13 X6 X8 k h12 h13 7 4 (by decide) (by decide) (by decide) (by decide) 568 rfl (by decide) _ rfl x, ?_⟩
  refine List.forall_mem_cons.2 ⟨fun x => turned_piece i arg6 arg8 arg17 v12 v13 X6 X8 k h12 h13 7 3 (by decide) (by decide) (by decide) (by decide) 696 rfl (by decide) _ rfl x, ?_⟩
  refine List.forall_mem_cons.2 ⟨fun x => turned_piece i arg6 arg8 arg17 v12 v13 X6 X8 k h12 h13 7 2 (by decide) (by decide) (by decide) (by decide) 824 rfl (by decide) _ rfl x, ?_⟩
  refine List.forall_mem_cons.2 ⟨fun x => turned_piece i arg6 arg8 arg17 v12 v13 X6 X8 k h12 h13 7 1 (by decide) (by decide) (by decide) (by decide) 952 rfl (by decide) _ rfl x, ?_⟩
  refine List.forall_mem_cons.2 ⟨fun x => turned_piece i arg6 arg8 arg17 v12 v13 X6 X8 k h12 h13 7 0 (by decide) (by decide) (by decide) (by decide) 1080 rfl (by decide) _ rfl x, ?_⟩
  refine List.forall_mem_cons.2 ⟨fun x => turned_piece i arg6 arg8 arg17 v12 v13 X6 X8 k h12 h13 6 8 (by decide) (by decide) (by decide) (by decide) 48 rfl (by decide) _ rfl x, ?_⟩
  refine List.forall_mem_cons.2 ⟨fun x => turned_piece i arg6 arg8 arg17 v12 v13 X6 X8 k h12 h13 6 7 (by decide) (by decide) (by decide) (by decide) 176 rfl (by decide) _ rfl x, ?_⟩
  refine List.forall_mem_cons.2 ⟨fun x => turned_piece i arg6 arg8 arg17 v12 v13 X6 X8 k h12 h13 6 6 (by decide) (by decide) (by decide) (by decide) 304 rfl (by decide) _ rfl x, ?_⟩
  refine List.forall_mem_cons.2 ⟨fun x => turned_piece i arg6 arg8 arg17 v12 v13 X6 X8 k h12 h13 6 5 (by decide) (by decide) (by decide) (by decide) 432 rfl (by decide) _ rfl x, ?_⟩
  refine List.forall_mem_cons.2 ⟨fun x => turned_piece i arg6 arg8 arg17 v12 v13 X6 X8 k h12 h13 6 4 (by decide) (by decide) (by decide) (by decide) 560 rfl (by decide) _ rfl x, ?_⟩
  refine List.forall_mem_cons.2 ⟨fun x => turned_piece i arg6 arg8 arg17 v12 v13 X6 X8 k h12 h13 6 3 (by decide) (by decide) (by decide) (by decide) 688 rfl (by decide) _ rfl x, ?_⟩
  refine List.forall_mem_cons.2 ⟨fun x => turned_piece i arg6 arg8 arg17 v12 v13 X6 X8 k h12 h13 6 2 (by decide) (by decide) (by decide) (by decide) 816 rfl (by decide) _ rfl x, ?_⟩
  refine List.forall_mem_cons.2 ⟨fun x => turned_piece i arg6 arg8 arg17 v12 v13 X6 X8 k h12 h13 6 1 (by decide) (by decide) (by decide) (by decide) 944 rfl (by decide) _ rfl x, ?_⟩
  refine List.forall_mem_cons.2 ⟨fun x => turned_piece i arg6 arg8 arg17 v12 v13 X6 X8 k h12 h13 6 0 (by decide) (by decide) (by decide) (by decide) 1072 rfl (by decide) _ rfl x, ?_⟩
  refine List.forall_mem_cons.2 ⟨fun x => turned_piece i arg6 arg8 arg17 v12 v13 X6 X8 k h12 h13 5 8 (by decide) (by decide) (by decide) (by decide) 40 rfl (by decide) _ rfl x, ?_⟩
  refine List.forall_mem_cons.2 ⟨fun x => turned_piece i arg6 arg8 arg17 v12 v13 X6 X8 k h12 h13 5 7 (by decide) (by decide) (by decide) (by decide) 168 rfl (by decide) _ rfl x, ?_⟩
  refine List.forall_mem_cons.2 ⟨fun x => turned_piece i arg6 arg8 arg17 v12 v13 X6 X8 k h12 h13 5 6 (by decide) (by decide) (by decide) (by decide) 296 rfl (by decide) _ rfl x, ?_⟩
  refine List.forall_mem_cons.2 ⟨fun x => turned_piece i arg6 arg8 arg17 v12 v13 X6 X8 k h12 h13 5 5 (by decide) (by decide) (by decide) (by decide) 424 rfl (by decide) _ rfl x, ?_⟩
  refine List.forall_mem_cons.2 ⟨fun x => turned_piece i arg6 arg8 arg17 v12 v13 X6 X8 k h12 h13 5 4 (by decide) (by decide) (by decide) (by decide) 552 rfl (by decide) _ rfl x, ?_⟩
  refine List.forall_mem_cons.2 ⟨fun x => turned_piece i arg6 arg8 arg17 v12 v13 X6 X8 k h12 h13 5 3 (by decide) (by decide) (by decide) (by decide) 680 rfl (by decide) _ rfl x, ?_⟩
  refine List.forall_mem_cons.2 ⟨fun x => turned_piece i arg6 arg8 arg17 v12 v13 X6 X8 k h12 h13 5 2 (by decide) (by decide) (by decide) (by decide) 808 rfl (by decide) _ rfl x, ?_⟩
  refine List.forall_mem_cons.2 ⟨fun x => turned_piece i arg6 arg8 arg17 v12 v13 X6 X8 k h12 h13 5 1 (by decide) (by decide) (by decide) (by decide) 936 rfl (by decide) _ rfl x, ?_⟩
  refine List.forall_mem_cons.2 ⟨fun x => turned_piece i arg6 arg8 arg17 v12 v13 X6 X8 k h12 h13 5 0 (by decide) (by decide) (by decide) (by decide) 1064 rfl (by decide) _ rfl x, ?_⟩
  refine List.forall_mem_cons.2 ⟨fun x => turned_piece i arg6 arg8 arg17 v12 v13 X6 X8 k h12 h13 4 8 (by decide) (by decide) (by decide) (by decide) 32 rfl (by decide) _ rfl x, ?_⟩
  refine List.forall_mem_cons.2 ⟨fun x => turned_piece i arg6 arg8 arg17 v12 v13 X6 X8 k h12 h13 4 7 (by decide) (by decide) (by decide) (by decide) 160 rfl (by decide) _ rfl x, ?_⟩
  refine List.forall_mem_cons.2 ⟨fun x => turned_piece i arg6 arg8 arg17 v12 v13 X6 X8 k h12 h13 4 6 (by decide) (by decide) (by decide) (by decide) 288 rfl (by decide) _ rfl x, ?_⟩
  refine List.forall_mem_cons.2 ⟨fun x => turned_piece i arg6 arg8 arg17 v12 v13 X6 X8 k h12 h13 4 5 (by decide) (by decide) (by decide) (by decide) 416 rfl (by decide) _ rfl x, ?_⟩
  refine List.forall_mem_cons.2 ⟨fun x => turned_piece i arg6 arg8 arg17 v12 v13 X6 X8 k h12 h13 4 4 (by decide) (by decide) (by decide) (by decide) 544 rfl (by decide) _ rfl x, ?_⟩
  refine List.forall_mem_cons.2 ⟨fun x => turned_piece i arg6 arg8 arg17 v12 v13 X6 X8 k h12 h13 4 3 (by decide) (by decide) (by decide) (by decide) 672 rfl (by decide) _ rfl x, ?_⟩
  refine List.forall_mem_cons.2 ⟨fun x => turned_piece i arg6 arg8 arg17 v12 v13 X6 X8 k h12 h13 4 2 (by decide) (by decide) (by decide) (by decide) 800 rfl (by decide) _ rfl x, ?_⟩
  refine List.forall_mem_cons.2 ⟨fun x => turned_piece i arg6 arg8 arg17 v12 v13 X6 X8 k h12 h13 4 1 (by decide) (by decide) (by decide) (by decide) 928 rfl (by decide) _ rfl x, ?_⟩
  refine List.forall_mem_cons.2 ⟨fun x => turned_piece i arg6 arg8 arg17 v12 v13 X6 X8 k h12 h13 4 0 (by decide) (by decide) (by decide) (by decide) 1056 rfl (by decide) _ rfl x, ?_⟩
  refine List.forall_mem_cons.2 ⟨fun x => turned_piece i arg6 arg8 arg17 v12 v13 X6 X8 k h12 h13 3 8 (by decide) (by decide) (by decide) (by decide) 24 rfl (by decide) _ rfl x, ?_⟩
  refine List.forall_mem_cons.2 ⟨fun x => turned_piece i arg6 arg8 arg17 v12 v13 X6 X8 k h12 h13 3 7 (by decide) (by decide) (by decide) (by decide) 152 rfl (by decide) _ rfl x, ?_⟩
  refine List.forall_mem_cons.2 ⟨fun x => turned_piece i arg6 arg8 arg17 v12 v13 X6 X8 k h12 h13 3 6 (by decide) (by decide) (by decide) (by decide) 280 rfl (by decide) _ rfl x, ?_⟩
  refine List.forall_mem_cons.2 ⟨fun x => turned_piece i arg6 arg8 arg17 v12 v13 X6 X8 k h12 h13 3 5 (by decide) (by decide) (by decide) (by decide) 408 rfl (by decide) _ rfl x, ?_⟩
  refine List.forall_mem_cons.2 ⟨fun x => turned_piece i arg6 arg8 arg17 v12 v13 X6 X8 k h12 h13 3 4 (by decide) (by decide) (by decide) (by decide) 536 rfl (by decide) _ rfl x, ?_⟩
  refine List.forall_mem_cons.2 ⟨fun x => turned_piece i arg6 arg8 arg17 v12 v13 X6 X8 k h12 h13 3 3 (by decide) (by decide) (by decide) (by decide) 664 rfl (by decide) _ rfl x, ?_⟩
  refine List.forall_mem_cons.2 ⟨fun x => turned_piece i arg6 arg8 arg17 v12 v13 X6 X8 k h12 h13 3 2 (by decide) (by decide) (by decide) (by decide) 792 rfl (by decide) _ rfl x, ?_⟩
  refine List.forall_mem_cons.2 ⟨fun x => turned_piece i arg6 arg8 arg17 v12 v13 X6 X8 k h12 h13 3 1 (by decide) (by decide) (by decide) (by decide) 920 rfl (by decide) _ rfl x, ?_⟩
  refine List.forall_mem_cons.2 ⟨fun x => turned_piece i arg6 arg8 arg17 v12 v13 X6 X8 k h12 h13 3 0 (by decide) (by decide) (by decide) (by decide) 1048 rfl (by decide) _ rfl x, ?_⟩
  refine List.forall_mem_cons.2 ⟨fun x => turned_piece i arg6 arg8 arg17 v12 v13 X6 X8 k h12 h13 2 8 (by decide) (by decide) (by decide) (by decide) 16 rfl (by decide) _ rfl x, ?_⟩
  refine List.forall_mem_cons.2 ⟨fun x => turned_piece i arg6 arg8 arg17 v12 v13 X6 X8 k h12 h13 2 7 (by decide) (by decide) (by decide) (by decide) 144 rfl (by decide) _ rfl x, ?_⟩
  refine List.forall_mem_cons.2 ⟨fun x => turned_piece i arg6 arg8 arg17 v12 v13 X6 X8 k h12 h13 2 6 (by decide) (by decide) (by decide) (by decide) 272 rfl (by decide) _ rfl x, ?_⟩
  refine List.forall_mem_cons.2 ⟨fun x => turned_piece i arg6 arg8 arg17 v12 v13 X6 X8 k h12 h13 2 5 (by decide) (by decide) (by decide) (by decide) 400 rfl (by decide) _ rfl x, ?_⟩
  refine List.forall_mem_cons.2 ⟨fun x => turned_piece i arg6 arg8 arg17 v12 v13 X6 X8 k h12 h13 2 4 (by decide) (by decide) (by decide) (by decide) 528 rfl (by decide) _ rfl x, ?_⟩
  refine List.forall_mem_cons.2 ⟨fun x => turned_piece i arg6 arg8 arg17 v12 v13 X6 X8 k h12 h13 2 3 (by decide) (by decide) (by decide) (by decide) 656 rfl (by decide) _ rfl x, ?_⟩
  refine List.forall_mem_cons.2 ⟨fun x => turned_piece i arg6 arg8 arg17 v12 v13 X6 X8 k h12 h13 2 2 (by decide) (by decide) (by decide) (by decide) 784 rfl (by decide) _ rfl x, ?_⟩
  refine List.forall_mem_cons.2 ⟨fun x => turned_piece i arg6 arg8 arg17 v12 v13 X6 X8 k h12 h13 2 1 (by decide) (by decide) (by decide) (by decide) 912 rfl (by decide) _ rfl x, ?_⟩
  refine List.forall_mem_cons.2 ⟨fun x => turned_piece i arg6 arg8 arg17 v12 v13 X6 X8 k h12 h13 2 0 (by decide) (by decide) (by decide) (by decide) 1040 rfl (by decide) _ rfl x, ?_⟩
  refine List.forall_mem_cons.2 ⟨fun x => turned_piece i arg6 arg8 arg17 v12 v13 X6 X8 k h12 h13 1 8 (by decide) (by decide) (by decide) (by decide) 8 rfl (by decide) _ rfl x, ?_⟩
  refine List.forall_mem_cons.2 ⟨fun x => turned_piece i arg6 arg8 arg17 v12 v13 X6 X8 k h12 h13 1 7 (by decide) (by decide) (by decide) (by decide) 136 rfl (by decide) _ rfl x, ?_⟩
  refine List.forall_mem_cons.2 ⟨fun x => turned_piece i arg6 arg8 arg17 v12 v13 X6 X8 k h12 h13 1 6 (by decide) (by decide) (by decide) (by decide) 264 rfl (by decide) _ rfl x, ?_⟩
  refine List.forall_mem_cons.2 ⟨fun x => turned_piece i arg6 arg8 arg17 v12 v13 X6 X8 k h12 h13 1 5 (by decide) (by decide) (by decide) (by decide) 392 rfl (by decide) _ rfl x, ?_⟩
  refine List.forall_mem_cons.2 ⟨fun x => turned_piece i arg6 arg8 arg17 v12 v13 X6 X8 k h12 h13 1 4 (by decide) (by decide) (by decide) (by decide) 520 rfl (by decide) _ rfl x, ?_⟩
  refine List.forall_mem_cons.2 ⟨fun x => turned_piece i arg6 arg8 arg17 v12 v13 X6 X8 k h12 h13 1 3 (by decide) (by decide) (by decide) (by decide) 648 rfl (by decide) _ rfl x, ?_⟩
  refine List.forall_mem_cons.2 ⟨fun x => turned_piece i arg6 arg8 arg17 v12 v13 X6 X8 k h12 h13 1 2 (by decide) (by decide) (by decide) (by decide) 776 rfl (by decide) _ rfl x, ?_⟩
  refine List.forall_mem_cons.2 ⟨fun x => turned_piece i arg6 arg8 arg17 v12 v13 X6 X8 k h12 h13 1 1 (by decide) (by decide) (by decide) (by decide) 904 rfl (by decide) _ rfl x, ?_⟩
  refine List.forall_mem_cons.2 ⟨fun x => turned_piece i arg6 arg8 arg17 v12 v13 X6 X8 k h12 h13 1 0 (by decide) (by decide) (by decide) (by decide) 1032 rfl (by decide) _ rfl x, ?_⟩
  refine List.forall_mem_cons.2 ⟨fun x => turned_piece i arg6 arg8 arg17 v12 v13 X6 X8 k h12 h13 0 8 (by decide) (by decide) (by decide) (by decide) 0 rfl (by decide) _ rfl x, ?_⟩
  refine List.forall_mem_cons.2 ⟨fun x => turned_piece i arg6 arg8 arg17 v12 v13 X6 X8 k h12 h13 0 7 (by decide) (by decide) (by decide) (by decide) 128 rfl (by decide) _ rfl x, ?_⟩
  refine List.forall_mem_cons.2 ⟨fun x => turned_piece i arg6 arg8 arg17 v12 v13 X6 X8 k h12 h13 0 6 (by decide) (by decide) (by decide) (by decide) 256 rfl (by decide) _ rfl x, ?_⟩
  refine List.forall_mem_cons.2 ⟨fun x => turned_piece i arg6 arg8 arg17 v12 v13 X6 X8 k h12 h13 0 5 (by decide) (by decide) (by decide) (by decide) 384 rfl (by decide) _ rfl x, ?_⟩
  refine List.forall_mem_cons.2 ⟨fun x => turned_piece i arg6 arg8 arg17 v12 v13 X6 X8 k h12 h13 0 4 (by decide) (by decide) (by decide) (by decide) 512 rfl (by decide) _ rfl x, ?_⟩
  refine List.forall_mem_cons.2 ⟨fun x => turned_piece i arg6 arg8 arg17 v12 v13 X6 X8 k h12 h13 0 3 (by decide) (by decide) (by decide) (by decide) 640 rfl (by decide) _ rfl x, ?_⟩
  refine List.forall_mem_cons.2 ⟨fun x => turned_piece i arg6 arg8 arg17 v12 v13 X6 X8 k h12 h13 0 2 (by decide) (by decide) (by decide) (by decide) 768 rfl (by decide) _ rfl x, ?_⟩
  refine List.forall_mem_cons.2 ⟨fun x => turned_piece i arg6 arg8 arg17 v12 v13 X6 X8 k h12 h13 0 1 (by decide) (by decide) (by decide) (by decide) 896 rfl (by decide) _ rfl x, ?_⟩
  refine List.forall_mem_cons.2 ⟨fun x => turned_piece i arg6 arg8 arg17 v12 v13 X6 X8 k h12 h13 0 0 (by decide) (by decide) (by decide) (by decide) 1024 rfl (by decide) _ rfl x, ?_⟩
  exact fun _ h => absurd h List.not_mem_nil

theorem turnedSlash_cover (y : S1152x128.Idx) :
    ∃ p ∈ trip_k0_t1.sl.HW_arg16_144 (F := Ideal) i arg6 arg8 arg17 v12 v13 X6 X8 k, y ∈ p.1.set :=
  View.cover_of_tiledL (s := S1152x128) _ ![8, 128] (by sl_kernel_rfl) y

theorem digit_sums_eq : trip_k0_t1.sl.v49 (F := Ideal) i arg5 arg7 X5 X7 k = k0_pay10 (F := Ideal) (vRow arg7 X7 k) (count i arg5 X5 k) := rfl

theorem picked_eq : trip_k0_t1.sl.r_4 (F := Ideal) i arg5 arg7 X5 X7 k
    = k0_pay325 (F := Ideal) (k0_pay10 (F := Ideal) (vRow arg7 X7 k) (count i arg5 X5 k)) := rfl

/-- The table of the vertical keys: row `u` belongs to key `u`. -/
def verticalKeys (y : S1024x128.Idx) : EReal := cap (VerticalAt i arg5 arg7 X5 X7 k (y 0).val)

theorem vertical_piece (n : Fin 8) (w : FVec Ideal S128x128 .f32) (u : ℕ) (hu : u = 128 * n.val)
    (inb : ∀ a, (![u, 0] : Fin 2 → ℕ) a + S128x128.size a ≤ S1024x128.size a)
    (hw : ∀ a l : Fin 128, w (ix2 a l) = k0_pay325 (F := Ideal) (k0_pay10 (F := Ideal) (vRow arg7 X7 k) (count i arg5 X5 k)) (ix2 n a))
    (x : (Rect.unit (s := S1024x128) ![u, 0] S128x128.size inb).shape.Idx) :
    w x = verticalKeys i arg5 arg7 X5 X7 k ((Rect.unit (s := S1024x128) ![u, 0] S128x128.size inb).emb x) := by
  obtain ⟨a, l, rfl⟩ : ∃ a l : Fin 128, x = ix2 a l := ⟨x 0, x 1, eq_ix2 x⟩
  rw [hw, vertical_table]
  unfold verticalKeys
  have h0 : ((Rect.unit (s := S1024x128) ![u, 0] S128x128.size inb).emb (ix2 a l) 0).val = u + a.val := by
    show u + 1 * a.val = _; omega
  rw [h0, hu]
  rfl

theorem vertical_slice0 (a l : Fin 128) : k0_pay326 (F := Ideal) (trip_k0_t1.sl.v49 i arg5 arg7 X5 X7 k) (ix2 a l)
    = k0_pay325 (F := Ideal) (k0_pay10 (F := Ideal) (vRow arg7 X7 k) (count i arg5 X5 k)) (ix2 0 a) := by
  rw [digit_sums_eq]
  generalize k0_pay10 (F := Ideal) (vRow arg7 X7 k) (count i arg5 X5 k) = w
  skip
  pointwise [k0_pay326, k0_pay325]

theorem vertical_slice1 (a l : Fin 128) : k0_pay327 (F := Ideal) (trip_k0_t1.sl.v49 i arg5 arg7 X5 X7 k) (ix2 a l)
    = k0_pay325 (F := Ideal) (k0_pay10 (F := Ideal) (vRow arg7 X7 k) (count i arg5 X5 k)) (ix2 1 a) := by
  rw [digit_sums_eq]
  generalize k0_pay10 (F := Ideal) (vRow arg7 X7 k) (count i arg5 X5 k) = w
  skip
  pointwise [k0_pay327, k0_pay325]

theorem vertical_slice2 (a l : Fin 128) : k0_pay328 (F := Ideal) (trip_k0_t1.sl.v49 i arg5 arg7 X5 X7 k) (ix2 a l)
    = k0_pay325 (F := Ideal) (k0_pay10 (F := Ideal) (vRow arg7 X7 k) (count i arg5 X5 k)) (ix2 2 a) := by
  rw [digit_sums_eq]
  generalize k0_pay10 (F := Ideal) (vRow arg7 X7 k) (count i arg5 X5 k) = w
  skip
  pointwise [k0_pay328, k0_pay325]

theorem vertical_slice3 (a l : Fin 128) : k0_pay329 (F := Ideal) (trip_k0_t1.sl.v49 i arg5 arg7 X5 X7 k) (ix2 a l)
    = k0_pay325 (F := Ideal) (k0_pay10 (F := Ideal) (vRow arg7 X7 k) (count i arg5 X5 k)) (ix2 3 a) := by
  rw [digit_sums_eq]
  generalize k0_pay10 (F := Ideal) (vRow arg7 X7 k) (count i arg5 X5 k) = w
  skip
  pointwise [k0_pay329, k0_pay325]

theorem vertical_slice4 (a l : Fin 128) : k0_pay330 (F := Ideal) (trip_k0_t1.sl.r_4 i arg5 arg7 X5 X7 k) (ix2 a l)
    = k0_pay325 (F := Ideal) (k0_pay10 (F := Ideal) (vRow arg7 X7 k) (count i arg5 X5 k)) (ix2 4 a) := by
  rw [picked_eq]
  generalize k0_pay10 (F := Ideal) (vRow arg7 X7 k) (count i arg5 X5 k) = w
  generalize k0_pay325 (F := Ideal) w = w
  pointwise [k0_pay330]

theorem vertical_slice5 (a l : Fin 128) : k0_pay331 (F := Ideal) (trip_k0_t1.sl.r_4 i arg5 arg7 X5 X7 k) (ix2 a l)
    = k0_pay325 (F := Ideal) (k0_pay10 (F := Ideal) (vRow arg7 X7 k) (count i arg5 X5 k)) (ix2 5 a) := by
  rw [picked_eq]
  generalize k0_pay10 (F := Ideal) (vRow arg7 X7 k) (count i arg5 X5 k) = w
  generalize k0_pay325 (F := Ideal) w = w
  pointwise [k0_pay331]

theorem vertical_slice6 (a l : Fin 128) : k0_pay332 (F := Ideal) (trip_k0_t1.sl.r_4 i arg5 arg7 X5 X7 k) (ix2 a l)
    = k0_pay325 (F := Ideal) (k0_pay10 (F := Ideal) (vRow arg7 X7 k) (count i arg5 X5 k)) (ix2 6 a) := by
  rw [picked_eq]
  generalize k0_pay10 (F := Ideal) (vRow arg7 X7 k) (count i arg5 X5 k) = w
  generalize k0_pay325 (F := Ideal) w = w
  pointwise [k0_pay332]

theorem vertical_slice7 (a l : Fin 128) : k0_pay333 (F := Ideal) (trip_k0_t1.sl.r_4 i arg5 arg7 X5 X7 k) (ix2 a l)
    = k0_pay325 (F := Ideal) (k0_pay10 (F := Ideal) (vRow arg7 X7 k) (count i arg5 X5 k)) (ix2 7 a) := by
  rw [picked_eq]
  generalize k0_pay10 (F := Ideal) (vRow arg7 X7 k) (count i arg5 X5 k) = w
  generalize k0_pay325 (F := Ideal) w = w
  pointwise [k0_pay333]

theorem verticalKeys_pieces : ∀ p ∈ trip_k0_t1.sl.HW_arg18_8 (F := Ideal) i arg5 arg7 X5 X7 k, ∀ x : p.1.shape.Idx,
    p.2 x = verticalKeys i arg5 arg7 X5 X7 k (p.1.emb x) := by
  unfold trip_k0_t1.sl.HW_arg18_8
  refine List.forall_mem_cons.2 ⟨?_, ?_⟩
  · intro x
    dsimp only
    exact vertical_piece i arg5 arg7 X5 X7 k 7 (k0_pay333 (F := Ideal) (trip_k0_t1.sl.r_4 i arg5 arg7 X5 X7 k)) 896 rfl inb_S1024x128_S128x128_896_0 (vertical_slice7 i arg5 arg7 X5 X7 k) x
  refine List.forall_mem_cons.2 ⟨?_, ?_⟩
  · intro x
    dsimp only
    exact vertical_piece i arg5 arg7 X5 X7 k 6 (k0_pay332 (F := Ideal) (trip_k0_t1.sl.r_4 i arg5 arg7 X5 X7 k)) 768 rfl inb_S1024x128_S128x128_768_0 (vertical_slice6 i arg5 arg7 X5 X7 k) x
  refine List.forall_mem_cons.2 ⟨?_, ?_⟩
  · intro x
    dsimp only
    exact vertical_piece i arg5 arg7 X5 X7 k 5 (k0_pay331 (F := Ideal) (trip_k0_t1.sl.r_4 i arg5 arg7 X5 X7 k)) 640 rfl inb_S1024x128_S128x128_640_0 (vertical_slice5 i arg5 arg7 X5 X7 k) x
  refine List.forall_mem_cons.2 ⟨?_, ?_⟩
  · intro x
    dsimp only
    exact vertical_piece i arg5 arg7 X5 X7 k 4 (k0_pay330 (F := Ideal) (trip_k0_t1.sl.r_4 i arg5 arg7 X5 X7 k)) 512 rfl inb_S1024x128_S128x128_512_0 (vertical_slice4 i arg5 arg7 X5 X7 k) x
  refine List.forall_mem_cons.2 ⟨?_, ?_⟩
  · intro x
    dsimp only
    exact vertical_piece i arg5 arg7 X5 X7 k 3 (k0_pay329 (F := Ideal) (trip_k0_t1.sl.v49 i arg5 arg7 X5 X7 k)) 384 rfl inb_S1024x128_S128x128_384_0 (vertical_slice3 i arg5 arg7 X5 X7 k) x
  refine List.forall_mem_cons.2 ⟨?_, ?_⟩
  · intro x
    dsimp only
    exact vertical_piece i arg5 arg7 X5 X7 k 2 (k0_pay328 (F := Ideal) (trip_k0_t1.sl.v49 i arg5 arg7 X5 X7 k)) 256 rfl inb_S1024x128_S128x128_256_0 (vertical_slice2 i arg5 arg7 X5 X7 k) x
  refine List.forall_mem_cons.2 ⟨?_, ?_⟩
  · intro x
    dsimp only
    exact vertical_piece i arg5 arg7 X5 X7 k 1 (k0_pay327 (F := Ideal) (trip_k0_t1.sl.v49 i arg5 arg7 X5 X7 k)) 128 rfl inb_S1024x128_S128x128_128_0 (vertical_slice1 i arg5 arg7 X5 X7 k) x
  refine List.forall_mem_cons.2 ⟨?_, ?_⟩
  · intro x
    dsimp only
    exact vertical_piece i arg5 arg7 X5 X7 k 0 (k0_pay326 (F := Ideal) (trip_k0_t1.sl.v49 i arg5 arg7 X5 X7 k)) 0 rfl inb_S1024x128_S128x128_0_0 (vertical_slice0 i arg5 arg7 X5 X7 k) x
  exact fun _ h => absurd h List.not_mem_nil

theorem verticalKeys_cover (y : S1024x128.Idx) :
    ∃ p ∈ trip_k0_t1.sl.HW_arg18_8 (F := Ideal) i arg5 arg7 X5 X7 k, y ∈ p.1.set :=
  View.cover_of_tiledL (s := S1024x128) _ ![128, 128] (by sl_kernel_rfl) y

/-- A load of the turned slash table. -/
theorem read_turnedSlash (h12 : ∀ y, v12 y = BitVec.ofNat 32 (y 1).val) (h13 : ∀ y, v13 y = BitVec.ofNat 32 (y 0).val)
    (o n : ℕ) (inb : ∀ a, (![o, 0] : Fin 2 → ℕ) a + (![n, 128] : Fin 2 → ℕ) a ≤ S1152x128.size a) (a : Fin n) (l : Fin 128) :
    arg16.view.readCov (trip_k0_t1.sl.HW_arg16_144 (F := Ideal) i arg6 arg8 arg17 v12 v13 X6 X8 k)
      (Rect.unit (s := S1152x128) ![o, 0] ![n, 128] inb).toLoadRect (ix2 a l)
      = cap (o + a.val ≤ 896 + l.val ∧ SlashAt i arg6 arg8 X6 X8 k (896 + l.val - (o + a.val))) := by
  refine (readCov_apply arg16.view _ (turnedSlash i arg6 arg8 X6 X8 k) (turnedSlash_pieces i arg6 arg8 arg17 v12 v13 X6 X8 k h12 h13)
    (turnedSlash_cover i arg6 arg8 arg17 v12 v13 X6 X8 k) inb (ix2 a l)).trans ?_
  have h0 : ((Rect.unit (s := S1152x128) ![o, 0] ![n, 128] inb).emb (ix2 a l) 0).val = o + a.val := by
    show o + 1 * a.val = _; omega
  have h1 : ((Rect.unit (s := S1152x128) ![o, 0] ![n, 128] inb).emb (ix2 a l) 1).val = l.val := by
    show 0 + 1 * l.val = _; omega
  unfold turnedSlash
  rw [h0, h1]

/-- A load of the table of the vertical keys. -/
theorem read_verticalKeys (n : ℕ) (inb : ∀ a, (![0, 0] : Fin 2 → ℕ) a + (![n, 128] : Fin 2 → ℕ) a ≤ S1024x128.size a) (a : Fin n) (l : Fin 128) :
    arg18.view.readCov (trip_k0_t1.sl.HW_arg18_8 (F := Ideal) i arg5 arg7 X5 X7 k)
      (Rect.unit (s := S1024x128) ![0, 0] ![n, 128] inb).toLoadRect (ix2 a l)
      = cap (VerticalAt i arg5 arg7 X5 X7 k a.val) := by
  refine (readCov_apply arg18.view _ (verticalKeys i arg5 arg7 X5 X7 k) (verticalKeys_pieces i arg5 arg7 X5 X7 k)
    (verticalKeys_cover i arg5 arg7 X5 X7 k) inb (ix2 a l)).trans ?_
  have h0 : ((Rect.unit (s := S1024x128) ![0, 0] ![n, 128] inb).emb (ix2 a l) 0).val = a.val := by
    show 0 + 1 * a.val = _; omega
  unfold verticalKeys
  rw [h0]

end

end Cert.KernelIdeal.Hand

end
-- ==== Proof.Softmax.lean ====
module

public import Idealize.ShloMosaic.Lib.Pointwise

/-! # One column of the attention: a masked softmax over the extended reals

A column belongs to one head and one token. Its entries are the scores of the keys, with `⊥` where the key is hidden.
This file states the softmax of such a column in the form of the reference, and shows that the form of the kernel gives
the same weighted sum. The kernel scales the scores by `1 / log 2`, takes powers of two, multiplies by the reciprocal
of the sum, and looks only at the first `n` keys, which hold every key that can be seen. -/

@[expose] public section

noncomputable section

open Idealize.ShloMosaic

namespace Cert.Attn

/-- The greatest score of a column. -/
def colMax {n : ℕ} (y : Fin n → EReal) : EReal := Finset.univ.fold max ⊥ y

/-- The weight of key `k` before it is normalised. -/
def weight {n : ℕ} (y : Fin n → EReal) (k : Fin n) : EReal := Ideal.exp (y k - colMax y)

/-- The sum of the weights of a column. -/
def mass {n : ℕ} (y : Fin n → EReal) : EReal := ∑ k, weight y k

/-- The normalised weight of key `k`, and zero where the column has no mass. -/
def prob {n : ℕ} (y : Fin n → EReal) (k : Fin n) : EReal :=
  if 0 < mass y then Ideal.div (weight y k) (mass y) else 0

/-- `1 / log 2` as an extended real. -/
abbrev log2e : EReal := (((Real.log 2)⁻¹ : ℝ) : EReal)

theorem log2_inv_pos : 0 < (Real.log 2)⁻¹ := inv_pos.mpr (Real.log_pos one_lt_two)

/-- A difference of scaled scores, as an exponent of two, is the exponential of the difference of the scores. -/
theorem exp2_scaled (y m : EReal) : Ideal.exp2 (y * log2e - m * log2e) = Ideal.exp (y - m) := by
  have h := log2_inv_pos
  induction y using EReal.rec <;> induction m using EReal.rec <;>
    simp only [log2e, EReal.top_mul_coe_of_pos h, EReal.bot_mul_coe_of_pos h]
  case bot.bot => rfl
  case bot.coe => rfl
  case bot.top => rfl
  case coe.bot y => rw [← EReal.coe_mul, EReal.coe_sub_bot, EReal.coe_sub_bot]; rfl
  case coe.top y =>
    rw [← EReal.coe_mul]
    simp only [sub_eq_add_neg, EReal.neg_top]
    rw [EReal.add_bot, EReal.add_bot]; rfl
  case top.bot => rfl
  case top.coe m => rw [← EReal.coe_mul, EReal.top_sub_coe, EReal.top_sub_coe]; rfl
  case top.top => rfl
  case coe.coe y m =>
    rw [← EReal.coe_mul, ← EReal.coe_mul, ← EReal.coe_sub, ← EReal.coe_sub]
    show ((Real.rpow 2 _ : ℝ) : EReal) = ((Real.exp _ : ℝ) : EReal)
    congr 1
    show (2 : ℝ) ^ (y * (Real.log 2)⁻¹ - m * (Real.log 2)⁻¹) = _
    rw [Real.rpow_def_of_pos two_pos]
    congr 1
    have : Real.log 2 ≠ 0 := (Real.log_pos one_lt_two).ne'
    field_simp

/-- The greatest of the scaled scores is the scaled greatest score. -/
theorem fold_max_scaled {n : ℕ} (y : Fin n → EReal) :
    Finset.univ.fold max ⊥ (fun k => y k * log2e) = colMax y * log2e := by
  have h := log2_inv_pos
  have hm : Monotone (fun a : EReal => a * log2e) := fun a b hab =>
    mul_le_mul_of_nonneg_right hab (EReal.coe_nonneg.mpr h.le)
  exact (Finset.comp_sup_eq_sup_comp (s := Finset.univ) (f := y) (fun a : EReal => a * log2e)
    (fun a b => hm.map_max) (EReal.bot_mul_coe_of_pos h)).symm

/-- Keys beyond the first `n` that are hidden do not change the greatest score. -/
theorem colMax_castLE {n N : ℕ} (hn : n ≤ N) (y : Fin N → EReal) (hy : ∀ k : Fin N, n ≤ k.val → y k = ⊥) :
    colMax (fun k : Fin n => y (k.castLE hn)) = colMax y := by
  show Finset.sup Finset.univ (fun k : Fin n => y (k.castLE hn)) = Finset.sup Finset.univ y
  apply le_antisymm
  · exact Finset.sup_le fun k _ => Finset.le_sup (f := y) (Finset.mem_univ _)
  · refine Finset.sup_le fun k _ => ?_
    by_cases hk : k.val < n
    · exact Finset.le_sup (f := fun k : Fin n => y (k.castLE hn)) (Finset.mem_univ (⟨k.val, hk⟩ : Fin n))
    · rw [hy k (not_lt.mp hk)]; exact bot_le

/-- A sum whose terms beyond the first `n` are zero is the sum of the first `n`. -/
theorem sum_castLE {n N : ℕ} (hn : n ≤ N) (f : Fin N → EReal) (hf : ∀ k : Fin N, n ≤ k.val → f k = 0) :
    ∑ k : Fin n, f (k.castLE hn) = ∑ k, f k := by
  refine Finset.sum_of_injOn (fun k : Fin n => k.castLE hn) ?_ (fun _ _ => Finset.mem_coe.mpr (Finset.mem_univ _)) ?_ (fun _ _ => rfl)
  · intro a _ b _ h; exact Fin.castLE_injective hn h
  · intro k _ hk
    apply hf
    by_contra hlt
    exact hk ⟨⟨k.val, not_le.mp hlt⟩, Finset.mem_coe.mpr (Finset.mem_univ _), rfl⟩

theorem exp_nonneg (x : EReal) : 0 ≤ Ideal.exp x := by
  induction x using EReal.rec
  · exact le_refl _
  · exact EReal.coe_nonneg.mpr (Real.exp_pos _).le
  · exact le_top

theorem weight_nonneg {n : ℕ} (y : Fin n → EReal) (k : Fin n) : 0 ≤ weight y k := exp_nonneg _

theorem mass_nonneg {n : ℕ} (y : Fin n → EReal) : 0 ≤ mass y := Finset.sum_nonneg fun k _ => weight_nonneg y k

/-- Multiplying a weight by the reciprocal of the sum gives the normalised weight. -/
theorem weight_mul_recip {n : ℕ} (y : Fin n → EReal) (k : Fin n) : weight y k * Ideal.div 1 (mass y) = prob y k := by
  unfold prob
  split_ifs with h
  · unfold Ideal.div
    rw [if_neg h.ne', if_neg h.ne', one_mul]
  · have h0 : mass y = 0 := le_antisymm (not_lt.mp h) (mass_nonneg y)
    have hk : weight y k = 0 := by
      have := (Finset.sum_eq_zero_iff_of_nonneg (fun i _ => weight_nonneg y i)).mp h0
      exact this k (Finset.mem_univ k)
    rw [hk, zero_mul]

theorem weight_hidden {n : ℕ} (y : Fin n → EReal) (k : Fin n) (h : y k = ⊥) : weight y k = 0 := by
  unfold weight; rw [h, EReal.bot_sub]; rfl

theorem prob_hidden {n : ℕ} (y : Fin n → EReal) (k : Fin n) (h : y k = ⊥) : prob y k = 0 := by
  rw [← weight_mul_recip, weight_hidden y k h, zero_mul]

/-- The kernel's column: what it computes from the first `n` keys is the weighted sum over all keys. -/
theorem kernel_column {n N : ℕ} (hn : n ≤ N) (y : Fin N → EReal) (hy : ∀ k : Fin N, n ≤ k.val → y k = ⊥)
    (x : Fin n → EReal) (hx : ∀ k, x k = y (k.castLE hn) * log2e) (v : Fin n → EReal) (V : Fin N → EReal)
    (hv : ∀ k, v k = V (k.castLE hn)) :
    ∑ k, v k * (Ideal.exp2 (x k - Finset.univ.fold max ⊥ x)
      * Ideal.div 1 (∑ j, Ideal.exp2 (x j - Finset.univ.fold max ⊥ x))) = ∑ k, prob y k * V k := by
  obtain rfl : x = fun k => y (k.castLE hn) * log2e := funext hx
  rw [fold_max_scaled (fun k : Fin n => y (k.castLE hn)), colMax_castLE hn y hy]
  simp only [exp2_scaled]
  have hw : ∀ k : Fin N, Ideal.exp (y k - colMax y) = weight y k := fun _ => rfl
  simp only [hw]
  rw [sum_castLE hn (weight y) fun k hk => weight_hidden y k (hy k hk)]
  have hm : ∑ k, weight y k = mass y := rfl
  simp only [hm, weight_mul_recip, hv]
  rw [← sum_castLE hn (fun k => prob y k * V k) fun k hk => by
    show prob y k * V k = 0
    rw [prob_hidden y k (hy k hk), zero_mul]]
  exact Finset.sum_congr rfl fun k _ => mul_comm _ _

end Cert.Attn

end
-- ==== Proof.Spec.lean ====
module

public import proofs.«01_k».proof.Proof.Masks
public import proofs.«01_k».proof.Proof.Softmax
public import proofs.«01_k».proof.Proof.Scale

/-! # What both programs compute

The attention of one head for one token, and the per-token quantiser, over the extended reals and free of either
program's layout. -/

@[expose] public section

noncomputable section

open Idealize.ShloMosaic

namespace Cert.Attn

open Classical in
/-- The scores of one token of one head: the scaled inner product with every visible key, `⊥` for a hidden one. -/
def score {D : ℕ} (q : Fin D → EReal) (K : Fin 1024 → Fin D → EReal) (M : EReal) (vis : ℕ → Prop) (k : Fin 1024) : EReal :=
  if vis k.val then (∑ d, q d * K k d) * M else ⊥

/-- The values averaged with the softmax of the scores. -/
def attend (y V : Fin 1024 → EReal) : EReal := ∑ k, prob y k * V k

/-- Key `k` is not after token `t`, and it is a listed vertical key or lies a listed slash offset before the token. -/
def Visible (vert slash : ℕ → Prop) (t k : ℕ) : Prop := k ≤ t ∧ (vert k ∨ slash (t - k))

/-- The exponent of a token's scale, from its largest magnitude over 448. -/
def expo (x : EReal) : EReal :=
  if x < Ideal.ofBits FTy.f32 8388608#32 then 0
  else min (Ideal.liftRound Int.floor (Ideal.div (Ideal.log x) ((Real.log 2 : ℝ) : EReal)) + 1) (Ideal.ofBits FTy.f32 1123811328#32)

/-- A token's value quantised with exponent `e`. -/
def code (o e : EReal) : EReal :=
  min (Ideal.ofBits FTy.f32 1138753536#32) (max (Ideal.ofBits FTy.f32 3286237184#32) (o * Ideal.exp2 (0 - e)))

/-- Division by 448, as the multiplication with the rounded reciprocal. -/
abbrev recip448 : EReal := Ideal.ofBits FTy.f32 0x3B124925#32

/-- The scale of the attention scores, as the rounded constant. -/
abbrev smScale : EReal := Ideal.ofBits FTy.f32 0x3DA1E89B#32

/-- The kernel's form of one output: base-two exponentials of scores that carry the factor `1 / log 2`, over the first
`n` keys, with the mass divided out first. -/
def rawOut {n : ℕ} (x v : Fin n → EReal) : EReal :=
  ∑ k, v k * (Ideal.exp2 (x k - Finset.univ.fold max ⊥ x) * Ideal.div 1 (∑ j, Ideal.exp2 (x j - Finset.univ.fold max ⊥ x)))

open Classical in
theorem rawOut_eq {n D : ℕ} (hn : n ≤ 1024) (q : Fin D → EReal) (K : Fin 1024 → Fin D → EReal) (M : EReal)
    (vert slash : ℕ → Prop) (t : ℕ) (ht : t < n) (V : Fin 1024 → EReal) (x v : Fin n → EReal)
    (hx : ∀ k : Fin n, x k = min ((∑ d, K (k.castLE hn) d * q d) * (M * log2e)) (cap (Visible vert slash t k.val)))
    (hv : ∀ k, v k = V (k.castLE hn)) :
    rawOut x v = attend (score q K M (Visible vert slash t)) V := by
  unfold rawOut attend
  refine kernel_column hn (score q K M (Visible vert slash t)) (fun k hk => ?_) x (fun k => ?_) v V hv
  · unfold score
    rw [if_neg]
    intro h
    have := h.1
    omega
  · rw [hx, min_cap]
    unfold score
    show _ = (if Visible vert slash t k.val then _ else _) * _
    have hc : ∀ d, K (k.castLE hn) d * q d = q d * K (k.castLE hn) d := fun d => mul_comm _ _
    split_ifs with h
    · simp only [hc, mul_assoc]
    · rw [EReal.bot_mul_coe_of_pos log2_inv_pos]

end Cert.Attn

end
-- ==== Proof.Tiles.lean ====
module

public import proofs.«01_k».proof.Proof.MaskTables
public import proofs.«01_k».proof.Proof.Spec

/-! # The four token tiles of a head

The kernel takes a head's 1024 tokens in four tiles of 256 and gives tile `n` the first `256 (n + 1)` keys. This file
reads the value that each tile stores as the attention of a token over all 1024 keys. -/

@[expose] public section

set_option maxRecDepth 16384

noncomputable section

open Idealize.ShloMosaic Idealize.SL.Sem

namespace Cert.KernelIdeal.Hand

open Cert.KernelIdeal Cert.KernelIdeal.Gen Cert.Attn

theorem bottom_eq : Ideal.ofBits FTy.f32 4286578688#32 = (⊥ : EReal) := by
  simp [Ideal.ofBits, Ideal.ieee]

/-- A causal key's mask, from the two capping tables. -/
theorem masked (vert slash : ℕ → Prop) (s : EReal) (t k : ℕ) (h : k ≤ t) :
    min s (max (cap (k ≤ t ∧ slash (t - k))) (cap (vert k))) = min s (cap (Visible vert slash t k)) := by
  rw [max_cap]
  refine congrArg (min s) (cap_congr ?_)
  unfold Visible
  tauto

theorem not_causal (vert slash : ℕ → Prop) (s : EReal) (t k : ℕ) (h : ¬ k ≤ t) :
    (⊥ : EReal) = min s (cap (Visible vert slash t k)) := by
  have e : cap (Visible vert slash t k) = ⊥ := by
    unfold cap
    rw [if_neg]
    exact fun hv => h hv.1
  rw [e, min_eq_right bot_le]

theorem causal_select (a b : ℕ) (ha : a < 256) (hb : b < 256) (x y : EReal) :
    Scalar.select (IntOp.cmpi CmpIPredicate.sle (BitVec.ofNat 32 a) (BitVec.ofNat 32 b)) x y = if a ≤ b then x else y := by
  have hi : ∀ n : ℕ, n < 256 → (BitVec.ofNat 32 n).toInt = n := fun n hn => by
    rw [BitVec.toInt_eq_toNat_of_lt] <;> rw [BitVec.toNat_ofNat] <;> omega
  have e : IntOp.cmpi CmpIPredicate.sle (BitVec.ofNat 32 a) (BitVec.ofNat 32 b) = BitVec.ofBool (decide (a ≤ b)) := by
    simp only [IntOp.cmpi]
    congr 1
    rw [BitVec.sle_eq_decide, hi _ ha, hi _ hb]
    simp
  rw [e]
  by_cases hc : a ≤ b <;> simp [hc, Scalar.select]

/-- The capped scores of a tile with 256 keys. -/
def scores256 (m : EReal) (q : Vec Ideal S1x1x160x256 .fp8e4m3) (K : Vec Ideal S256x160 .fp8e4m3)
    (A1 W1 A2 W2 : Vec Ideal S256x128 .f32) : FVec Ideal S256x256 .f32 :=
  minimumf (mulf (matmul (F := Ideal) (φ₁ := .fp8e4m3) (φ₂ := .fp8e4m3) dot_S256x160_S160x256_S256x256_1_0_0_1_n_n none K (shapeCast S160x256 q shapeCasts_S1x1x160x256_S160x256)
      (constant S256x256 .f32 0x00000000#32)) (broadcast S256x256 m))
    (concatenate S256x256 1 [⟨S256x128, maximumf A1 W1⟩, ⟨S256x128, maximumf A2 W2⟩] concatenates_S256x128_S256x128_S256x256_d1)

/-- The scores with the keys after a token hidden. -/
def causal256 (S : FVec Ideal S256x256 .f32) : FVec Ideal S256x256 .f32 :=
  select (cmpi .sle (iota .tc S256x256 32 [0] iota_S256x256_d0_w32) (iota .tc S256x256 32 [1] iota_S256x256_d1_w32)) S
    (broadcast S256x256 (Named.named (F := Ideal) (φ := .f32) κ "hidden" 0xF149F2CA#32))

/-- The softmax over a tile's 256 keys and the product with the values. -/
def soft256 (X : FVec Ideal S256x256 .f32) (V : Vec Ideal S160x256 .bf16) : FVec Ideal S160x256 .f32 :=
  have e : FVec Ideal S256x256 .f32 := exp2 (subf X (broadcastTo S256x256 (shapeCast S1x256
    (multiReduction .maximumf [0] S256 X 0xFF800000#32 reduces_S256x256_S256 (.inl rfl) rfl) shapeCasts_S256_S1x256) broadcasts_S1x256_S256x256))
  matmul (F := Ideal) (φ₁ := .bf16) (φ₂ := .bf16) dot_S160x256_S256x256_S160x256_1_0_0_1_n_n none V (truncf .bf16 (mulf e (broadcastTo S256x256
    (divf (broadcast S1x256 (Scalar.ofBits (F := Ideal) .f32 0x3F800000#32)) (shapeCast S1x256
      (multiReduction .add [0] S256 e 0x00000000#32 reduces_S256x256_S256 (.inl rfl) rfl) shapeCasts_S256_S1x256)) broadcasts_S1x256_S256x256)) bitsLt_bf16_f32)
    (constant S160x256 .f32 0x00000000#32)

theorem soft256_apply (X : FVec Ideal S256x256 .f32) (V : Vec Ideal S160x256 .bf16) (d : Fin 160) (l : Fin 256) :
    soft256 X V (ix2 d l) = rawOut (fun k => X (ix2 k l)) (fun k => V (ix2 d k)) := by
  pointwise [soft256]
  unfold rawOut
  rw [bottom_eq]
  rfl

theorem causal256_apply (S : FVec Ideal S256x256 .f32) (k : Fin 256) (l : Fin 256) :
    causal256 S (ix2 k l) = if k.val ≤ 0 + l.val then S (ix2 k l) else ⊥ := by
  have hl := l.isLt
  have hk := k.isLt
  pointwise [causal256]
  rw [causal_select _ _ k.isLt l.isLt, hidden_eq]

theorem scores256_apply (m : EReal) (q : Vec Ideal S1x1x160x256 .fp8e4m3) (K : Vec Ideal S256x160 .fp8e4m3)
    (A1 W1 A2 W2 : Vec Ideal S256x128 .f32) (k : Fin 256) (l : Fin 256) :
    scores256 m q K A1 W1 A2 W2 (ix2 k l) = min ((∑ d, K (ix2 k d) * q (ix4 0 0 d l)) * m)
      (if h : l.val < 128 then max (A1 (ix2 k ⟨l.val, h⟩)) (W1 (ix2 k ⟨l.val, h⟩))
        else max (A2 (ix2 k ⟨l.val - 128, by have := l.isLt; omega⟩)) (W2 (ix2 k ⟨l.val - 128, by have := l.isLt; omega⟩))) := by
  pointwise [scores256]

/-- What the tile with 256 keys computes for channel `d` of its token `l`. -/
theorem tile256 (m : EReal) (q : Vec Ideal S1x1x160x256 .fp8e4m3) (K : Vec Ideal S256x160 .fp8e4m3)
    (A1 W1 A2 W2 : Vec Ideal S256x128 .f32) (V : Vec Ideal S160x256 .bf16) (d : Fin 160) (l : Fin 256)
    (qf : Fin 160 → EReal) (Kf : Fin 1024 → Fin 160 → EReal) (Vf : Fin 1024 → EReal) (M : EReal) (vert slash : ℕ → Prop)
    (hq : ∀ d, q (ix4 0 0 d l) = qf d) (hK : ∀ (k : Fin 256) d, K (ix2 k d) = Kf (k.castLE (by decide)) d)
    (hV : ∀ k : Fin 256, V (ix2 d k) = Vf (k.castLE (by decide))) (hm : m = M * log2e)
    (hA1 : ∀ (k : Fin 256) (l : Fin 128), A1 (ix2 k l) = cap (k.val ≤ 0 + l.val ∧ slash (0 + l.val - k.val)))
    (hA2 : ∀ (k : Fin 256) (l : Fin 128), A2 (ix2 k l) = cap (k.val ≤ 128 + l.val ∧ slash (128 + l.val - k.val)))
    (hW1 : ∀ (k : Fin 256) (l : Fin 128), W1 (ix2 k l) = cap (vert k.val))
    (hW2 : ∀ (k : Fin 256) (l : Fin 128), W2 (ix2 k l) = cap (vert k.val)) :
    soft256 (causal256 (scores256 m q K A1 W1 A2 W2)) V (ix2 d l)
      = attend (score qf Kf M (Visible vert slash (0 + l.val))) Vf := by
  rw [soft256_apply]
  refine rawOut_eq (by decide) qf Kf M vert slash _ (by have := l.isLt; omega) Vf _ _ (fun k => ?_) hV
  rw [causal256_apply, scores256_apply, hm]
  simp only [hq, hK]
  by_cases hc : k.val ≤ 0 + l.val
  · rw [if_pos hc]
    rw [← masked vert slash _ _ _ hc]
    refine congrArg (min _) ?_
    by_cases h : l.val < 128
    · rw [dif_pos h, hA1, hW1]
    · rw [dif_neg h, hA2, hW2]
      have e : 128 + (l.val - 128) = 0 + l.val := by omega
      dsimp only
      rw [e]
  · rw [if_neg hc]
    exact not_causal vert slash _ _ _ hc

/-- The capped scores of a tile with 512 keys. -/
def scores512 (m : EReal) (q : Vec Ideal S1x1x160x256 .fp8e4m3) (K : Vec Ideal S512x160 .fp8e4m3)
    (A1 W1 A2 W2 : Vec Ideal S512x128 .f32) : FVec Ideal S512x256 .f32 :=
  minimumf (mulf (matmul (F := Ideal) (φ₁ := .fp8e4m3) (φ₂ := .fp8e4m3) dot_S512x160_S160x256_S512x256_1_0_0_1_n_n none K (shapeCast S160x256 q shapeCasts_S1x1x160x256_S160x256)
      (constant S512x256 .f32 0x00000000#32)) (broadcast S512x256 m))
    (concatenate S512x256 1 [⟨S512x128, maximumf A1 W1⟩, ⟨S512x128, maximumf A2 W2⟩] concatenates_S512x128_S512x128_S512x256_d1)

/-- The scores with the keys after a token hidden. -/
def causal512 (S : FVec Ideal S512x256 .f32) : FVec Ideal S512x256 .f32 :=
  concatenate S512x256 0 [⟨S256x256, extractStridedSlice S256x256 ![0, 0] S slices_S512x256_o0_0_S256x256⟩,
    ⟨S256x256, select (cmpi .sle (iota .tc S256x256 32 [0] iota_S256x256_d0_w32) (iota .tc S256x256 32 [1] iota_S256x256_d1_w32))
      (extractStridedSlice S256x256 ![256, 0] S slices_S512x256_o256_0_S256x256)
      (broadcast S256x256 (Named.named (F := Ideal) (φ := .f32) κ "hidden" 0xF149F2CA#32))⟩] concatenates_S256x256_S256x256_S512x256_d0

/-- The softmax over a tile's 512 keys and the product with the values. -/
def soft512 (X : FVec Ideal S512x256 .f32) (V : Vec Ideal S160x512 .bf16) : FVec Ideal S160x256 .f32 :=
  have e : FVec Ideal S512x256 .f32 := exp2 (subf X (broadcastTo S512x256 (shapeCast S1x256
    (multiReduction .maximumf [0] S256 X 0xFF800000#32 reduces_S512x256_S256 (.inl rfl) rfl) shapeCasts_S256_S1x256) broadcasts_S1x256_S512x256))
  matmul (F := Ideal) (φ₁ := .bf16) (φ₂ := .bf16) dot_S160x512_S512x256_S160x256_1_0_0_1_n_n none V (truncf .bf16 (mulf e (broadcastTo S512x256
    (divf (broadcast S1x256 (Scalar.ofBits (F := Ideal) .f32 0x3F800000#32)) (shapeCast S1x256
      (multiReduction .add [0] S256 e 0x00000000#32 reduces_S512x256_S256 (.inl rfl) rfl) shapeCasts_S256_S1x256)) broadcasts_S1x256_S512x256)) bitsLt_bf16_f32)
    (constant S160x256 .f32 0x00000000#32)

theorem soft512_apply (X : FVec Ideal S512x256 .f32) (V : Vec Ideal S160x512 .bf16) (d : Fin 160) (l : Fin 256) :
    soft512 X V (ix2 d l) = rawOut (fun k => X (ix2 k l)) (fun k => V (ix2 d k)) := by
  pointwise [soft512]
  unfold rawOut
  rw [bottom_eq]
  rfl

theorem causal512_apply (S : FVec Ideal S512x256 .f32) (k : Fin 512) (l : Fin 256) :
    causal512 S (ix2 k l) = if k.val ≤ 256 + l.val then S (ix2 k l) else ⊥ := by
  have hl := l.isLt
  have hk := k.isLt
  pointwise [causal512]
  by_cases h : k.val < 256
  · rw [dif_pos h, if_pos (by omega)]
  · rw [dif_neg h, causal_select _ _ (by omega) hl, hidden_eq]
    have e : (⟨256 + (k.val - 256), by omega⟩ : Fin 512) = k := Fin.ext (by show 256 + (k.val - 256) = k.val; omega)
    rw [e]
    by_cases hc : k.val ≤ 256 + l.val
    · rw [if_pos (by omega), if_pos hc]
    · rw [if_neg (by omega), if_neg hc]

theorem scores512_apply (m : EReal) (q : Vec Ideal S1x1x160x256 .fp8e4m3) (K : Vec Ideal S512x160 .fp8e4m3)
    (A1 W1 A2 W2 : Vec Ideal S512x128 .f32) (k : Fin 512) (l : Fin 256) :
    scores512 m q K A1 W1 A2 W2 (ix2 k l) = min ((∑ d, K (ix2 k d) * q (ix4 0 0 d l)) * m)
      (if h : l.val < 128 then max (A1 (ix2 k ⟨l.val, h⟩)) (W1 (ix2 k ⟨l.val, h⟩))
        else max (A2 (ix2 k ⟨l.val - 128, by have := l.isLt; omega⟩)) (W2 (ix2 k ⟨l.val - 128, by have := l.isLt; omega⟩))) := by
  pointwise [scores512]

/-- What the tile with 512 keys computes for channel `d` of its token `l`. -/
theorem tile512 (m : EReal) (q : Vec Ideal S1x1x160x256 .fp8e4m3) (K : Vec Ideal S512x160 .fp8e4m3)
    (A1 W1 A2 W2 : Vec Ideal S512x128 .f32) (V : Vec Ideal S160x512 .bf16) (d : Fin 160) (l : Fin 256)
    (qf : Fin 160 → EReal) (Kf : Fin 1024 → Fin 160 → EReal) (Vf : Fin 1024 → EReal) (M : EReal) (vert slash : ℕ → Prop)
    (hq : ∀ d, q (ix4 0 0 d l) = qf d) (hK : ∀ (k : Fin 512) d, K (ix2 k d) = Kf (k.castLE (by decide)) d)
    (hV : ∀ k : Fin 512, V (ix2 d k) = Vf (k.castLE (by decide))) (hm : m = M * log2e)
    (hA1 : ∀ (k : Fin 512) (l : Fin 128), A1 (ix2 k l) = cap (k.val ≤ 256 + l.val ∧ slash (256 + l.val - k.val)))
    (hA2 : ∀ (k : Fin 512) (l : Fin 128), A2 (ix2 k l) = cap (k.val ≤ 384 + l.val ∧ slash (384 + l.val - k.val)))
    (hW1 : ∀ (k : Fin 512) (l : Fin 128), W1 (ix2 k l) = cap (vert k.val))
    (hW2 : ∀ (k : Fin 512) (l : Fin 128), W2 (ix2 k l) = cap (vert k.val)) :
    soft512 (causal512 (scores512 m q K A1 W1 A2 W2)) V (ix2 d l)
      = attend (score qf Kf M (Visible vert slash (256 + l.val))) Vf := by
  rw [soft512_apply]
  refine rawOut_eq (by decide) qf Kf M vert slash _ (by have := l.isLt; omega) Vf _ _ (fun k => ?_) hV
  rw [causal512_apply, scores512_apply, hm]
  simp only [hq, hK]
  by_cases hc : k.val ≤ 256 + l.val
  · rw [if_pos hc]
    rw [← masked vert slash _ _ _ hc]
    refine congrArg (min _) ?_
    by_cases h : l.val < 128
    · rw [dif_pos h, hA1, hW1]
    · rw [dif_neg h, hA2, hW2]
      have e : 384 + (l.val - 128) = 256 + l.val := by omega
      dsimp only
      rw [e]
  · rw [if_neg hc]
    exact not_causal vert slash _ _ _ hc

/-- The capped scores of a tile with 768 keys. -/
def scores768 (m : EReal) (q : Vec Ideal S1x1x160x256 .fp8e4m3) (K : Vec Ideal S768x160 .fp8e4m3)
    (A1 W1 A2 W2 : Vec Ideal S768x128 .f32) : FVec Ideal S768x256 .f32 :=
  minimumf (mulf (matmul (F := Ideal) (φ₁ := .fp8e4m3) (φ₂ := .fp8e4m3) dot_S768x160_S160x256_S768x256_1_0_0_1_n_n none K (shapeCast S160x256 q shapeCasts_S1x1x160x256_S160x256)
      (constant S768x256 .f32 0x00000000#32)) (broadcast S768x256 m))
    (concatenate S768x256 1 [⟨S768x128, maximumf A1 W1⟩, ⟨S768x128, maximumf A2 W2⟩] concatenates_S768x128_S768x128_S768x256_d1)

/-- The scores with the keys after a token hidden. -/
def causal768 (S : FVec Ideal S768x256 .f32) : FVec Ideal S768x256 .f32 :=
  concatenate S768x256 0 [⟨S512x256, extractStridedSlice S512x256 ![0, 0] S slices_S768x256_o0_0_S512x256⟩,
    ⟨S256x256, select (cmpi .sle (iota .tc S256x256 32 [0] iota_S256x256_d0_w32) (iota .tc S256x256 32 [1] iota_S256x256_d1_w32))
      (extractStridedSlice S256x256 ![512, 0] S slices_S768x256_o512_0_S256x256)
      (broadcast S256x256 (Named.named (F := Ideal) (φ := .f32) κ "hidden" 0xF149F2CA#32))⟩] concatenates_S512x256_S256x256_S768x256_d0

/-- The softmax over a tile's 768 keys and the product with the values. -/
def soft768 (X : FVec Ideal S768x256 .f32) (V : Vec Ideal S160x768 .bf16) : FVec Ideal S160x256 .f32 :=
  have e : FVec Ideal S768x256 .f32 := exp2 (subf X (broadcastTo S768x256 (shapeCast S1x256
    (multiReduction .maximumf [0] S256 X 0xFF800000#32 reduces_S768x256_S256 (.inl rfl) rfl) shapeCasts_S256_S1x256) broadcasts_S1x256_S768x256))
  matmul (F := Ideal) (φ₁ := .bf16) (φ₂ := .bf16) dot_S160x768_S768x256_S160x256_1_0_0_1_n_n none V (truncf .bf16 (mulf e (broadcastTo S768x256
    (divf (broadcast S1x256 (Scalar.ofBits (F := Ideal) .f32 0x3F800000#32)) (shapeCast S1x256
      (multiReduction .add [0] S256 e 0x00000000#32 reduces_S768x256_S256 (.inl rfl) rfl) shapeCasts_S256_S1x256)) broadcasts_S1x256_S768x256)) bitsLt_bf16_f32)
    (constant S160x256 .f32 0x00000000#32)

theorem soft768_apply (X : FVec Ideal S768x256 .f32) (V : Vec Ideal S160x768 .bf16) (d : Fin 160) (l : Fin 256) :
    soft768 X V (ix2 d l) = rawOut (fun k => X (ix2 k l)) (fun k => V (ix2 d k)) := by
  pointwise [soft768]
  unfold rawOut
  rw [bottom_eq]
  rfl

theorem causal768_apply (S : FVec Ideal S768x256 .f32) (k : Fin 768) (l : Fin 256) :
    causal768 S (ix2 k l) = if k.val ≤ 512 + l.val then S (ix2 k l) else ⊥ := by
  have hl := l.isLt
  have hk := k.isLt
  pointwise [causal768]
  by_cases h : k.val < 512
  · rw [dif_pos h, if_pos (by omega)]
  · rw [dif_neg h, causal_select _ _ (by omega) hl, hidden_eq]
    have e : (⟨512 + (k.val - 512), by omega⟩ : Fin 768) = k := Fin.ext (by show 512 + (k.val - 512) = k.val; omega)
    rw [e]
    by_cases hc : k.val ≤ 512 + l.val
    · rw [if_pos (by omega), if_pos hc]
    · rw [if_neg (by omega), if_neg hc]

theorem scores768_apply (m : EReal) (q : Vec Ideal S1x1x160x256 .fp8e4m3) (K : Vec Ideal S768x160 .fp8e4m3)
    (A1 W1 A2 W2 : Vec Ideal S768x128 .f32) (k : Fin 768) (l : Fin 256) :
    scores768 m q K A1 W1 A2 W2 (ix2 k l) = min ((∑ d, K (ix2 k d) * q (ix4 0 0 d l)) * m)
      (if h : l.val < 128 then max (A1 (ix2 k ⟨l.val, h⟩)) (W1 (ix2 k ⟨l.val, h⟩))
        else max (A2 (ix2 k ⟨l.val - 128, by have := l.isLt; omega⟩)) (W2 (ix2 k ⟨l.val - 128, by have := l.isLt; omega⟩))) := by
  pointwise [scores768]

/-- What the tile with 768 keys computes for channel `d` of its token `l`. -/
theorem tile768 (m : EReal) (q : Vec Ideal S1x1x160x256 .fp8e4m3) (K : Vec Ideal S768x160 .fp8e4m3)
    (A1 W1 A2 W2 : Vec Ideal S768x128 .f32) (V : Vec Ideal S160x768 .bf16) (d : Fin 160) (l : Fin 256)
    (qf : Fin 160 → EReal) (Kf : Fin 1024 → Fin 160 → EReal) (Vf : Fin 1024 → EReal) (M : EReal) (vert slash : ℕ → Prop)
    (hq : ∀ d, q (ix4 0 0 d l) = qf d) (hK : ∀ (k : Fin 768) d, K (ix2 k d) = Kf (k.castLE (by decide)) d)
    (hV : ∀ k : Fin 768, V (ix2 d k) = Vf (k.castLE (by decide))) (hm : m = M * log2e)
    (hA1 : ∀ (k : Fin 768) (l : Fin 128), A1 (ix2 k l) = cap (k.val ≤ 512 + l.val ∧ slash (512 + l.val - k.val)))
    (hA2 : ∀ (k : Fin 768) (l : Fin 128), A2 (ix2 k l) = cap (k.val ≤ 640 + l.val ∧ slash (640 + l.val - k.val)))
    (hW1 : ∀ (k : Fin 768) (l : Fin 128), W1 (ix2 k l) = cap (vert k.val))
    (hW2 : ∀ (k : Fin 768) (l : Fin 128), W2 (ix2 k l) = cap (vert k.val)) :
    soft768 (causal768 (scores768 m q K A1 W1 A2 W2)) V (ix2 d l)
      = attend (score qf Kf M (Visible vert slash (512 + l.val))) Vf := by
  rw [soft768_apply]
  refine rawOut_eq (by decide) qf Kf M vert slash _ (by have := l.isLt; omega) Vf _ _ (fun k => ?_) hV
  rw [causal768_apply, scores768_apply, hm]
  simp only [hq, hK]
  by_cases hc : k.val ≤ 512 + l.val
  · rw [if_pos hc]
    rw [← masked vert slash _ _ _ hc]
    refine congrArg (min _) ?_
    by_cases h : l.val < 128
    · rw [dif_pos h, hA1, hW1]
    · rw [dif_neg h, hA2, hW2]
      have e : 640 + (l.val - 128) = 512 + l.val := by omega
      dsimp only
      rw [e]
  · rw [if_neg hc]
    exact not_causal vert slash _ _ _ hc

/-- The capped scores of a tile with 1024 keys. -/
def scores1024 (m : EReal) (q : Vec Ideal S1x1x160x256 .fp8e4m3) (K : Vec Ideal S1024x160 .fp8e4m3)
    (A1 W1 A2 W2 : Vec Ideal S1024x128 .f32) : FVec Ideal S1024x256 .f32 :=
  minimumf (mulf (matmul (F := Ideal) (φ₁ := .fp8e4m3) (φ₂ := .fp8e4m3) dot_S1024x160_S160x256_S1024x256_1_0_0_1_n_n none K (shapeCast S160x256 q shapeCasts_S1x1x160x256_S160x256)
      (constant S1024x256 .f32 0x00000000#32)) (broadcast S1024x256 m))
    (concatenate S1024x256 1 [⟨S1024x128, maximumf A1 W1⟩, ⟨S1024x128, maximumf A2 W2⟩] concatenates_S1024x128_S1024x128_S1024x256_d1)

/-- The scores with the keys after a token hidden. -/
def causal1024 (S : FVec Ideal S1024x256 .f32) : FVec Ideal S1024x256 .f32 :=
  concatenate S1024x256 0 [⟨S768x256, extractStridedSlice S768x256 ![0, 0] S slices_S1024x256_o0_0_S768x256⟩,
    ⟨S256x256, select (cmpi .sle (iota .tc S256x256 32 [0] iota_S256x256_d0_w32) (iota .tc S256x256 32 [1] iota_S256x256_d1_w32))
      (extractStridedSlice S256x256 ![768, 0] S slices_S1024x256_o768_0_S256x256)
      (broadcast S256x256 (Named.named (F := Ideal) (φ := .f32) κ "hidden" 0xF149F2CA#32))⟩] concatenates_S768x256_S256x256_S1024x256_d0

/-- The softmax over a tile's 1024 keys and the product with the values. -/
def soft1024 (X : FVec Ideal S1024x256 .f32) (V : Vec Ideal S160x1024 .bf16) : FVec Ideal S160x256 .f32 :=
  have e : FVec Ideal S1024x256 .f32 := exp2 (subf X (broadcastTo S1024x256 (shapeCast S1x256
    (multiReduction .maximumf [0] S256 X 0xFF800000#32 reduces_S1024x256_S256 (.inl rfl) rfl) shapeCasts_S256_S1x256) broadcasts_S1x256_S1024x256))
  matmul (F := Ideal) (φ₁ := .bf16) (φ₂ := .bf16) dot_S160x1024_S1024x256_S160x256_1_0_0_1_n_n none V (truncf .bf16 (mulf e (broadcastTo S1024x256
    (divf (broadcast S1x256 (Scalar.ofBits (F := Ideal) .f32 0x3F800000#32)) (shapeCast S1x256
      (multiReduction .add [0] S256 e 0x00000000#32 reduces_S1024x256_S256 (.inl rfl) rfl) shapeCasts_S256_S1x256)) broadcasts_S1x256_S1024x256)) bitsLt_bf16_f32)
    (constant S160x256 .f32 0x00000000#32)

theorem soft1024_apply (X : FVec Ideal S1024x256 .f32) (V : Vec Ideal S160x1024 .bf16) (d : Fin 160) (l : Fin 256) :
    soft1024 X V (ix2 d l) = rawOut (fun k => X (ix2 k l)) (fun k => V (ix2 d k)) := by
  pointwise [soft1024]
  unfold rawOut
  rw [bottom_eq]
  rfl

theorem causal1024_apply (S : FVec Ideal S1024x256 .f32) (k : Fin 1024) (l : Fin 256) :
    causal1024 S (ix2 k l) = if k.val ≤ 768 + l.val then S (ix2 k l) else ⊥ := by
  have hl := l.isLt
  have hk := k.isLt
  pointwise [causal1024]
  by_cases h : k.val < 768
  · rw [dif_pos h, if_pos (by omega)]
  · rw [dif_neg h, causal_select _ _ (by omega) hl, hidden_eq]
    have e : (⟨768 + (k.val - 768), by omega⟩ : Fin 1024) = k := Fin.ext (by show 768 + (k.val - 768) = k.val; omega)
    rw [e]
    by_cases hc : k.val ≤ 768 + l.val
    · rw [if_pos (by omega), if_pos hc]
    · rw [if_neg (by omega), if_neg hc]

theorem scores1024_apply (m : EReal) (q : Vec Ideal S1x1x160x256 .fp8e4m3) (K : Vec Ideal S1024x160 .fp8e4m3)
    (A1 W1 A2 W2 : Vec Ideal S1024x128 .f32) (k : Fin 1024) (l : Fin 256) :
    scores1024 m q K A1 W1 A2 W2 (ix2 k l) = min ((∑ d, K (ix2 k d) * q (ix4 0 0 d l)) * m)
      (if h : l.val < 128 then max (A1 (ix2 k ⟨l.val, h⟩)) (W1 (ix2 k ⟨l.val, h⟩))
        else max (A2 (ix2 k ⟨l.val - 128, by have := l.isLt; omega⟩)) (W2 (ix2 k ⟨l.val - 128, by have := l.isLt; omega⟩))) := by
  pointwise [scores1024]

/-- What the tile with 1024 keys computes for channel `d` of its token `l`. -/
theorem tile1024 (m : EReal) (q : Vec Ideal S1x1x160x256 .fp8e4m3) (K : Vec Ideal S1024x160 .fp8e4m3)
    (A1 W1 A2 W2 : Vec Ideal S1024x128 .f32) (V : Vec Ideal S160x1024 .bf16) (d : Fin 160) (l : Fin 256)
    (qf : Fin 160 → EReal) (Kf : Fin 1024 → Fin 160 → EReal) (Vf : Fin 1024 → EReal) (M : EReal) (vert slash : ℕ → Prop)
    (hq : ∀ d, q (ix4 0 0 d l) = qf d) (hK : ∀ (k : Fin 1024) d, K (ix2 k d) = Kf (k.castLE (by decide)) d)
    (hV : ∀ k : Fin 1024, V (ix2 d k) = Vf (k.castLE (by decide))) (hm : m = M * log2e)
    (hA1 : ∀ (k : Fin 1024) (l : Fin 128), A1 (ix2 k l) = cap (k.val ≤ 768 + l.val ∧ slash (768 + l.val - k.val)))
    (hA2 : ∀ (k : Fin 1024) (l : Fin 128), A2 (ix2 k l) = cap (k.val ≤ 896 + l.val ∧ slash (896 + l.val - k.val)))
    (hW1 : ∀ (k : Fin 1024) (l : Fin 128), W1 (ix2 k l) = cap (vert k.val))
    (hW2 : ∀ (k : Fin 1024) (l : Fin 128), W2 (ix2 k l) = cap (vert k.val)) :
    soft1024 (causal1024 (scores1024 m q K A1 W1 A2 W2)) V (ix2 d l)
      = attend (score qf Kf M (Visible vert slash (768 + l.val))) Vf := by
  rw [soft1024_apply]
  refine rawOut_eq (by decide) qf Kf M vert slash _ (by have := l.isLt; omega) Vf _ _ (fun k => ?_) hV
  rw [causal1024_apply, scores1024_apply, hm]
  simp only [hq, hK]
  by_cases hc : k.val ≤ 768 + l.val
  · rw [if_pos hc]
    rw [← masked vert slash _ _ _ hc]
    refine congrArg (min _) ?_
    by_cases h : l.val < 128
    · rw [dif_pos h, hA1, hW1]
    · rw [dif_neg h, hA2, hW2]
      have e : 896 + (l.val - 128) = 768 + l.val := by omega
      dsimp only
      rw [e]
  · rw [if_neg hc]
    exact not_causal vert slash _ _ _ hc

theorem tile0_payload (m : EReal) (q : Vec Ideal S1x1x160x256 .fp8e4m3) (K : Vec Ideal S256x160 .fp8e4m3)
    (A1 W1 A2 W2 : Vec Ideal S256x128 .f32) (V : Vec Ideal S160x256 .bf16) :
    k0_pay336 (F := Ideal) m (k0_pay335 q) K A1 W1 A2 W2 V = soft256 (causal256 (scores256 m q K A1 W1 A2 W2)) V := rfl

theorem tile1_payload (m : EReal) (q : Vec Ideal S1x1x160x256 .fp8e4m3) (K : Vec Ideal S512x160 .fp8e4m3)
    (A1 W1 A2 W2 : Vec Ideal S512x128 .f32) (V : Vec Ideal S160x512 .bf16) :
    k0_pay342 (F := Ideal) (k0_pay340 m q K A1 W1 A2 W2) (k0_pay341 m q K A1 W1 A2 W2) V
      = soft512 (causal512 (scores512 m q K A1 W1 A2 W2)) V := rfl

theorem tile2_payload (m : EReal) (q : Vec Ideal S1x1x160x256 .fp8e4m3) (K : Vec Ideal S768x160 .fp8e4m3)
    (A1 W1 A2 W2 : Vec Ideal S768x128 .f32) (V : Vec Ideal S160x768 .bf16) :
    k0_pay346 (F := Ideal) (k0_pay345 m q K A1 W1 A2 W2) (iota .tc S256x256 32 [0] iota_S256x256_d0_w32)
      (iota .tc S256x256 32 [1] iota_S256x256_d1_w32) V = soft768 (causal768 (scores768 m q K A1 W1 A2 W2)) V := rfl

theorem tile3_payload (m : EReal) (q : Vec Ideal S1x1x160x256 .fp8e4m3) (K : Vec Ideal S1024x160 .fp8e4m3)
    (A1 W1 A2 W2 : Vec Ideal S1024x128 .f32) (V : Vec Ideal S160x1024 .bf16) :
    k0_pay350 (F := Ideal) m (k0_pay349 q K) A1 W1 A2 W2 V = soft1024 (causal1024 (scores1024 m q K A1 W1 A2 W2)) V := rfl

/-- The largest magnitude over the channels. -/
def topMag (o : Fin 160 → EReal) : EReal := Finset.univ.fold max ⊥ fun d => max (o d) (-(o d))

/-- The row of largest magnitudes that a tile leaves for its head. -/
def magRow (w : FVec Ideal S160x256 .f32) (s : EReal) : FVec Ideal S1x256 .f32 :=
  mulf (shapeCast S1x256 (multiReduction .maximumf [0] S256 (absf w) 0xFF800000#32 reduces_S160x256_S256 (.inl rfl) rfl) shapeCasts_S256_S1x256)
    (broadcast S1x256 (Scalar.absf (F := Ideal) (φ := .f32) s))

theorem magRow_apply (w : FVec Ideal S160x256 .f32) (s : EReal) (l : Fin 256) :
    magRow w s (ix2 0 l) = topMag (fun d => w (ix2 d l)) * max s (-s) := by
  pointwise [magRow]
  rw [bottom_eq]
  rfl

end Cert.KernelIdeal.Hand

end
-- ==== Proof.TripTiles.lean ====
module

public import proofs.«01_k».proof.Proof.Tiles

/-! # The tiles of a trip over the heads

A trip over the heads computes four tiles of its head, each 256 tokens wide. Every entry of a tile is the attention of its
token in its channel. -/

@[expose] public section

set_option maxRecDepth 16384

noncomputable section

open Idealize.ShloMosaic Idealize.SL.Sem

namespace Cert.KernelIdeal.Hand

open Cert.KernelIdeal Cert.KernelIdeal.Gen Cert.Attn

/-- The number of the head that a trip works on. -/
theorem head_word (g : Fin 8) (k : Fin 4) :
    (Scalar.indexCast (Scalar.addi (Scalar.muli (BitVec.ofNat 32 g.val) 4#32) (Scf.iv 0#32 1#32 k))).toNat = 4 * g.val + k.val := by
  revert g k; decide

/-- An index of rank 2 with the given coordinates. -/
theorem ix2_of_vals {n0 n1 : ℕ} (x : (⟨2, ![n0, n1]⟩ : Shape).Idx) (a : Fin n0) (b : Fin n1)
    (h0 : (x 0).val = a.val) (h1 : (x 1).val = b.val) : x = ix2 a b := by
  rw [eq_ix2 (n0 := n0) (n1 := n1) x, show x 0 = a from Fin.ext h0, show x 1 = b from Fin.ext h1]

/-- An index of rank 3 with the given coordinates. -/
theorem ix3_of_vals {n0 n1 n2 : ℕ} (x : (⟨3, ![n0, n1, n2]⟩ : Shape).Idx) (a : Fin n0) (b : Fin n1) (c : Fin n2)
    (h0 : (x 0).val = a.val) (h1 : (x 1).val = b.val) (h2 : (x 2).val = c.val) : x = ix3 a b c := by
  rw [eq_ix3 (n0 := n0) (n1 := n1) (n2 := n2) x, show x 0 = a from Fin.ext h0, show x 1 = b from Fin.ext h1, show x 2 = c from Fin.ext h2]

/-- An index of rank 4 with the given coordinates. -/
theorem ix4_of_vals {n0 n1 n2 n3 : ℕ} (x : (⟨4, ![n0, n1, n2, n3]⟩ : Shape).Idx) (a : Fin n0) (b : Fin n1) (c : Fin n2) (d : Fin n3)
    (h0 : (x 0).val = a.val) (h1 : (x 1).val = b.val) (h2 : (x 2).val = c.val) (h3 : (x 3).val = d.val) : x = ix4 a b c d := by
  rw [eq_ix4 (n0 := n0) (n1 := n1) (n2 := n2) (n3 := n3) x, show x 0 = a from Fin.ext h0, show x 1 = b from Fin.ext h1,
    show x 2 = c from Fin.ext h2, show x 3 = d from Fin.ext h3]

theorem trip_word (k : Fin 4) : (Scalar.indexCast (Scf.iv 0#32 1#32 k)).toNat = k.val := by
  revert k; decide

section
variable (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole)
  (v12 v13 : IVec S8x128 32)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X19 : BufTy.Contents (Elt Ideal) arg19.view.ty) (X20 : BufTy.Contents (Elt Ideal) arg20.view.ty)

/-- The tokens' queries of head `k` of the block. -/
def qOf (k : Fin k0_t1_loop.trips) (t : Fin 1024) (d : Fin 160) : EReal := arg9.view.read (Elt Ideal) X9 (ix4 0 k d t)

/-- The keys, as the first scratch buffer holds them. -/
def kOf (x : Fin 1024) (d : Fin 160) : EReal := arg19.view.read (Elt Ideal) X19 (ix2 x d)

/-- The values of one channel, as the second scratch buffer holds them. -/
def vOf (d : Fin 160) (x : Fin 1024) : EReal := arg20.view.read (Elt Ideal) X20 (ix2 d x)

/-- The scale of head `k`'s scores. -/
def multOf (k : Fin k0_t1_loop.trips) : EReal :=
  trip_k0_t1.sl.r_5 (F := Ideal) i arg2 X2 k * trip_k0_t1.sl.r_6 (F := Ideal) i arg3 X3 * smScale

/-- The attention of head `k`'s token `t`, channel `d`. -/
def headOut (k : Fin k0_t1_loop.trips) (d : Fin 160) (t : Fin 1024) : EReal :=
  attend (score (qOf arg9 X9 k t) (kOf arg19 X19) (multOf i arg2 arg3 X2 X3 k)
    (Visible (VerticalAt i arg5 arg7 X5 X7 k) (SlashAt i arg6 arg8 X6 X8 k) t.val)) (vOf arg20 X20 d)

/-- The largest magnitude of head `k`'s token `t`, value scale included. -/
def headMag (k : Fin k0_t1_loop.trips) (t : Fin 1024) : EReal :=
  topMag (fun d => headOut i arg2 arg3 arg5 arg6 arg7 arg8 arg9 arg19 arg20 X2 X3 X5 X6 X7 X8 X9 X19 X20 k d t)
    * max (trip_k0_t1.sl.r_7 (F := Ideal) i arg4 X4) (-(trip_k0_t1.sl.r_7 (F := Ideal) i arg4 X4))

/-- The scale that the kernel multiplies by carries the factor log2 e as well. -/
theorem scale_word (k : Fin k0_t1_loop.trips) :
    trip_k0_t1.sl.r_8 (F := Ideal) i arg2 arg3 X2 X3 k = multOf i arg2 arg3 X2 X3 k * log2e := by
  exact congrArg (fun c => multOf i arg2 arg3 X2 X3 k * c) log2e_eq

/-- The tile with 256 keys of head `k`, as the trip computes it. -/
def tileOf256 (k : Fin k0_t1_loop.trips) : FVec Ideal S160x256 .f32 :=
  soft256 (causal256 (scores256 (trip_k0_t1.sl.r_8 (F := Ideal) i arg2 arg3 X2 X3 k)
    (View.readAt (Elt Ideal) arg9.view (Rect.unit (s := S1x4x160x1024) (k0_off5 k) S1x1x160x256.size (k0_off5_inb k)).toLoadRect X9)
    (View.readAt (Elt Ideal) arg19.view (Rect.unit (s := S1024x160) ![0, 0] S256x160.size (by decide)).toLoadRect X19)
    (arg16.view.readCov (trip_k0_t1.sl.HW_arg16_144 (F := Ideal) i arg6 arg8 arg17 v12 v13 X6 X8 k) (Rect.unit (s := S1152x128) ![896, 0] S256x128.size (by decide)).toLoadRect)
    (arg18.view.readCov (trip_k0_t1.sl.HW_arg18_8 (F := Ideal) i arg5 arg7 X5 X7 k) (Rect.unit (s := S1024x128) ![0, 0] S256x128.size (by decide)).toLoadRect)
    (arg16.view.readCov (trip_k0_t1.sl.HW_arg16_144 (F := Ideal) i arg6 arg8 arg17 v12 v13 X6 X8 k) (Rect.unit (s := S1152x128) ![768, 0] S256x128.size (by decide)).toLoadRect)
    (arg18.view.readCov (trip_k0_t1.sl.HW_arg18_8 (F := Ideal) i arg5 arg7 X5 X7 k) (Rect.unit (s := S1024x128) ![0, 0] S256x128.size (by decide)).toLoadRect)))
    (View.readAt (Elt Ideal) arg20.view (Rect.unit (s := S160x1024) ![0, 0] S160x256.size (by decide)).toLoadRect X20)

theorem tileOf256_apply (h12 : ∀ y, v12 y = BitVec.ofNat 32 (y 1).val) (h13 : ∀ y, v13 y = BitVec.ofNat 32 (y 0).val)
    (k : Fin k0_t1_loop.trips) (d : Fin 160) (l : Fin 256) (t : Fin 1024) (ht : t.val = 0 + l.val) :
    tileOf256 i arg2 arg3 arg5 arg6 arg7 arg8 arg9 arg16 arg17 arg18 arg19 arg20 v12 v13 X2 X3 X5 X6 X7 X8 X9 X19 X20 k (ix2 d l)
      = headOut i arg2 arg3 arg5 arg6 arg7 arg8 arg9 arg19 arg20 X2 X3 X5 X6 X7 X8 X9 X19 X20 k d t := by
  have hq : ∀ d', View.readAt (Elt Ideal) arg9.view (Rect.unit (s := S1x4x160x1024) (k0_off5 k) S1x1x160x256.size (k0_off5_inb k)).toLoadRect X9
      (ix4 0 0 d' l) = qOf arg9 X9 k t d' := fun d' => by
    rw [View.readAt_unit arg9.view X9 (k0_off5_inb k) rfl (k0_off5_inb k)]
    unfold VecWindow.window qOf
    congr 1
    refine ix4_of_vals _ _ _ _ _ ?_ ?_ ?_ ?_
    · show k0_off5 k 0 + 1 * 0 = 0; rfl
    · show k0_off5 k 1 + 1 * 0 = k.val
      exact (trip_word k).trans (by omega)
    · show 0 + 1 * d'.val = d'.val; omega
    · show 0 + 1 * l.val = t.val; omega
  have hK : ∀ (x : Fin 256) (d' : Fin 160), View.readAt (Elt Ideal) arg19.view (Rect.unit (s := S1024x160) ![0, 0] S256x160.size (by decide)).toLoadRect X19
      (ix2 x d') = kOf arg19 X19 (x.castLE (by decide)) d' := fun x d' => by
    rw [View.readAt_unit arg19.view X19 (off := ![0, 0]) (size := S256x160.size) (by decide) rfl (by decide)]
    unfold VecWindow.window kOf
    congr 1
    refine ix2_of_vals _ _ _ ?_ ?_
    · show 0 + 1 * x.val = x.val; omega
    · show 0 + 1 * d'.val = d'.val; omega
  have hV : ∀ x : Fin 256, View.readAt (Elt Ideal) arg20.view (Rect.unit (s := S160x1024) ![0, 0] S160x256.size (by decide)).toLoadRect X20
      (ix2 d x) = vOf arg20 X20 d (x.castLE (by decide)) := fun x => by
    rw [View.readAt_unit arg20.view X20 (off := ![0, 0]) (size := S160x256.size) (by decide) rfl (by decide)]
    unfold VecWindow.window vOf
    congr 1
    refine ix2_of_vals _ _ _ ?_ ?_
    · show 0 + 1 * d.val = d.val; omega
    · show 0 + 1 * x.val = x.val; omega
  have hA1 : ∀ (a : Fin 256) (l : Fin 128), arg16.view.readCov (trip_k0_t1.sl.HW_arg16_144 (F := Ideal) i arg6 arg8 arg17 v12 v13 X6 X8 k) (Rect.unit (s := S1152x128) ![896, 0] S256x128.size (by decide)).toLoadRect (ix2 a l)
      = cap (a.val ≤ 0 + l.val ∧ SlashAt i arg6 arg8 X6 X8 k (0 + l.val - a.val)) := fun a l => by
    refine (read_turnedSlash i arg6 arg8 arg16 arg17 v12 v13 X6 X8 k h12 h13 896 256 (by decide) a l).trans (cap_congr ?_)
    rw [show 896 + l.val - (896 + a.val) = 0 + l.val - a.val by omega]
    exact and_congr_left fun _ => by omega
  have hA2 : ∀ (a : Fin 256) (l : Fin 128), arg16.view.readCov (trip_k0_t1.sl.HW_arg16_144 (F := Ideal) i arg6 arg8 arg17 v12 v13 X6 X8 k) (Rect.unit (s := S1152x128) ![768, 0] S256x128.size (by decide)).toLoadRect (ix2 a l)
      = cap (a.val ≤ 128 + l.val ∧ SlashAt i arg6 arg8 X6 X8 k (128 + l.val - a.val)) := fun a l => by
    refine (read_turnedSlash i arg6 arg8 arg16 arg17 v12 v13 X6 X8 k h12 h13 768 256 (by decide) a l).trans (cap_congr ?_)
    rw [show 896 + l.val - (768 + a.val) = 128 + l.val - a.val by omega]
    exact and_congr_left fun _ => by omega
  have hW : ∀ (a : Fin 256) (l : Fin 128), arg18.view.readCov (trip_k0_t1.sl.HW_arg18_8 (F := Ideal) i arg5 arg7 X5 X7 k) (Rect.unit (s := S1024x128) ![0, 0] S256x128.size (by decide)).toLoadRect (ix2 a l)
      = cap (VerticalAt i arg5 arg7 X5 X7 k a.val) := fun a l =>
    read_verticalKeys i arg5 arg7 arg18 X5 X7 k 256 (by decide) a l
  unfold tileOf256
  refine (tile256 _ _ _ _ _ _ _ _ d l _ _ _ _ _ _ hq hK hV (scale_word i arg2 arg3 X2 X3 k) hA1 hA2 hW hW).trans ?_
  unfold headOut
  rw [ht]

/-- The tile with 512 keys of head `k`, as the trip computes it. -/
def tileOf512 (k : Fin k0_t1_loop.trips) : FVec Ideal S160x256 .f32 :=
  soft512 (causal512 (scores512 (trip_k0_t1.sl.r_8 (F := Ideal) i arg2 arg3 X2 X3 k)
    (View.readAt (Elt Ideal) arg9.view (Rect.unit (s := S1x4x160x1024) (k0_off8 k) S1x1x160x256.size (k0_off8_inb k)).toLoadRect X9)
    (View.readAt (Elt Ideal) arg19.view (Rect.unit (s := S1024x160) ![0, 0] S512x160.size (by decide)).toLoadRect X19)
    (arg16.view.readCov (trip_k0_t1.sl.HW_arg16_144 (F := Ideal) i arg6 arg8 arg17 v12 v13 X6 X8 k) (Rect.unit (s := S1152x128) ![640, 0] S512x128.size (by decide)).toLoadRect)
    (arg18.view.readCov (trip_k0_t1.sl.HW_arg18_8 (F := Ideal) i arg5 arg7 X5 X7 k) (Rect.unit (s := S1024x128) ![0, 0] S512x128.size (by decide)).toLoadRect)
    (arg16.view.readCov (trip_k0_t1.sl.HW_arg16_144 (F := Ideal) i arg6 arg8 arg17 v12 v13 X6 X8 k) (Rect.unit (s := S1152x128) ![512, 0] S512x128.size (by decide)).toLoadRect)
    (arg18.view.readCov (trip_k0_t1.sl.HW_arg18_8 (F := Ideal) i arg5 arg7 X5 X7 k) (Rect.unit (s := S1024x128) ![0, 0] S512x128.size (by decide)).toLoadRect)))
    (View.readAt (Elt Ideal) arg20.view (Rect.unit (s := S160x1024) ![0, 0] S160x512.size (by decide)).toLoadRect X20)

theorem tileOf512_apply (h12 : ∀ y, v12 y = BitVec.ofNat 32 (y 1).val) (h13 : ∀ y, v13 y = BitVec.ofNat 32 (y 0).val)
    (k : Fin k0_t1_loop.trips) (d : Fin 160) (l : Fin 256) (t : Fin 1024) (ht : t.val = 256 + l.val) :
    tileOf512 i arg2 arg3 arg5 arg6 arg7 arg8 arg9 arg16 arg17 arg18 arg19 arg20 v12 v13 X2 X3 X5 X6 X7 X8 X9 X19 X20 k (ix2 d l)
      = headOut i arg2 arg3 arg5 arg6 arg7 arg8 arg9 arg19 arg20 X2 X3 X5 X6 X7 X8 X9 X19 X20 k d t := by
  have hq : ∀ d', View.readAt (Elt Ideal) arg9.view (Rect.unit (s := S1x4x160x1024) (k0_off8 k) S1x1x160x256.size (k0_off8_inb k)).toLoadRect X9
      (ix4 0 0 d' l) = qOf arg9 X9 k t d' := fun d' => by
    rw [View.readAt_unit arg9.view X9 (k0_off8_inb k) rfl (k0_off8_inb k)]
    unfold VecWindow.window qOf
    congr 1
    refine ix4_of_vals _ _ _ _ _ ?_ ?_ ?_ ?_
    · show k0_off8 k 0 + 1 * 0 = 0; rfl
    · show k0_off8 k 1 + 1 * 0 = k.val
      exact (trip_word k).trans (by omega)
    · show 0 + 1 * d'.val = d'.val; omega
    · show 256 + 1 * l.val = t.val; omega
  have hK : ∀ (x : Fin 512) (d' : Fin 160), View.readAt (Elt Ideal) arg19.view (Rect.unit (s := S1024x160) ![0, 0] S512x160.size (by decide)).toLoadRect X19
      (ix2 x d') = kOf arg19 X19 (x.castLE (by decide)) d' := fun x d' => by
    rw [View.readAt_unit arg19.view X19 (off := ![0, 0]) (size := S512x160.size) (by decide) rfl (by decide)]
    unfold VecWindow.window kOf
    congr 1
    refine ix2_of_vals _ _ _ ?_ ?_
    · show 0 + 1 * x.val = x.val; omega
    · show 0 + 1 * d'.val = d'.val; omega
  have hV : ∀ x : Fin 512, View.readAt (Elt Ideal) arg20.view (Rect.unit (s := S160x1024) ![0, 0] S160x512.size (by decide)).toLoadRect X20
      (ix2 d x) = vOf arg20 X20 d (x.castLE (by decide)) := fun x => by
    rw [View.readAt_unit arg20.view X20 (off := ![0, 0]) (size := S160x512.size) (by decide) rfl (by decide)]
    unfold VecWindow.window vOf
    congr 1
    refine ix2_of_vals _ _ _ ?_ ?_
    · show 0 + 1 * d.val = d.val; omega
    · show 0 + 1 * x.val = x.val; omega
  have hA1 : ∀ (a : Fin 512) (l : Fin 128), arg16.view.readCov (trip_k0_t1.sl.HW_arg16_144 (F := Ideal) i arg6 arg8 arg17 v12 v13 X6 X8 k) (Rect.unit (s := S1152x128) ![640, 0] S512x128.size (by decide)).toLoadRect (ix2 a l)
      = cap (a.val ≤ 256 + l.val ∧ SlashAt i arg6 arg8 X6 X8 k (256 + l.val - a.val)) := fun a l => by
    refine (read_turnedSlash i arg6 arg8 arg16 arg17 v12 v13 X6 X8 k h12 h13 640 512 (by decide) a l).trans (cap_congr ?_)
    rw [show 896 + l.val - (640 + a.val) = 256 + l.val - a.val by omega]
    exact and_congr_left fun _ => by omega
  have hA2 : ∀ (a : Fin 512) (l : Fin 128), arg16.view.readCov (trip_k0_t1.sl.HW_arg16_144 (F := Ideal) i arg6 arg8 arg17 v12 v13 X6 X8 k) (Rect.unit (s := S1152x128) ![512, 0] S512x128.size (by decide)).toLoadRect (ix2 a l)
      = cap (a.val ≤ 384 + l.val ∧ SlashAt i arg6 arg8 X6 X8 k (384 + l.val - a.val)) := fun a l => by
    refine (read_turnedSlash i arg6 arg8 arg16 arg17 v12 v13 X6 X8 k h12 h13 512 512 (by decide) a l).trans (cap_congr ?_)
    rw [show 896 + l.val - (512 + a.val) = 384 + l.val - a.val by omega]
    exact and_congr_left fun _ => by omega
  have hW : ∀ (a : Fin 512) (l : Fin 128), arg18.view.readCov (trip_k0_t1.sl.HW_arg18_8 (F := Ideal) i arg5 arg7 X5 X7 k) (Rect.unit (s := S1024x128) ![0, 0] S512x128.size (by decide)).toLoadRect (ix2 a l)
      = cap (VerticalAt i arg5 arg7 X5 X7 k a.val) := fun a l =>
    read_verticalKeys i arg5 arg7 arg18 X5 X7 k 512 (by decide) a l
  unfold tileOf512
  refine (tile512 _ _ _ _ _ _ _ _ d l _ _ _ _ _ _ hq hK hV (scale_word i arg2 arg3 X2 X3 k) hA1 hA2 hW hW).trans ?_
  unfold headOut
  rw [ht]

/-- The tile with 768 keys of head `k`, as the trip computes it. -/
def tileOf768 (k : Fin k0_t1_loop.trips) : FVec Ideal S160x256 .f32 :=
  soft768 (causal768 (scores768 (trip_k0_t1.sl.r_8 (F := Ideal) i arg2 arg3 X2 X3 k)
    (View.readAt (Elt Ideal) arg9.view (Rect.unit (s := S1x4x160x1024) (k0_off11 k) S1x1x160x256.size (k0_off11_inb k)).toLoadRect X9)
    (View.readAt (Elt Ideal) arg19.view (Rect.unit (s := S1024x160) ![0, 0] S768x160.size (by decide)).toLoadRect X19)
    (arg16.view.readCov (trip_k0_t1.sl.HW_arg16_144 (F := Ideal) i arg6 arg8 arg17 v12 v13 X6 X8 k) (Rect.unit (s := S1152x128) ![384, 0] S768x128.size (by decide)).toLoadRect)
    (arg18.view.readCov (trip_k0_t1.sl.HW_arg18_8 (F := Ideal) i arg5 arg7 X5 X7 k) (Rect.unit (s := S1024x128) ![0, 0] S768x128.size (by decide)).toLoadRect)
    (arg16.view.readCov (trip_k0_t1.sl.HW_arg16_144 (F := Ideal) i arg6 arg8 arg17 v12 v13 X6 X8 k) (Rect.unit (s := S1152x128) ![256, 0] S768x128.size (by decide)).toLoadRect)
    (arg18.view.readCov (trip_k0_t1.sl.HW_arg18_8 (F := Ideal) i arg5 arg7 X5 X7 k) (Rect.unit (s := S1024x128) ![0, 0] S768x128.size (by decide)).toLoadRect)))
    (View.readAt (Elt Ideal) arg20.view (Rect.unit (s := S160x1024) ![0, 0] S160x768.size (by decide)).toLoadRect X20)

theorem tileOf768_apply (h12 : ∀ y, v12 y = BitVec.ofNat 32 (y 1).val) (h13 : ∀ y, v13 y = BitVec.ofNat 32 (y 0).val)
    (k : Fin k0_t1_loop.trips) (d : Fin 160) (l : Fin 256) (t : Fin 1024) (ht : t.val = 512 + l.val) :
    tileOf768 i arg2 arg3 arg5 arg6 arg7 arg8 arg9 arg16 arg17 arg18 arg19 arg20 v12 v13 X2 X3 X5 X6 X7 X8 X9 X19 X20 k (ix2 d l)
      = headOut i arg2 arg3 arg5 arg6 arg7 arg8 arg9 arg19 arg20 X2 X3 X5 X6 X7 X8 X9 X19 X20 k d t := by
  have hq : ∀ d', View.readAt (Elt Ideal) arg9.view (Rect.unit (s := S1x4x160x1024) (k0_off11 k) S1x1x160x256.size (k0_off11_inb k)).toLoadRect X9
      (ix4 0 0 d' l) = qOf arg9 X9 k t d' := fun d' => by
    rw [View.readAt_unit arg9.view X9 (k0_off11_inb k) rfl (k0_off11_inb k)]
    unfold VecWindow.window qOf
    congr 1
    refine ix4_of_vals _ _ _ _ _ ?_ ?_ ?_ ?_
    · show k0_off11 k 0 + 1 * 0 = 0; rfl
    · show k0_off11 k 1 + 1 * 0 = k.val
      exact (trip_word k).trans (by omega)
    · show 0 + 1 * d'.val = d'.val; omega
    · show 512 + 1 * l.val = t.val; omega
  have hK : ∀ (x : Fin 768) (d' : Fin 160), View.readAt (Elt Ideal) arg19.view (Rect.unit (s := S1024x160) ![0, 0] S768x160.size (by decide)).toLoadRect X19
      (ix2 x d') = kOf arg19 X19 (x.castLE (by decide)) d' := fun x d' => by
    rw [View.readAt_unit arg19.view X19 (off := ![0, 0]) (size := S768x160.size) (by decide) rfl (by decide)]
    unfold VecWindow.window kOf
    congr 1
    refine ix2_of_vals _ _ _ ?_ ?_
    · show 0 + 1 * x.val = x.val; omega
    · show 0 + 1 * d'.val = d'.val; omega
  have hV : ∀ x : Fin 768, View.readAt (Elt Ideal) arg20.view (Rect.unit (s := S160x1024) ![0, 0] S160x768.size (by decide)).toLoadRect X20
      (ix2 d x) = vOf arg20 X20 d (x.castLE (by decide)) := fun x => by
    rw [View.readAt_unit arg20.view X20 (off := ![0, 0]) (size := S160x768.size) (by decide) rfl (by decide)]
    unfold VecWindow.window vOf
    congr 1
    refine ix2_of_vals _ _ _ ?_ ?_
    · show 0 + 1 * d.val = d.val; omega
    · show 0 + 1 * x.val = x.val; omega
  have hA1 : ∀ (a : Fin 768) (l : Fin 128), arg16.view.readCov (trip_k0_t1.sl.HW_arg16_144 (F := Ideal) i arg6 arg8 arg17 v12 v13 X6 X8 k) (Rect.unit (s := S1152x128) ![384, 0] S768x128.size (by decide)).toLoadRect (ix2 a l)
      = cap (a.val ≤ 512 + l.val ∧ SlashAt i arg6 arg8 X6 X8 k (512 + l.val - a.val)) := fun a l => by
    refine (read_turnedSlash i arg6 arg8 arg16 arg17 v12 v13 X6 X8 k h12 h13 384 768 (by decide) a l).trans (cap_congr ?_)
    rw [show 896 + l.val - (384 + a.val) = 512 + l.val - a.val by omega]
    exact and_congr_left fun _ => by omega
  have hA2 : ∀ (a : Fin 768) (l : Fin 128), arg16.view.readCov (trip_k0_t1.sl.HW_arg16_144 (F := Ideal) i arg6 arg8 arg17 v12 v13 X6 X8 k) (Rect.unit (s := S1152x128) ![256, 0] S768x128.size (by decide)).toLoadRect (ix2 a l)
      = cap (a.val ≤ 640 + l.val ∧ SlashAt i arg6 arg8 X6 X8 k (640 + l.val - a.val)) := fun a l => by
    refine (read_turnedSlash i arg6 arg8 arg16 arg17 v12 v13 X6 X8 k h12 h13 256 768 (by decide) a l).trans (cap_congr ?_)
    rw [show 896 + l.val - (256 + a.val) = 640 + l.val - a.val by omega]
    exact and_congr_left fun _ => by omega
  have hW : ∀ (a : Fin 768) (l : Fin 128), arg18.view.readCov (trip_k0_t1.sl.HW_arg18_8 (F := Ideal) i arg5 arg7 X5 X7 k) (Rect.unit (s := S1024x128) ![0, 0] S768x128.size (by decide)).toLoadRect (ix2 a l)
      = cap (VerticalAt i arg5 arg7 X5 X7 k a.val) := fun a l =>
    read_verticalKeys i arg5 arg7 arg18 X5 X7 k 768 (by decide) a l
  unfold tileOf768
  refine (tile768 _ _ _ _ _ _ _ _ d l _ _ _ _ _ _ hq hK hV (scale_word i arg2 arg3 X2 X3 k) hA1 hA2 hW hW).trans ?_
  unfold headOut
  rw [ht]

/-- The tile with 1024 keys of head `k`, as the trip computes it. -/
def tileOf1024 (k : Fin k0_t1_loop.trips) : FVec Ideal S160x256 .f32 :=
  soft1024 (causal1024 (scores1024 (trip_k0_t1.sl.r_8 (F := Ideal) i arg2 arg3 X2 X3 k)
    (View.readAt (Elt Ideal) arg9.view (Rect.unit (s := S1x4x160x1024) (k0_off14 k) S1x1x160x256.size (k0_off14_inb k)).toLoadRect X9)
    (View.readAt (Elt Ideal) arg19.view (Rect.unit (s := S1024x160) ![0, 0] S1024x160.size (by decide)).toLoadRect X19)
    (arg16.view.readCov (trip_k0_t1.sl.HW_arg16_144 (F := Ideal) i arg6 arg8 arg17 v12 v13 X6 X8 k) (Rect.unit (s := S1152x128) ![128, 0] S1024x128.size (by decide)).toLoadRect)
    (arg18.view.readCov (trip_k0_t1.sl.HW_arg18_8 (F := Ideal) i arg5 arg7 X5 X7 k) (Rect.unit (s := S1024x128) ![0, 0] S1024x128.size (by decide)).toLoadRect)
    (arg16.view.readCov (trip_k0_t1.sl.HW_arg16_144 (F := Ideal) i arg6 arg8 arg17 v12 v13 X6 X8 k) (Rect.unit (s := S1152x128) ![0, 0] S1024x128.size (by decide)).toLoadRect)
    (arg18.view.readCov (trip_k0_t1.sl.HW_arg18_8 (F := Ideal) i arg5 arg7 X5 X7 k) (Rect.unit (s := S1024x128) ![0, 0] S1024x128.size (by decide)).toLoadRect)))
    (View.readAt (Elt Ideal) arg20.view (Rect.unit (s := S160x1024) ![0, 0] S160x1024.size (by decide)).toLoadRect X20)

theorem tileOf1024_apply (h12 : ∀ y, v12 y = BitVec.ofNat 32 (y 1).val) (h13 : ∀ y, v13 y = BitVec.ofNat 32 (y 0).val)
    (k : Fin k0_t1_loop.trips) (d : Fin 160) (l : Fin 256) (t : Fin 1024) (ht : t.val = 768 + l.val) :
    tileOf1024 i arg2 arg3 arg5 arg6 arg7 arg8 arg9 arg16 arg17 arg18 arg19 arg20 v12 v13 X2 X3 X5 X6 X7 X8 X9 X19 X20 k (ix2 d l)
      = headOut i arg2 arg3 arg5 arg6 arg7 arg8 arg9 arg19 arg20 X2 X3 X5 X6 X7 X8 X9 X19 X20 k d t := by
  have hq : ∀ d', View.readAt (Elt Ideal) arg9.view (Rect.unit (s := S1x4x160x1024) (k0_off14 k) S1x1x160x256.size (k0_off14_inb k)).toLoadRect X9
      (ix4 0 0 d' l) = qOf arg9 X9 k t d' := fun d' => by
    rw [View.readAt_unit arg9.view X9 (k0_off14_inb k) rfl (k0_off14_inb k)]
    unfold VecWindow.window qOf
    congr 1
    refine ix4_of_vals _ _ _ _ _ ?_ ?_ ?_ ?_
    · show k0_off14 k 0 + 1 * 0 = 0; rfl
    · show k0_off14 k 1 + 1 * 0 = k.val
      exact (trip_word k).trans (by omega)
    · show 0 + 1 * d'.val = d'.val; omega
    · show 768 + 1 * l.val = t.val; omega
  have hK : ∀ (x : Fin 1024) (d' : Fin 160), View.readAt (Elt Ideal) arg19.view (Rect.unit (s := S1024x160) ![0, 0] S1024x160.size (by decide)).toLoadRect X19
      (ix2 x d') = kOf arg19 X19 (x.castLE (by decide)) d' := fun x d' => by
    rw [View.readAt_unit arg19.view X19 (off := ![0, 0]) (size := S1024x160.size) (by decide) rfl (by decide)]
    unfold VecWindow.window kOf
    congr 1
    refine ix2_of_vals _ _ _ ?_ ?_
    · show 0 + 1 * x.val = x.val; omega
    · show 0 + 1 * d'.val = d'.val; omega
  have hV : ∀ x : Fin 1024, View.readAt (Elt Ideal) arg20.view (Rect.unit (s := S160x1024) ![0, 0] S160x1024.size (by decide)).toLoadRect X20
      (ix2 d x) = vOf arg20 X20 d (x.castLE (by decide)) := fun x => by
    rw [View.readAt_unit arg20.view X20 (off := ![0, 0]) (size := S160x1024.size) (by decide) rfl (by decide)]
    unfold VecWindow.window vOf
    congr 1
    refine ix2_of_vals _ _ _ ?_ ?_
    · show 0 + 1 * d.val = d.val; omega
    · show 0 + 1 * x.val = x.val; omega
  have hA1 : ∀ (a : Fin 1024) (l : Fin 128), arg16.view.readCov (trip_k0_t1.sl.HW_arg16_144 (F := Ideal) i arg6 arg8 arg17 v12 v13 X6 X8 k) (Rect.unit (s := S1152x128) ![128, 0] S1024x128.size (by decide)).toLoadRect (ix2 a l)
      = cap (a.val ≤ 768 + l.val ∧ SlashAt i arg6 arg8 X6 X8 k (768 + l.val - a.val)) := fun a l => by
    refine (read_turnedSlash i arg6 arg8 arg16 arg17 v12 v13 X6 X8 k h12 h13 128 1024 (by decide) a l).trans (cap_congr ?_)
    rw [show 896 + l.val - (128 + a.val) = 768 + l.val - a.val by omega]
    exact and_congr_left fun _ => by omega
  have hA2 : ∀ (a : Fin 1024) (l : Fin 128), arg16.view.readCov (trip_k0_t1.sl.HW_arg16_144 (F := Ideal) i arg6 arg8 arg17 v12 v13 X6 X8 k) (Rect.unit (s := S1152x128) ![0, 0] S1024x128.size (by decide)).toLoadRect (ix2 a l)
      = cap (a.val ≤ 896 + l.val ∧ SlashAt i arg6 arg8 X6 X8 k (896 + l.val - a.val)) := fun a l => by
    refine (read_turnedSlash i arg6 arg8 arg16 arg17 v12 v13 X6 X8 k h12 h13 0 1024 (by decide) a l).trans (cap_congr ?_)
    rw [show 896 + l.val - (0 + a.val) = 896 + l.val - a.val by omega]
    exact and_congr_left fun _ => by omega
  have hW : ∀ (a : Fin 1024) (l : Fin 128), arg18.view.readCov (trip_k0_t1.sl.HW_arg18_8 (F := Ideal) i arg5 arg7 X5 X7 k) (Rect.unit (s := S1024x128) ![0, 0] S1024x128.size (by decide)).toLoadRect (ix2 a l)
      = cap (VerticalAt i arg5 arg7 X5 X7 k a.val) := fun a l =>
    read_verticalKeys i arg5 arg7 arg18 X5 X7 k 1024 (by decide) a l
  unfold tileOf1024
  refine (tile1024 _ _ _ _ _ _ _ _ d l _ _ _ _ _ _ hq hK hV (scale_word i arg2 arg3 X2 X3 k) hA1 hA2 hW hW).trans ?_
  unfold headOut
  rw [ht]

end

end Cert.KernelIdeal.Hand

end
-- ==== Proof.TripValue.lean ====
module

public import proofs.«01_k».proof.Proof.TripTiles

/-! # One trip over the heads

What a trip stores for its head: the attention of every token in one scratch buffer, the largest magnitude of every token
in another. -/

@[expose] public section

set_option maxRecDepth 16384

noncomputable section

open Idealize.ShloMosaic Idealize.SL.Sem

namespace Cert.KernelIdeal.Hand

open Cert.KernelIdeal Cert.KernelIdeal.Gen Cert.Attn

section
variable (𝒱 : Variants) (c : Dev nD) (bd : Option 𝒱.V) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole)
  (arg0 arg1 : BitVec 32) (v12 v13 : IVec S8x128 32)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X19 : BufTy.Contents (Elt Ideal) arg19.view.ty) (X20 : BufTy.Contents (Elt Ideal) arg20.view.ty)

/-- The four tiles that a trip leaves in scratch buffer 14, the last one first. -/
theorem trip_pieces14 (k : Fin k0_t1_loop.trips) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 X2 X3 X4 X5 X6 X7 X8 X9 X19 X20 k).1 f14 f15 f16 f17 f18
      = [⟨Rect.unit (s := S32x160x1024) (k0_off15 i k) S1x160x256.size (k0_off15_inb i k), shapeCast S1x160x256 (tileOf1024 i arg2 arg3 arg5 arg6 arg7 arg8 arg9 arg16 arg17 arg18 arg19 arg20 v12 v13 X2 X3 X5 X6 X7 X8 X9 X19 X20 k) shapeCasts_S160x256_S1x160x256⟩,
        ⟨Rect.unit (s := S32x160x1024) (k0_off12 i k) S1x160x256.size (k0_off12_inb i k), shapeCast S1x160x256 (tileOf768 i arg2 arg3 arg5 arg6 arg7 arg8 arg9 arg16 arg17 arg18 arg19 arg20 v12 v13 X2 X3 X5 X6 X7 X8 X9 X19 X20 k) shapeCasts_S160x256_S1x160x256⟩,
        ⟨Rect.unit (s := S32x160x1024) (k0_off9 i k) S1x160x256.size (k0_off9_inb i k), shapeCast S1x160x256 (tileOf512 i arg2 arg3 arg5 arg6 arg7 arg8 arg9 arg16 arg17 arg18 arg19 arg20 v12 v13 X2 X3 X5 X6 X7 X8 X9 X19 X20 k) shapeCasts_S160x256_S1x160x256⟩,
        ⟨Rect.unit (s := S32x160x1024) (k0_off6 i k) S1x160x256.size (k0_off6_inb i k), shapeCast S1x160x256 (tileOf256 i arg2 arg3 arg5 arg6 arg7 arg8 arg9 arg16 arg17 arg18 arg19 arg20 v12 v13 X2 X3 X5 X6 X7 X8 X9 X19 X20 k) shapeCasts_S160x256_S1x160x256⟩] := by
  unfold trip_k0_t1
  dsimp only
  rfl

/-- The four tiles that a trip leaves in scratch buffer 15, the last one first. -/
theorem trip_pieces15 (k : Fin k0_t1_loop.trips) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 X2 X3 X4 X5 X6 X7 X8 X9 X19 X20 k).2.1 f14 f15 f16 f17 f18
      = [⟨Rect.unit (s := S32x2x1024) (k0_off16 i k) S1x1x256.size (k0_off16_inb i k), shapeCast S1x1x256 (magRow (tileOf1024 i arg2 arg3 arg5 arg6 arg7 arg8 arg9 arg16 arg17 arg18 arg19 arg20 v12 v13 X2 X3 X5 X6 X7 X8 X9 X19 X20 k) (trip_k0_t1.sl.r_7 (F := Ideal) i arg4 X4)) shapeCasts_S1x256_S1x1x256⟩,
        ⟨Rect.unit (s := S32x2x1024) (k0_off13 i k) S1x1x256.size (k0_off13_inb i k), shapeCast S1x1x256 (magRow (tileOf768 i arg2 arg3 arg5 arg6 arg7 arg8 arg9 arg16 arg17 arg18 arg19 arg20 v12 v13 X2 X3 X5 X6 X7 X8 X9 X19 X20 k) (trip_k0_t1.sl.r_7 (F := Ideal) i arg4 X4)) shapeCasts_S1x256_S1x1x256⟩,
        ⟨Rect.unit (s := S32x2x1024) (k0_off10 i k) S1x1x256.size (k0_off10_inb i k), shapeCast S1x1x256 (magRow (tileOf512 i arg2 arg3 arg5 arg6 arg7 arg8 arg9 arg16 arg17 arg18 arg19 arg20 v12 v13 X2 X3 X5 X6 X7 X8 X9 X19 X20 k) (trip_k0_t1.sl.r_7 (F := Ideal) i arg4 X4)) shapeCasts_S1x256_S1x1x256⟩,
        ⟨Rect.unit (s := S32x2x1024) (k0_off7 i k) S1x1x256.size (k0_off7_inb i k), shapeCast S1x1x256 (magRow (tileOf256 i arg2 arg3 arg5 arg6 arg7 arg8 arg9 arg16 arg17 arg18 arg19 arg20 v12 v13 X2 X3 X5 X6 X7 X8 X9 X19 X20 k) (trip_k0_t1.sl.r_7 (F := Ideal) i arg4 X4)) shapeCasts_S1x256_S1x1x256⟩] := by
  unfold trip_k0_t1
  dsimp only
  rfl

theorem piece14_256 (h12 : ∀ y, v12 y = BitVec.ofNat 32 (y 1).val) (h13 : ∀ y, v13 y = BitVec.ofNat 32 (y 0).val)
    (k : Fin k0_t1_loop.trips) (x : S1x160x256.Idx) (y : S32x160x1024.Idx) (hy : y = (Rect.unit (s := S32x160x1024) (k0_off6 i k) S1x160x256.size (k0_off6_inb i k)).emb x) :
    shapeCast S1x160x256 (tileOf256 i arg2 arg3 arg5 arg6 arg7 arg8 arg9 arg16 arg17 arg18 arg19 arg20 v12 v13 X2 X3 X5 X6 X7 X8 X9 X19 X20 k) shapeCasts_S160x256_S1x160x256 x = headOut i arg2 arg3 arg5 arg6 arg7 arg8 arg9 arg19 arg20 X2 X3 X5 X6 X7 X8 X9 X19 X20 k (y 1) (y 2) := by
  obtain ⟨z, d, l, rfl⟩ : ∃ (z : Fin 1) (d : Fin 160) (l : Fin 256), x = ix3 z d l := ⟨x 0, x 1, x 2, eq_ix3 x⟩
  have h1 : (y 1).val = d.val := by rw [hy]; show 0 + 1 * d.val = _; omega
  have h2 : (y 2).val = 0 + l.val := by rw [hy]; show 0 + 1 * l.val = _; omega
  have e : ∀ w : FVec Ideal S160x256 .f32, shapeCast S1x160x256 w shapeCasts_S160x256_S1x160x256 (ix3 z d l) = w (ix2 d l) := by
    intro w; pointwise []
  rw [e, tileOf256_apply i arg2 arg3 arg5 arg6 arg7 arg8 arg9 arg16 arg17 arg18 arg19 arg20 v12 v13 X2 X3 X5 X6 X7 X8 X9 X19 X20 h12 h13 k d l (y 2) h2,
    show d = y 1 from Fin.ext h1.symm]

theorem piece15_256 (h12 : ∀ y, v12 y = BitVec.ofNat 32 (y 1).val) (h13 : ∀ y, v13 y = BitVec.ofNat 32 (y 0).val)
    (k : Fin k0_t1_loop.trips) (x : S1x1x256.Idx) (y : S32x2x1024.Idx) (hy : y = (Rect.unit (s := S32x2x1024) (k0_off7 i k) S1x1x256.size (k0_off7_inb i k)).emb x) :
    shapeCast S1x1x256 (magRow (tileOf256 i arg2 arg3 arg5 arg6 arg7 arg8 arg9 arg16 arg17 arg18 arg19 arg20 v12 v13 X2 X3 X5 X6 X7 X8 X9 X19 X20 k) (trip_k0_t1.sl.r_7 (F := Ideal) i arg4 X4)) shapeCasts_S1x256_S1x1x256 x = headMag i arg2 arg3 arg4 arg5 arg6 arg7 arg8 arg9 arg19 arg20 X2 X3 X4 X5 X6 X7 X8 X9 X19 X20 k (y 2) := by
  obtain ⟨z, u, l, rfl⟩ : ∃ (z : Fin 1) (u : Fin 1) (l : Fin 256), x = ix3 z u l := ⟨x 0, x 1, x 2, eq_ix3 x⟩
  have h2 : (y 2).val = 0 + l.val := by rw [hy]; show 0 + 1 * l.val = _; omega
  have e : ∀ w : FVec Ideal S1x256 .f32, shapeCast S1x1x256 w shapeCasts_S1x256_S1x1x256 (ix3 z u l) = w (ix2 0 l) := by
    intro w; pointwise []
  rw [e, magRow_apply]
  unfold headMag
  congr 1
  refine congrArg topMag (funext fun d => ?_)
  exact tileOf256_apply i arg2 arg3 arg5 arg6 arg7 arg8 arg9 arg16 arg17 arg18 arg19 arg20 v12 v13 X2 X3 X5 X6 X7 X8 X9 X19 X20 h12 h13 k d l (y 2) h2

theorem piece14_512 (h12 : ∀ y, v12 y = BitVec.ofNat 32 (y 1).val) (h13 : ∀ y, v13 y = BitVec.ofNat 32 (y 0).val)
    (k : Fin k0_t1_loop.trips) (x : S1x160x256.Idx) (y : S32x160x1024.Idx) (hy : y = (Rect.unit (s := S32x160x1024) (k0_off9 i k) S1x160x256.size (k0_off9_inb i k)).emb x) :
    shapeCast S1x160x256 (tileOf512 i arg2 arg3 arg5 arg6 arg7 arg8 arg9 arg16 arg17 arg18 arg19 arg20 v12 v13 X2 X3 X5 X6 X7 X8 X9 X19 X20 k) shapeCasts_S160x256_S1x160x256 x = headOut i arg2 arg3 arg5 arg6 arg7 arg8 arg9 arg19 arg20 X2 X3 X5 X6 X7 X8 X9 X19 X20 k (y 1) (y 2) := by
  obtain ⟨z, d, l, rfl⟩ : ∃ (z : Fin 1) (d : Fin 160) (l : Fin 256), x = ix3 z d l := ⟨x 0, x 1, x 2, eq_ix3 x⟩
  have h1 : (y 1).val = d.val := by rw [hy]; show 0 + 1 * d.val = _; omega
  have h2 : (y 2).val = 256 + l.val := by rw [hy]; show 256 + 1 * l.val = _; omega
  have e : ∀ w : FVec Ideal S160x256 .f32, shapeCast S1x160x256 w shapeCasts_S160x256_S1x160x256 (ix3 z d l) = w (ix2 d l) := by
    intro w; pointwise []
  rw [e, tileOf512_apply i arg2 arg3 arg5 arg6 arg7 arg8 arg9 arg16 arg17 arg18 arg19 arg20 v12 v13 X2 X3 X5 X6 X7 X8 X9 X19 X20 h12 h13 k d l (y 2) h2,
    show d = y 1 from Fin.ext h1.symm]

theorem piece15_512 (h12 : ∀ y, v12 y = BitVec.ofNat 32 (y 1).val) (h13 : ∀ y, v13 y = BitVec.ofNat 32 (y 0).val)
    (k : Fin k0_t1_loop.trips) (x : S1x1x256.Idx) (y : S32x2x1024.Idx) (hy : y = (Rect.unit (s := S32x2x1024) (k0_off10 i k) S1x1x256.size (k0_off10_inb i k)).emb x) :
    shapeCast S1x1x256 (magRow (tileOf512 i arg2 arg3 arg5 arg6 arg7 arg8 arg9 arg16 arg17 arg18 arg19 arg20 v12 v13 X2 X3 X5 X6 X7 X8 X9 X19 X20 k) (trip_k0_t1.sl.r_7 (F := Ideal) i arg4 X4)) shapeCasts_S1x256_S1x1x256 x = headMag i arg2 arg3 arg4 arg5 arg6 arg7 arg8 arg9 arg19 arg20 X2 X3 X4 X5 X6 X7 X8 X9 X19 X20 k (y 2) := by
  obtain ⟨z, u, l, rfl⟩ : ∃ (z : Fin 1) (u : Fin 1) (l : Fin 256), x = ix3 z u l := ⟨x 0, x 1, x 2, eq_ix3 x⟩
  have h2 : (y 2).val = 256 + l.val := by rw [hy]; show 256 + 1 * l.val = _; omega
  have e : ∀ w : FVec Ideal S1x256 .f32, shapeCast S1x1x256 w shapeCasts_S1x256_S1x1x256 (ix3 z u l) = w (ix2 0 l) := by
    intro w; pointwise []
  rw [e, magRow_apply]
  unfold headMag
  congr 1
  refine congrArg topMag (funext fun d => ?_)
  exact tileOf512_apply i arg2 arg3 arg5 arg6 arg7 arg8 arg9 arg16 arg17 arg18 arg19 arg20 v12 v13 X2 X3 X5 X6 X7 X8 X9 X19 X20 h12 h13 k d l (y 2) h2

theorem piece14_768 (h12 : ∀ y, v12 y = BitVec.ofNat 32 (y 1).val) (h13 : ∀ y, v13 y = BitVec.ofNat 32 (y 0).val)
    (k : Fin k0_t1_loop.trips) (x : S1x160x256.Idx) (y : S32x160x1024.Idx) (hy : y = (Rect.unit (s := S32x160x1024) (k0_off12 i k) S1x160x256.size (k0_off12_inb i k)).emb x) :
    shapeCast S1x160x256 (tileOf768 i arg2 arg3 arg5 arg6 arg7 arg8 arg9 arg16 arg17 arg18 arg19 arg20 v12 v13 X2 X3 X5 X6 X7 X8 X9 X19 X20 k) shapeCasts_S160x256_S1x160x256 x = headOut i arg2 arg3 arg5 arg6 arg7 arg8 arg9 arg19 arg20 X2 X3 X5 X6 X7 X8 X9 X19 X20 k (y 1) (y 2) := by
  obtain ⟨z, d, l, rfl⟩ : ∃ (z : Fin 1) (d : Fin 160) (l : Fin 256), x = ix3 z d l := ⟨x 0, x 1, x 2, eq_ix3 x⟩
  have h1 : (y 1).val = d.val := by rw [hy]; show 0 + 1 * d.val = _; omega
  have h2 : (y 2).val = 512 + l.val := by rw [hy]; show 512 + 1 * l.val = _; omega
  have e : ∀ w : FVec Ideal S160x256 .f32, shapeCast S1x160x256 w shapeCasts_S160x256_S1x160x256 (ix3 z d l) = w (ix2 d l) := by
    intro w; pointwise []
  rw [e, tileOf768_apply i arg2 arg3 arg5 arg6 arg7 arg8 arg9 arg16 arg17 arg18 arg19 arg20 v12 v13 X2 X3 X5 X6 X7 X8 X9 X19 X20 h12 h13 k d l (y 2) h2,
    show d = y 1 from Fin.ext h1.symm]

theorem piece15_768 (h12 : ∀ y, v12 y = BitVec.ofNat 32 (y 1).val) (h13 : ∀ y, v13 y = BitVec.ofNat 32 (y 0).val)
    (k : Fin k0_t1_loop.trips) (x : S1x1x256.Idx) (y : S32x2x1024.Idx) (hy : y = (Rect.unit (s := S32x2x1024) (k0_off13 i k) S1x1x256.size (k0_off13_inb i k)).emb x) :
    shapeCast S1x1x256 (magRow (tileOf768 i arg2 arg3 arg5 arg6 arg7 arg8 arg9 arg16 arg17 arg18 arg19 arg20 v12 v13 X2 X3 X5 X6 X7 X8 X9 X19 X20 k) (trip_k0_t1.sl.r_7 (F := Ideal) i arg4 X4)) shapeCasts_S1x256_S1x1x256 x = headMag i arg2 arg3 arg4 arg5 arg6 arg7 arg8 arg9 arg19 arg20 X2 X3 X4 X5 X6 X7 X8 X9 X19 X20 k (y 2) := by
  obtain ⟨z, u, l, rfl⟩ : ∃ (z : Fin 1) (u : Fin 1) (l : Fin 256), x = ix3 z u l := ⟨x 0, x 1, x 2, eq_ix3 x⟩
  have h2 : (y 2).val = 512 + l.val := by rw [hy]; show 512 + 1 * l.val = _; omega
  have e : ∀ w : FVec Ideal S1x256 .f32, shapeCast S1x1x256 w shapeCasts_S1x256_S1x1x256 (ix3 z u l) = w (ix2 0 l) := by
    intro w; pointwise []
  rw [e, magRow_apply]
  unfold headMag
  congr 1
  refine congrArg topMag (funext fun d => ?_)
  exact tileOf768_apply i arg2 arg3 arg5 arg6 arg7 arg8 arg9 arg16 arg17 arg18 arg19 arg20 v12 v13 X2 X3 X5 X6 X7 X8 X9 X19 X20 h12 h13 k d l (y 2) h2

theorem piece14_1024 (h12 : ∀ y, v12 y = BitVec.ofNat 32 (y 1).val) (h13 : ∀ y, v13 y = BitVec.ofNat 32 (y 0).val)
    (k : Fin k0_t1_loop.trips) (x : S1x160x256.Idx) (y : S32x160x1024.Idx) (hy : y = (Rect.unit (s := S32x160x1024) (k0_off15 i k) S1x160x256.size (k0_off15_inb i k)).emb x) :
    shapeCast S1x160x256 (tileOf1024 i arg2 arg3 arg5 arg6 arg7 arg8 arg9 arg16 arg17 arg18 arg19 arg20 v12 v13 X2 X3 X5 X6 X7 X8 X9 X19 X20 k) shapeCasts_S160x256_S1x160x256 x = headOut i arg2 arg3 arg5 arg6 arg7 arg8 arg9 arg19 arg20 X2 X3 X5 X6 X7 X8 X9 X19 X20 k (y 1) (y 2) := by
  obtain ⟨z, d, l, rfl⟩ : ∃ (z : Fin 1) (d : Fin 160) (l : Fin 256), x = ix3 z d l := ⟨x 0, x 1, x 2, eq_ix3 x⟩
  have h1 : (y 1).val = d.val := by rw [hy]; show 0 + 1 * d.val = _; omega
  have h2 : (y 2).val = 768 + l.val := by rw [hy]; show 768 + 1 * l.val = _; omega
  have e : ∀ w : FVec Ideal S160x256 .f32, shapeCast S1x160x256 w shapeCasts_S160x256_S1x160x256 (ix3 z d l) = w (ix2 d l) := by
    intro w; pointwise []
  rw [e, tileOf1024_apply i arg2 arg3 arg5 arg6 arg7 arg8 arg9 arg16 arg17 arg18 arg19 arg20 v12 v13 X2 X3 X5 X6 X7 X8 X9 X19 X20 h12 h13 k d l (y 2) h2,
    show d = y 1 from Fin.ext h1.symm]

theorem piece15_1024 (h12 : ∀ y, v12 y = BitVec.ofNat 32 (y 1).val) (h13 : ∀ y, v13 y = BitVec.ofNat 32 (y 0).val)
    (k : Fin k0_t1_loop.trips) (x : S1x1x256.Idx) (y : S32x2x1024.Idx) (hy : y = (Rect.unit (s := S32x2x1024) (k0_off16 i k) S1x1x256.size (k0_off16_inb i k)).emb x) :
    shapeCast S1x1x256 (magRow (tileOf1024 i arg2 arg3 arg5 arg6 arg7 arg8 arg9 arg16 arg17 arg18 arg19 arg20 v12 v13 X2 X3 X5 X6 X7 X8 X9 X19 X20 k) (trip_k0_t1.sl.r_7 (F := Ideal) i arg4 X4)) shapeCasts_S1x256_S1x1x256 x = headMag i arg2 arg3 arg4 arg5 arg6 arg7 arg8 arg9 arg19 arg20 X2 X3 X4 X5 X6 X7 X8 X9 X19 X20 k (y 2) := by
  obtain ⟨z, u, l, rfl⟩ : ∃ (z : Fin 1) (u : Fin 1) (l : Fin 256), x = ix3 z u l := ⟨x 0, x 1, x 2, eq_ix3 x⟩
  have h2 : (y 2).val = 768 + l.val := by rw [hy]; show 768 + 1 * l.val = _; omega
  have e : ∀ w : FVec Ideal S1x256 .f32, shapeCast S1x1x256 w shapeCasts_S1x256_S1x1x256 (ix3 z u l) = w (ix2 0 l) := by
    intro w; pointwise []
  rw [e, magRow_apply]
  unfold headMag
  congr 1
  refine congrArg topMag (funext fun d => ?_)
  exact tileOf1024_apply i arg2 arg3 arg5 arg6 arg7 arg8 arg9 arg16 arg17 arg18 arg19 arg20 v12 v13 X2 X3 X5 X6 X7 X8 X9 X19 X20 h12 h13 k d l (y 2) h2

end

end Cert.KernelIdeal.Hand

end
-- ==== Proof.LoopHeads.lean ====
module

public import proofs.«01_k».proof.Proof.TripValue

/-! # The loop over the four heads of a block

After the loop the first scratch buffer holds the attention of the block's heads, the second their largest magnitudes; the
heads of other blocks are as before. -/

@[expose] public section

set_option maxRecDepth 16384

noncomputable section

open Idealize.ShloMosaic Idealize.SL.Sem

namespace Cert.KernelIdeal.Hand

open Cert.KernelIdeal Cert.KernelIdeal.Gen Cert.Attn

section
variable (𝒱 : Variants) (c : Dev nD) (bd : Option 𝒱.V) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole)
  (arg0 arg1 : BitVec 32) (v12 v13 : IVec S8x128 32)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X19 : BufTy.Contents (Elt Ideal) arg19.view.ty) (X20 : BufTy.Contents (Elt Ideal) arg20.view.ty)

/-- Scratch buffer 14 after one trip. -/
theorem trip_read14 (h12 : ∀ y, v12 y = BitVec.ofNat 32 (y 1).val) (h13 : ∀ y, v13 y = BitVec.ofNat 32 (y 0).val)
    (k : Fin k0_t1_loop.trips) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (y : S32x160x1024.Idx) :
    arg14.view.read (Elt Ideal) (arg14.view.writes (Elt Ideal) f14 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 X2 X3 X4 X5 X6 X7 X8 X9 X19 X20 k).1 f14 f15 f16 f17 f18)) y
      = if (y 0).val = 4 * (i 1).val + k.val then headOut i arg2 arg3 arg5 arg6 arg7 arg8 arg9 arg19 arg20 X2 X3 X5 X6 X7 X8 X9 X19 X20 k (y 1) (y 2) else arg14.view.read (Elt Ideal) f14 y := by
  have hk : k.val < 4 := Nat.lt_of_lt_of_le k.isLt k0_t1_abs.2.1
  have hw := head_word (i 1) ⟨k.val, hk⟩
  rw [trip_pieces14]
  split
  · next h0 =>
    refine View.read_writes_apply_of_pieces arg14.view f14 (fun y => headOut i arg2 arg3 arg5 arg6 arg7 arg8 arg9 arg19 arg20 X2 X3 X5 X6 X7 X8 X9 X19 X20 k (y 1) (y 2)) _ ?_ y ?_
    · intro p hp x
      simp only [List.mem_cons, List.not_mem_nil, or_false] at hp
      rcases hp with rfl | rfl | rfl | rfl
      · dsimp only
        exact piece14_1024 i arg2 arg3 arg5 arg6 arg7 arg8 arg9 arg16 arg17 arg18 arg19 arg20 v12 v13 X2 X3 X5 X6 X7 X8 X9 X19 X20 h12 h13 k x _ rfl
      · dsimp only
        exact piece14_768 i arg2 arg3 arg5 arg6 arg7 arg8 arg9 arg16 arg17 arg18 arg19 arg20 v12 v13 X2 X3 X5 X6 X7 X8 X9 X19 X20 h12 h13 k x _ rfl
      · dsimp only
        exact piece14_512 i arg2 arg3 arg5 arg6 arg7 arg8 arg9 arg16 arg17 arg18 arg19 arg20 v12 v13 X2 X3 X5 X6 X7 X8 X9 X19 X20 h12 h13 k x _ rfl
      · dsimp only
        exact piece14_256 i arg2 arg3 arg5 arg6 arg7 arg8 arg9 arg16 arg17 arg18 arg19 arg20 v12 v13 X2 X3 X5 X6 X7 X8 X9 X19 X20 h12 h13 k x _ rfl
    · have h2 : (y 2).val < 1024 := (y 2).isLt
      have h1 : 0 ≤ (y 1).val ∧ (y 1).val < 0 + 160 := ⟨Nat.zero_le _, by have h : (y 1).val < 160 := (y 1).isLt; omega⟩
      have h0' : (Scalar.indexCast (Scalar.addi (Scalar.muli (BitVec.ofNat 32 (i 1).val) 4#32) (Scf.iv 0#32 1#32 k))).toNat ≤ (y 0).val
          ∧ (y 0).val < (Scalar.indexCast (Scalar.addi (Scalar.muli (BitVec.ofNat 32 (i 1).val) 4#32) (Scf.iv 0#32 1#32 k))).toNat + 1 := by
        have hw' : (Scalar.indexCast (Scalar.addi (Scalar.muli (BitVec.ofNat 32 (i 1).val) 4#32) (Scf.iv 0#32 1#32 k))).toNat = 4 * (i 1).val + k.val := hw
        omega
      rcases (by omega : (768 ≤ (y 2).val ∧ (y 2).val < 768 + 256) ∨ (512 ≤ (y 2).val ∧ (y 2).val < 512 + 256)
        ∨ (256 ≤ (y 2).val ∧ (y 2).val < 256 + 256) ∨ (0 ≤ (y 2).val ∧ (y 2).val < 0 + 256)) with h | h | h | h
      · exact ⟨_, List.mem_cons_self, (Rect.mem_set_unit (inb := k0_off15_inb i k)).mpr fun a => match a with
          | ⟨0, _⟩ => h0' | ⟨1, _⟩ => h1 | ⟨2, _⟩ => h⟩
      · exact ⟨_, (List.mem_cons_of_mem _ List.mem_cons_self), (Rect.mem_set_unit (inb := k0_off12_inb i k)).mpr fun a => match a with
          | ⟨0, _⟩ => h0' | ⟨1, _⟩ => h1 | ⟨2, _⟩ => h⟩
      · exact ⟨_, (List.mem_cons_of_mem _ (List.mem_cons_of_mem _ List.mem_cons_self)), (Rect.mem_set_unit (inb := k0_off9_inb i k)).mpr fun a => match a with
          | ⟨0, _⟩ => h0' | ⟨1, _⟩ => h1 | ⟨2, _⟩ => h⟩
      · exact ⟨_, (List.mem_cons_of_mem _ (List.mem_cons_of_mem _ (List.mem_cons_of_mem _ List.mem_cons_self))), (Rect.mem_set_unit (inb := k0_off6_inb i k)).mpr fun a => match a with
          | ⟨0, _⟩ => h0' | ⟨1, _⟩ => h1 | ⟨2, _⟩ => h⟩
  · next h0 =>
    refine View.read_writes_apply_of_forall_not_mem arg14.view f14 y _ fun p hp hm => h0 ?_
    have hw' : (Scalar.indexCast (Scalar.addi (Scalar.muli (BitVec.ofNat 32 (i 1).val) 4#32) (Scf.iv 0#32 1#32 k))).toNat = 4 * (i 1).val + k.val := hw
    simp only [List.mem_cons, List.not_mem_nil, or_false] at hp
    rcases hp with rfl | rfl | rfl | rfl
    · have h := (Rect.mem_set_unit (inb := k0_off15_inb i k)).mp hm 0
      have h' : (Scalar.indexCast (Scalar.addi (Scalar.muli (BitVec.ofNat 32 (i 1).val) 4#32) (Scf.iv 0#32 1#32 k))).toNat ≤ (y 0).val
        ∧ (y 0).val < (Scalar.indexCast (Scalar.addi (Scalar.muli (BitVec.ofNat 32 (i 1).val) 4#32) (Scf.iv 0#32 1#32 k))).toNat + 1 := h
      omega
    · have h := (Rect.mem_set_unit (inb := k0_off12_inb i k)).mp hm 0
      have h' : (Scalar.indexCast (Scalar.addi (Scalar.muli (BitVec.ofNat 32 (i 1).val) 4#32) (Scf.iv 0#32 1#32 k))).toNat ≤ (y 0).val
        ∧ (y 0).val < (Scalar.indexCast (Scalar.addi (Scalar.muli (BitVec.ofNat 32 (i 1).val) 4#32) (Scf.iv 0#32 1#32 k))).toNat + 1 := h
      omega
    · have h := (Rect.mem_set_unit (inb := k0_off9_inb i k)).mp hm 0
      have h' : (Scalar.indexCast (Scalar.addi (Scalar.muli (BitVec.ofNat 32 (i 1).val) 4#32) (Scf.iv 0#32 1#32 k))).toNat ≤ (y 0).val
        ∧ (y 0).val < (Scalar.indexCast (Scalar.addi (Scalar.muli (BitVec.ofNat 32 (i 1).val) 4#32) (Scf.iv 0#32 1#32 k))).toNat + 1 := h
      omega
    · have h := (Rect.mem_set_unit (inb := k0_off6_inb i k)).mp hm 0
      have h' : (Scalar.indexCast (Scalar.addi (Scalar.muli (BitVec.ofNat 32 (i 1).val) 4#32) (Scf.iv 0#32 1#32 k))).toNat ≤ (y 0).val
        ∧ (y 0).val < (Scalar.indexCast (Scalar.addi (Scalar.muli (BitVec.ofNat 32 (i 1).val) 4#32) (Scf.iv 0#32 1#32 k))).toNat + 1 := h
      omega

/-- Scratch buffer 14 after the first `n` trips. -/
theorem loop_read14 (h12 : ∀ y, v12 y = BitVec.ofNat 32 (y 1).val) (h13 : ∀ y, v13 y = BitVec.ofNat 32 (y 0).val)
    (G14 : BufTy.Contents (Elt Ideal) arg14.view.ty) (G15 : BufTy.Contents (Elt Ideal) arg15.view.ty) (G16 : BufTy.Contents (Elt Ideal) arg16.view.ty) (G17 : BufTy.Contents (Elt Ideal) arg17.view.ty) (G18 : BufTy.Contents (Elt Ideal) arg18.view.ty) (y : S32x160x1024.Idx) (n : ℕ) (hn : n ≤ k0_t1_loop.trips) :
    arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 X2 X3 X4 X5 X6 X7 X8 X9 X19 X20 G14 G15 G16 G17 G18 n).1) y
      = if h : 4 * (i 1).val ≤ (y 0).val ∧ (y 0).val < 4 * (i 1).val + n then headOut i arg2 arg3 arg5 arg6 arg7 arg8 arg9 arg19 arg20 X2 X3 X5 X6 X7 X8 X9 X19 X20 ⟨(y 0).val - 4 * (i 1).val, by omega⟩ (y 1) (y 2)
        else arg14.view.read (Elt Ideal) G14 y := by
  induction n with
  | zero =>
    rw [dif_neg (by omega)]
    rfl
  | succ n ih =>
    have hn' : n < k0_t1_loop.trips := hn
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 X2 X3 X4 X5 X6 X7 X8 X9 X19 X20 G14 G15 G16 G17 G18 ⟨n, hn'⟩]
    dsimp only
    rw [View.writes_append, trip_read14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 X2 X3 X4 X5 X6 X7 X8 X9 X19 X20 h12 h13 ⟨n, hn'⟩ _ _ _ _ _ y, ih (by omega)]
    by_cases h : (y 0).val = 4 * (i 1).val + n
    · rw [if_pos h, dif_pos (by omega)]
      congr 1
      exact Fin.ext (show n = (y 0).val - 4 * (i 1).val by omega)
    · rw [if_neg h]
      by_cases h2 : 4 * (i 1).val ≤ (y 0).val ∧ (y 0).val < 4 * (i 1).val + n
      · rw [dif_pos h2, dif_pos (by omega)]
      · rw [dif_neg h2, dif_neg (by omega)]

/-- Scratch buffer 15 after one trip. -/
theorem trip_read15 (h12 : ∀ y, v12 y = BitVec.ofNat 32 (y 1).val) (h13 : ∀ y, v13 y = BitVec.ofNat 32 (y 0).val)
    (k : Fin k0_t1_loop.trips) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (y : S32x2x1024.Idx) (hy : (y 1).val = 0) :
    arg15.view.read (Elt Ideal) (arg15.view.writes (Elt Ideal) f15 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 X2 X3 X4 X5 X6 X7 X8 X9 X19 X20 k).2.1 f14 f15 f16 f17 f18)) y
      = if (y 0).val = 4 * (i 1).val + k.val then headMag i arg2 arg3 arg4 arg5 arg6 arg7 arg8 arg9 arg19 arg20 X2 X3 X4 X5 X6 X7 X8 X9 X19 X20 k (y 2) else arg15.view.read (Elt Ideal) f15 y := by
  have hk : k.val < 4 := Nat.lt_of_lt_of_le k.isLt k0_t1_abs.2.1
  have hw := head_word (i 1) ⟨k.val, hk⟩
  rw [trip_pieces15]
  split
  · next h0 =>
    refine View.read_writes_apply_of_pieces arg15.view f15 (fun y => headMag i arg2 arg3 arg4 arg5 arg6 arg7 arg8 arg9 arg19 arg20 X2 X3 X4 X5 X6 X7 X8 X9 X19 X20 k (y 2)) _ ?_ y ?_
    · intro p hp x
      simp only [List.mem_cons, List.not_mem_nil, or_false] at hp
      rcases hp with rfl | rfl | rfl | rfl
      · dsimp only
        exact piece15_1024 i arg2 arg3 arg4 arg5 arg6 arg7 arg8 arg9 arg16 arg17 arg18 arg19 arg20 v12 v13 X2 X3 X4 X5 X6 X7 X8 X9 X19 X20 h12 h13 k x _ rfl
      · dsimp only
        exact piece15_768 i arg2 arg3 arg4 arg5 arg6 arg7 arg8 arg9 arg16 arg17 arg18 arg19 arg20 v12 v13 X2 X3 X4 X5 X6 X7 X8 X9 X19 X20 h12 h13 k x _ rfl
      · dsimp only
        exact piece15_512 i arg2 arg3 arg4 arg5 arg6 arg7 arg8 arg9 arg16 arg17 arg18 arg19 arg20 v12 v13 X2 X3 X4 X5 X6 X7 X8 X9 X19 X20 h12 h13 k x _ rfl
      · dsimp only
        exact piece15_256 i arg2 arg3 arg4 arg5 arg6 arg7 arg8 arg9 arg16 arg17 arg18 arg19 arg20 v12 v13 X2 X3 X4 X5 X6 X7 X8 X9 X19 X20 h12 h13 k x _ rfl
    · have h2 : (y 2).val < 1024 := (y 2).isLt
      have h1 : 0 ≤ (y 1).val ∧ (y 1).val < 0 + 1 := by omega
      have h0' : (Scalar.indexCast (Scalar.addi (Scalar.muli (BitVec.ofNat 32 (i 1).val) 4#32) (Scf.iv 0#32 1#32 k))).toNat ≤ (y 0).val
          ∧ (y 0).val < (Scalar.indexCast (Scalar.addi (Scalar.muli (BitVec.ofNat 32 (i 1).val) 4#32) (Scf.iv 0#32 1#32 k))).toNat + 1 := by
        have hw' : (Scalar.indexCast (Scalar.addi (Scalar.muli (BitVec.ofNat 32 (i 1).val) 4#32) (Scf.iv 0#32 1#32 k))).toNat = 4 * (i 1).val + k.val := hw
        omega
      rcases (by omega : (768 ≤ (y 2).val ∧ (y 2).val < 768 + 256) ∨ (512 ≤ (y 2).val ∧ (y 2).val < 512 + 256)
        ∨ (256 ≤ (y 2).val ∧ (y 2).val < 256 + 256) ∨ (0 ≤ (y 2).val ∧ (y 2).val < 0 + 256)) with h | h | h | h
      · exact ⟨_, List.mem_cons_self, (Rect.mem_set_unit (inb := k0_off16_inb i k)).mpr fun a => match a with
          | ⟨0, _⟩ => h0' | ⟨1, _⟩ => h1 | ⟨2, _⟩ => h⟩
      · exact ⟨_, (List.mem_cons_of_mem _ List.mem_cons_self), (Rect.mem_set_unit (inb := k0_off13_inb i k)).mpr fun a => match a with
          | ⟨0, _⟩ => h0' | ⟨1, _⟩ => h1 | ⟨2, _⟩ => h⟩
      · exact ⟨_, (List.mem_cons_of_mem _ (List.mem_cons_of_mem _ List.mem_cons_self)), (Rect.mem_set_unit (inb := k0_off10_inb i k)).mpr fun a => match a with
          | ⟨0, _⟩ => h0' | ⟨1, _⟩ => h1 | ⟨2, _⟩ => h⟩
      · exact ⟨_, (List.mem_cons_of_mem _ (List.mem_cons_of_mem _ (List.mem_cons_of_mem _ List.mem_cons_self))), (Rect.mem_set_unit (inb := k0_off7_inb i k)).mpr fun a => match a with
          | ⟨0, _⟩ => h0' | ⟨1, _⟩ => h1 | ⟨2, _⟩ => h⟩
  · next h0 =>
    refine View.read_writes_apply_of_forall_not_mem arg15.view f15 y _ fun p hp hm => h0 ?_
    have hw' : (Scalar.indexCast (Scalar.addi (Scalar.muli (BitVec.ofNat 32 (i 1).val) 4#32) (Scf.iv 0#32 1#32 k))).toNat = 4 * (i 1).val + k.val := hw
    simp only [List.mem_cons, List.not_mem_nil, or_false] at hp
    rcases hp with rfl | rfl | rfl | rfl
    · have h := (Rect.mem_set_unit (inb := k0_off16_inb i k)).mp hm 0
      have h' : (Scalar.indexCast (Scalar.addi (Scalar.muli (BitVec.ofNat 32 (i 1).val) 4#32) (Scf.iv 0#32 1#32 k))).toNat ≤ (y 0).val
        ∧ (y 0).val < (Scalar.indexCast (Scalar.addi (Scalar.muli (BitVec.ofNat 32 (i 1).val) 4#32) (Scf.iv 0#32 1#32 k))).toNat + 1 := h
      omega
    · have h := (Rect.mem_set_unit (inb := k0_off13_inb i k)).mp hm 0
      have h' : (Scalar.indexCast (Scalar.addi (Scalar.muli (BitVec.ofNat 32 (i 1).val) 4#32) (Scf.iv 0#32 1#32 k))).toNat ≤ (y 0).val
        ∧ (y 0).val < (Scalar.indexCast (Scalar.addi (Scalar.muli (BitVec.ofNat 32 (i 1).val) 4#32) (Scf.iv 0#32 1#32 k))).toNat + 1 := h
      omega
    · have h := (Rect.mem_set_unit (inb := k0_off10_inb i k)).mp hm 0
      have h' : (Scalar.indexCast (Scalar.addi (Scalar.muli (BitVec.ofNat 32 (i 1).val) 4#32) (Scf.iv 0#32 1#32 k))).toNat ≤ (y 0).val
        ∧ (y 0).val < (Scalar.indexCast (Scalar.addi (Scalar.muli (BitVec.ofNat 32 (i 1).val) 4#32) (Scf.iv 0#32 1#32 k))).toNat + 1 := h
      omega
    · have h := (Rect.mem_set_unit (inb := k0_off7_inb i k)).mp hm 0
      have h' : (Scalar.indexCast (Scalar.addi (Scalar.muli (BitVec.ofNat 32 (i 1).val) 4#32) (Scf.iv 0#32 1#32 k))).toNat ≤ (y 0).val
        ∧ (y 0).val < (Scalar.indexCast (Scalar.addi (Scalar.muli (BitVec.ofNat 32 (i 1).val) 4#32) (Scf.iv 0#32 1#32 k))).toNat + 1 := h
      omega

/-- Scratch buffer 15 after the first `n` trips. -/
theorem loop_read15 (h12 : ∀ y, v12 y = BitVec.ofNat 32 (y 1).val) (h13 : ∀ y, v13 y = BitVec.ofNat 32 (y 0).val)
    (G14 : BufTy.Contents (Elt Ideal) arg14.view.ty) (G15 : BufTy.Contents (Elt Ideal) arg15.view.ty) (G16 : BufTy.Contents (Elt Ideal) arg16.view.ty) (G17 : BufTy.Contents (Elt Ideal) arg17.view.ty) (G18 : BufTy.Contents (Elt Ideal) arg18.view.ty) (y : S32x2x1024.Idx) (hy : (y 1).val = 0) (n : ℕ) (hn : n ≤ k0_t1_loop.trips) :
    arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 X2 X3 X4 X5 X6 X7 X8 X9 X19 X20 G14 G15 G16 G17 G18 n).2.1) y
      = if h : 4 * (i 1).val ≤ (y 0).val ∧ (y 0).val < 4 * (i 1).val + n then headMag i arg2 arg3 arg4 arg5 arg6 arg7 arg8 arg9 arg19 arg20 X2 X3 X4 X5 X6 X7 X8 X9 X19 X20 ⟨(y 0).val - 4 * (i 1).val, by omega⟩ (y 2)
        else arg15.view.read (Elt Ideal) G15 y := by
  induction n with
  | zero =>
    rw [dif_neg (by omega)]
    rfl
  | succ n ih =>
    have hn' : n < k0_t1_loop.trips := hn
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 X2 X3 X4 X5 X6 X7 X8 X9 X19 X20 G14 G15 G16 G17 G18 ⟨n, hn'⟩]
    dsimp only
    rw [View.writes_append, trip_read15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 X2 X3 X4 X5 X6 X7 X8 X9 X19 X20 h12 h13 ⟨n, hn'⟩ _ _ _ _ _ y hy, ih (by omega)]
    by_cases h : (y 0).val = 4 * (i 1).val + n
    · rw [if_pos h, dif_pos (by omega)]
      congr 1
      exact Fin.ext (show n = (y 0).val - 4 * (i 1).val by omega)
    · rw [if_neg h]
      by_cases h2 : 4 * (i 1).val ≤ (y 0).val ∧ (y 0).val < 4 * (i 1).val + n
      · rw [dif_pos h2, dif_pos (by omega)]
      · rw [dif_neg h2, dif_neg (by omega)]

end

end Cert.KernelIdeal.Hand

end
-- ==== Proof.Exponent.lean ====
module

public import proofs.«01_k».proof.Proof.Spec

/-! # The exponent of a token's scale

The kernel finds the exponent by a greedy search over the exponent fields of words: it adds a step whenever the power of two
of the larger field is not above the value. The reference takes the floor of a logarithm. Both give the same exponent, for
every value. -/

@[expose] public section

noncomputable section

open Idealize.ShloMosaic

namespace Cert.Attn

/-- The power of two with exponent field `n`. -/
def pw (n : ℕ) : EReal := (((2 : ℝ) ^ ((n : ℤ) - 127) : ℝ) : EReal)

theorem pw_mono {a b : ℕ} (h : a ≤ b) : pw a ≤ pw b := by
  unfold pw
  exact EReal.coe_le_coe_iff.mpr (zpow_le_zpow_right₀ one_le_two (by omega))

/-- The word with exponent field `n`. -/
def word (n : ℕ) : BitVec 32 := BitVec.ofNat 32 n

/-- One step of the search, on words. -/
def bump (x : EReal) (n s : BitVec 32) : BitVec 32 :=
  if Ideal.ofBits FTy.f32 (IntOp.shli ArithUnit.vector (IntOp.addi n s) 23#32) ≤ x then IntOp.addi n s else n

/-- The search has found a field `n` that is zero or whose power is not above `x`; a further `r` may be added, and more
would be too much. -/
def Found (x : EReal) (n r : ℕ) : Prop := n + r ≤ 252 ∧ (n = 0 ∨ pw n ≤ x) ∧ (n + r = 252 ∨ x < pw (n + r + 1))

theorem field_word : ∀ n : Fin 255, (IntOp.shli ArithUnit.vector (word n.val) 23#32).toNat = n.val * 2 ^ 23 := by
  decide

theorem ofBits_field (n : ℕ) (h1 : 1 ≤ n) (h2 : n ≤ 254) :
    Ideal.ofBits FTy.f32 (IntOp.shli ArithUnit.vector (word n) 23#32) = pw n :=
  ofBits_pow2 _ n h1 h2 (field_word ⟨n, by omega⟩)

theorem addi_word (a b : ℕ) : IntOp.addi (word a) (word b) = word (a + b) := (BitVec.ofNat_add a b).symm

/-- One step of the search keeps what it has found. -/
theorem bump_found (x : EReal) (n s r : ℕ) (hs : 1 ≤ s) (hr : s ≤ r + 1) (h : Found x n (r + s)) :
    ∃ n', bump x (word n) (word s) = word n' ∧ Found x n' r := by
  obtain ⟨h1, h2, h3⟩ := h
  unfold bump
  rw [addi_word, ofBits_field (n + s) (by omega) (by omega)]
  by_cases hx : pw (n + s) ≤ x
  · refine ⟨n + s, if_pos hx, by omega, Or.inr hx, ?_⟩
    rw [show n + s + r = n + (r + s) by omega]
    exact h3
  · refine ⟨n, if_neg hx, by omega, h2, Or.inr ?_⟩
    exact lt_of_lt_of_le (not_le.mp hx) (pw_mono (by omega))

/-- The search, in its eight steps. -/
def search (x : EReal) : BitVec 32 :=
  bump x (bump x (bump x (bump x (bump x (bump x (bump x (bump x 0#32 126#32) 63#32) 32#32) 16#32) 8#32) 4#32) 2#32) 1#32

theorem search_found (x : EReal) : ∃ n, search x = word n ∧ Found x n 0 := by
  have h0 : Found x 0 252 := ⟨by omega, Or.inl rfl, Or.inl rfl⟩
  obtain ⟨n1, e1, h1⟩ := bump_found x 0 126 126 (by omega) (by omega) h0
  obtain ⟨n2, e2, h2⟩ := bump_found x n1 63 63 (by omega) (by omega) h1
  obtain ⟨n3, e3, h3⟩ := bump_found x n2 32 31 (by omega) (by omega) h2
  obtain ⟨n4, e4, h4⟩ := bump_found x n3 16 15 (by omega) (by omega) h3
  obtain ⟨n5, e5, h5⟩ := bump_found x n4 8 7 (by omega) (by omega) h4
  obtain ⟨n6, e6, h6⟩ := bump_found x n5 4 3 (by omega) (by omega) h5
  obtain ⟨n7, e7, h7⟩ := bump_found x n6 2 1 (by omega) (by omega) h6
  obtain ⟨n8, e8, h8⟩ := bump_found x n7 1 0 (by omega) (by omega) h7
  refine ⟨n8, ?_, h8⟩
  unfold search
  exact (congrArg (bump x · 1#32) ((congrArg (bump x · 2#32) ((congrArg (bump x · 4#32) ((congrArg (bump x · 8#32)
    ((congrArg (bump x · 16#32) ((congrArg (bump x · 32#32) ((congrArg (bump x · 63#32) e1).trans e2)).trans e3)).trans e4)).trans
    e5)).trans e6)).trans e7)).trans e8

/-- The exponent that the kernel reads off a word. -/
def wordExp (w : BitVec 32) : BitVec 32 :=
  Scalar.select (IntOp.cmpi CmpIPredicate.slt (IntOp.shli ArithUnit.vector w 23#32) 8388608#32) 0#32
    (IntOp.subi (IntOp.shrsi ArithUnit.vector (IntOp.shli ArithUnit.vector w 23#32) 23#32) 126#32)

theorem up_word : ∀ n : Fin 253, IntOp.shli ArithUnit.vector (IntOp.addi (wordExp (word n.val)) 127#32) 23#32
    = IntOp.shli ArithUnit.vector (word (if n.val = 0 then 127 else n.val + 1)) 23#32 := by
  decide

theorem down_word : ∀ n : Fin 253, IntOp.shli ArithUnit.vector (IntOp.subi 127#32 (wordExp (word n.val))) 23#32
    = IntOp.shli ArithUnit.vector (word (if n.val = 0 then 127 else 253 - n.val)) 23#32 := by
  decide

theorem smallest_eq : Ideal.ofBits FTy.f32 8388608#32 = pw 1 := ofBits_pow2 _ 1 (by norm_num) (by norm_num) (by decide)

/-- The largest exponent is 126. -/
theorem largest_eq : Ideal.ofBits FTy.f32 1123811328#32 = ((126 : ℝ) : EReal) := by
  show Ideal.ieee 8 23 1123811328#32 = _
  unfold Ideal.ieee
  rw [show (1123811328#32 : BitVec 32).extractLsb' 31 1 = 0#1 by decide, show ((1123811328#32 : BitVec 32).extractLsb' 23 8).toNat = 133 by decide,
    show ((1123811328#32 : BitVec 32).extractLsb' 0 23).toNat = 8126464 by decide]
  norm_num

/-- The exponent of `x`, from the field that the search finds. -/
theorem expo_found (x : EReal) (n : ℕ) (h : Found x n 0) :
    expo x = (((if n = 0 then 0 else (n : ℤ) - 126 : ℤ) : ℝ) : EReal) := by
  obtain ⟨h1, h2, h3⟩ := h
  unfold expo
  rw [smallest_eq, largest_eq]
  by_cases hn : n = 0
  · subst hn
    have hx : x < pw 1 := h3.resolve_left (by omega)
    rw [if_pos hx]
    simp
  · have hx : pw n ≤ x := h2.resolve_left hn
    rw [if_neg (not_lt.mpr (le_trans (pw_mono (by omega)) hx)), if_neg hn]
    have hl2 : (0 : ℝ) < Real.log 2 := Real.log_pos one_lt_two
    have hl0 : ((Real.log 2 : ℝ) : EReal) ≠ 0 := by
      exact_mod_cast hl2.ne'
    induction x using EReal.rec with
    | bot => exact absurd hx (by unfold pw; exact not_le.mpr (EReal.bot_lt_coe _))
    | top =>
      have hn' : n = 252 := h3.resolve_right (by simp)
      subst hn'
      have : Ideal.div (Ideal.log ⊤) ((Real.log 2 : ℝ) : EReal) = ⊤ := by
        unfold Ideal.div Ideal.log
        rw [if_neg hl0, ← EReal.coe_inv]
        exact EReal.top_mul_coe_of_pos (inv_pos.mpr hl2)
      rw [this]
      show min ((⊤ : EReal) + 1) _ = _
      rw [show ((⊤ : EReal) + 1) = ⊤ from rfl, min_eq_right le_top]
      norm_num
    | coe r =>
      have hpr : (2 : ℝ) ^ ((n : ℤ) - 127) ≤ r := EReal.coe_le_coe_iff.mp hx
      have hr : 0 < r := lt_of_lt_of_le (zpow_pos two_pos _) hpr
      have e1 : Ideal.log ((r : ℝ) : EReal) = ((Real.log r : ℝ) : EReal) := by
        show (if r ≤ 0 then ⊥ else _) = _
        rw [if_neg (not_le.mpr hr)]
      have e2 : Ideal.div (Ideal.log ((r : ℝ) : EReal)) ((Real.log 2 : ℝ) : EReal) = ((Real.log r / Real.log 2 : ℝ) : EReal) := by
        rw [e1]
        unfold Ideal.div
        rw [if_neg hl0, ← EReal.coe_inv, ← EReal.coe_mul, div_eq_mul_inv]
      rw [e2]
      show min (((⌊Real.log r / Real.log 2⌋ : ℤ) : ℝ) + (1 : EReal)) _ = _
      have cm : ∀ a b : ℝ, min (a : EReal) (b : EReal) = ((min a b : ℝ) : EReal) := fun a b => (EReal.coe_strictMono.monotone.map_min).symm
      have lo : (n : ℤ) - 127 ≤ ⌊Real.log r / Real.log 2⌋ := by
        rw [Int.le_floor, le_div_iff₀ hl2, ← Real.log_zpow]
        exact Real.log_le_log (zpow_pos two_pos _) hpr
      rw [show (1 : EReal) = ((1 : ℝ) : EReal) from rfl, ← EReal.coe_add, cm]
      congr 1
      rcases h3 with h3 | h3
      · have : n = 252 := by omega
        subst this
        have : (125 : ℝ) ≤ (⌊Real.log r / Real.log 2⌋ : ℤ) := by exact_mod_cast lo
        rw [min_eq_right (by linarith)]
        norm_num
      · have hup : r < (2 : ℝ) ^ (((n + 0 + 1 : ℕ) : ℤ) - 127) := EReal.coe_lt_coe_iff.mp h3
        have hi : ⌊Real.log r / Real.log 2⌋ < (n : ℤ) - 126 := by
          rw [Int.floor_lt, div_lt_iff₀ hl2, ← Real.log_zpow]
          refine Real.log_lt_log hr ?_
          rw [show (n : ℤ) - 126 = ((n + 0 + 1 : ℕ) : ℤ) - 127 by push_cast; ring]
          exact hup
        have he : ⌊Real.log r / Real.log 2⌋ = (n : ℤ) - 127 := by omega
        rw [he, min_eq_left]
        · push_cast; ring
        · have : (n : ℝ) ≤ 252 := by exact_mod_cast (by omega : n ≤ 252)
          push_cast; linarith

theorem exp2_int (z : ℤ) : Ideal.exp2 (((z : ℝ)) : EReal) = (((2 : ℝ) ^ z : ℝ) : EReal) := by
  show ((Real.rpow 2 (z : ℝ) : ℝ) : EReal) = _
  exact congrArg _ (Real.rpow_intCast 2 z)

/-- The scale that the kernel builds from a word is the power of the exponent. -/
theorem scale_up (x : EReal) :
    Ideal.ofBits FTy.f32 (IntOp.shli ArithUnit.vector (IntOp.addi (wordExp (search x)) 127#32) 23#32) = Ideal.exp2 (expo x) := by
  obtain ⟨n, e, h⟩ := search_found x
  have hn : n ≤ 252 := h.1
  rw [e, up_word ⟨n, by omega⟩, expo_found x n h, exp2_int]
  dsimp only
  split
  · rw [ofBits_field 127 (by omega) (by omega)]; rfl
  · rw [ofBits_field (n + 1) (by omega) (by omega)]
    unfold pw
    congr 2
    push_cast; ring

/-- The reciprocal of the scale likewise. -/
theorem scale_down (x : EReal) :
    Ideal.ofBits FTy.f32 (IntOp.shli ArithUnit.vector (IntOp.subi 127#32 (wordExp (search x))) 23#32) = Ideal.exp2 (0 - expo x) := by
  obtain ⟨n, e, h⟩ := search_found x
  have hn : n ≤ 252 := h.1
  rw [e, down_word ⟨n, by omega⟩, expo_found x n h,
    show (0 : EReal) - (((if n = 0 then 0 else (n : ℤ) - 126 : ℤ) : ℝ) : EReal) = (((-(if n = 0 then 0 else (n : ℤ) - 126) : ℤ) : ℝ) : EReal) by
      rw [Int.cast_neg, EReal.coe_neg, zero_sub], exp2_int]
  dsimp only
  split
  · rw [ofBits_field 127 (by omega) (by omega)]; rfl
  · rw [ofBits_field (253 - n) (by omega) (by omega)]
    unfold pw
    congr 2
    rw [Nat.cast_sub (by omega)]
    push_cast; ring

end Cert.Attn

end
-- ==== Proof.CodeLoop.lean ====
module

public import proofs.«01_k».proof.Proof.LoopHeads
public import proofs.«01_k».proof.Proof.Exponent

/-! # The loop over the groups that writes the codes

Each trip of the inner loop of the last phase writes the codes of one group of heads for 128 tokens. -/

@[expose] public section

set_option maxRecDepth 16384

noncomputable section

open Idealize.ShloMosaic Idealize.SL.Sem

namespace Cert.KernelIdeal.Hand

open Cert.KernelIdeal Cert.KernelIdeal.Gen Cert.Attn

/-- A load of a rectangle at an index that one of the pieces covers, all pieces agreeing with `G`. -/
theorem readCov_apply_at {sig : RefSig} {κ : Kind} {sp : Space} {s : Shape} {e : EltTy} (v : View sig κ sp s e)
    (L : List (View.Piece (Elt Ideal) s e)) (G : s.Idx → Elt Ideal e)
    (hL : ∀ p ∈ L, ∀ x : p.1.shape.Idx, p.2 x = G (p.1.emb x))
    {off size : Fin s.rank → ℕ} (inb : ∀ a, off a + size a ≤ s.size a) (y : (Rect.unit off size inb).shape.Idx)
    (hc : ∃ p ∈ L, (Rect.unit off size inb).emb y ∈ p.1.set) :
    v.readCov L (Rect.unit off size inb).toLoadRect y = G ((Rect.unit off size inb).emb y) := by
  unfold View.readCov
  rw [View.readAt_unit v _ inb rfl inb]
  exact View.read_writes_apply_of_pieces v _ G L hL _ hc

/-- `x` cut to the range of the codes. -/
def clip448 (x : EReal) : EReal := min (Ideal.ofBits FTy.f32 1138753536#32) (max (Ideal.ofBits FTy.f32 3286237184#32) x)

theorem clip_congr {a a' b b' v v' : EReal} (ha : a = a') (hb : b = b') (hv : v = v') :
    clip448 (a * (b * v)) = clip448 (a' * (b' * v')) := by rw [ha, hb, hv]

theorem trip2_word (j k : Fin 8) : (Scalar.indexCast (Scalar.muli (Scf.iv 0#32 1#32 j) 128#32)).toNat = 128 * j.val
    ∧ (Scalar.indexCast (Scf.iv 0#32 1#32 j)).toNat = j.val
    ∧ (Scalar.indexCast (Scalar.addi (Scalar.muli (Scf.iv 0#32 1#32 k) 4#32) 0#32)).toNat = 4 * k.val + 0
    ∧ (Scalar.indexCast (Scalar.addi (Scalar.muli (Scf.iv 0#32 1#32 k) 4#32) 1#32)).toNat = 4 * k.val + 1
    ∧ (Scalar.indexCast (Scalar.addi (Scalar.muli (Scf.iv 0#32 1#32 k) 4#32) 2#32)).toNat = 4 * k.val + 2
    ∧ (Scalar.indexCast (Scalar.addi (Scalar.muli (Scf.iv 0#32 1#32 k) 4#32) 3#32)).toNat = 4 * k.val + 3
    ∧ (Scalar.indexCast (Scalar.muli (Scalar.muli (Scf.iv 0#32 1#32 k) 4#32) 160#32)).toNat = 640 * k.val := by
  revert j k; decide

section
variable (𝒱 : Variants) (c : Dev nD) (bd : Option 𝒱.V) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole)
  (arg0 : BitVec 32) (k0_h1 : k0_cond1 i = 1#1) (k0_t2 : Fin k0_t2_loop.trips) (v20 : BitVec 32) (v224 v225 : IVec S8x128 32)
  (X4 : BufTy.Contents (Elt Ideal) arg4.view.ty) (X14 : BufTy.Contents (Elt Ideal) arg14.view.ty)

/-- The value scale of group `k`. -/
def vsAt (k : Fin k0_t3_loop.trips) : EReal :=
  View.readAt (Elt Ideal) arg4.view (Rect.unit (s := S2x8) (k0_off50 i k) S1x1.size (k0_off50_inb i k k0_h1)).toLoadRect X4
    (Shape.Idx.first (Nat.lt_of_lt_of_eq Nat.one_pos numel1_S1x1.symm))

theorem factor_eq (k : Fin k0_t3_loop.trips) (l : Fin 128) :
    trip_k0_t3.sl.v256 (F := Ideal) i arg4 k0_h1 v224 v225 X4 k (ix2 0 l)
      = k0_pay6 (F := Ideal) v224 v225 (ix2 0 l) * vsAt i arg4 k0_h1 X4 k := by
  have e : ∀ (v : FVec Ideal S1x128 .f32) (s : EReal), k0_pay353 (F := Ideal) v s (ix2 0 l) = v (ix2 0 l) * s := by
    intro v s; pointwise [k0_pay353]
  exact e _ _

/-- What the staging buffer holds after the four stores of a trip. -/
def stage (k : Fin k0_t3_loop.trips) (y : S1024x160.Idx) : EReal :=
  clip448 (arg14.view.read (Elt Ideal) X14 (ix3 (n0 := 32) (n1 := 160) (n2 := 1024) ⟨(4 * k.val + (y 0).val / 160) % 32, Nat.mod_lt _ (by omega)⟩
      ⟨(y 0).val % 160, Nat.mod_lt _ (by omega)⟩ ⟨(128 * k0_t2.val + (y 1).val) % 1024, Nat.mod_lt _ (by omega)⟩)
    * (k0_pay6 (F := Ideal) v224 v225 (ix2 (n0 := 1) (n1 := 128) 0 ⟨(y 1).val % 128, Nat.mod_lt _ (by omega)⟩) * vsAt i arg4 k0_h1 X4 k))

/-- The codes of one group for 128 tokens, as the inner loop writes them. -/
def codes (y : S1x1024x5120.Idx) : EReal :=
  clip448 (arg14.view.read (Elt Ideal) X14 (ix3 (n0 := 32) (n1 := 160) (n2 := 1024) ⟨(y 2).val / 160, by have h : (y 2).val < 5120 := (y 2).isLt; omega⟩
      ⟨(y 2).val % 160, Nat.mod_lt _ (by omega)⟩ (y 1))
    * (k0_pay6 (F := Ideal) v224 v225 (ix2 (n0 := 1) (n1 := 128) 0 ⟨(y 1).val % 128, Nat.mod_lt _ (by omega)⟩)
      * vsAt i arg4 k0_h1 X4 ⟨(y 2).val / 640, by have h : (y 2).val < 5120 := (y 2).isLt; show _ < 8; omega⟩))

theorem stage_piece0 (k : Fin k0_t3_loop.trips) (x : S160x128.Idx) (y : S1024x160.Idx)
    (hy : y = (Rect.unit (s := S1024x160) ![0, 0] S160x128.size (by decide)).emb x) :
    trip_k0_t3.sl.v272 (F := Ideal) i arg4 arg14 k0_h1 k0_t2 v224 v225 X4 X14 k x = stage i arg4 arg14 k0_h1 k0_t2 v224 v225 X4 X14 k y := by
  have hk : k.val < 8 := Nat.lt_of_lt_of_le k.isLt k0_t3_abs.2.1
  have hj : k0_t2.val < 8 := Nat.lt_of_lt_of_le k0_t2.isLt k0_t2_abs.2.1
  obtain ⟨d, l, rfl⟩ : ∃ (d : Fin 160) (l : Fin 128), x = ix2 d l := ⟨x 0, x 1, eq_ix2 x⟩
  have h0 : (y 0).val = 0 + d.val := by rw [hy]; show 0 + 1 * d.val = _; omega
  have h1 : (y 1).val = l.val := by rw [hy]; show 0 + 1 * l.val = _; omega
  have hw := trip2_word ⟨k0_t2.val, hj⟩ ⟨k.val, hk⟩
  have e : ∀ (v : FVec Ideal S1x128 .f32) (b : Vec Ideal S1x160x128 .f32), k0_pay7 (F := Ideal) v b (ix2 d l)
      = clip448 (b (ix3 0 d l) * v (ix2 0 l)) := by
    intro v b; pointwise [k0_pay7]; rfl
  refine (e (trip_k0_t3.sl.v256 (F := Ideal) i arg4 k0_h1 v224 v225 X4 k) (View.readAt (Elt Ideal) arg14.view (Rect.unit (s := S32x160x1024) (k0_off51 k0_t2 k 0#32) S1x160x128.size (k0_off51_inb i k0_t2 k k0_h1 0)).toLoadRect X14)).trans ?_
  have hin : ∀ a, k0_off51 k0_t2 k 0#32 a + S1x160x128.size a ≤ S32x160x1024.size a := k0_off51_inb i k0_t2 k k0_h1 0
  rw [factor_eq, View.readAt_unit arg14.view X14 hin rfl hin]
  unfold stage VecWindow.window
  refine clip_congr (congrArg (arg14.view.read (Elt Ideal) X14) ?_) (congrArg (k0_pay6 (F := Ideal) v224 v225) ?_) rfl
  · refine ix3_of_vals (n0 := 32) (n1 := 160) (n2 := 1024) _ _ _ _ ?_ ?_ ?_
    · show (Scalar.indexCast (Scalar.addi (Scalar.muli (Scf.iv 0#32 1#32 k.val) 4#32) 0#32)).toNat + 1 * 0 = (4 * k.val + (y 0).val / 160) % 32
      have : (Scalar.indexCast (Scalar.addi (Scalar.muli (Scf.iv 0#32 1#32 k.val) 4#32) 0#32)).toNat = 4 * k.val + 0 := hw.2.2.1
      omega
    · show 0 + 1 * d.val = (y 0).val % 160; omega
    · show (Scalar.indexCast (Scalar.muli (Scf.iv 0#32 1#32 k0_t2.val) 128#32)).toNat + 1 * l.val = (128 * k0_t2.val + (y 1).val) % 1024
      have : (Scalar.indexCast (Scalar.muli (Scf.iv 0#32 1#32 k0_t2.val) 128#32)).toNat = 128 * k0_t2.val := hw.1
      omega
  · refine congrArg (ix2 (n0 := 1) (n1 := 128) 0) ?_
    exact Fin.ext (show l.val = (y 1).val % 128 by omega)

theorem stage_piece1 (k : Fin k0_t3_loop.trips) (x : S160x128.Idx) (y : S1024x160.Idx)
    (hy : y = (Rect.unit (s := S1024x160) ![160, 0] S160x128.size (by decide)).emb x) :
    trip_k0_t3.sl.v288 (F := Ideal) i arg4 arg14 k0_h1 k0_t2 v224 v225 X4 X14 k x = stage i arg4 arg14 k0_h1 k0_t2 v224 v225 X4 X14 k y := by
  have hk : k.val < 8 := Nat.lt_of_lt_of_le k.isLt k0_t3_abs.2.1
  have hj : k0_t2.val < 8 := Nat.lt_of_lt_of_le k0_t2.isLt k0_t2_abs.2.1
  obtain ⟨d, l, rfl⟩ : ∃ (d : Fin 160) (l : Fin 128), x = ix2 d l := ⟨x 0, x 1, eq_ix2 x⟩
  have h0 : (y 0).val = 160 + d.val := by rw [hy]; show 160 + 1 * d.val = _; omega
  have h1 : (y 1).val = l.val := by rw [hy]; show 0 + 1 * l.val = _; omega
  have hw := trip2_word ⟨k0_t2.val, hj⟩ ⟨k.val, hk⟩
  have e : ∀ (v : FVec Ideal S1x128 .f32) (b : Vec Ideal S1x160x128 .f32), k0_pay7 (F := Ideal) v b (ix2 d l)
      = clip448 (b (ix3 0 d l) * v (ix2 0 l)) := by
    intro v b; pointwise [k0_pay7]; rfl
  refine (e (trip_k0_t3.sl.v256 (F := Ideal) i arg4 k0_h1 v224 v225 X4 k) (View.readAt (Elt Ideal) arg14.view (Rect.unit (s := S32x160x1024) (k0_off51 k0_t2 k 1#32) S1x160x128.size (k0_off51_inb i k0_t2 k k0_h1 1)).toLoadRect X14)).trans ?_
  have hin : ∀ a, k0_off51 k0_t2 k 1#32 a + S1x160x128.size a ≤ S32x160x1024.size a := k0_off51_inb i k0_t2 k k0_h1 1
  rw [factor_eq, View.readAt_unit arg14.view X14 hin rfl hin]
  unfold stage VecWindow.window
  refine clip_congr (congrArg (arg14.view.read (Elt Ideal) X14) ?_) (congrArg (k0_pay6 (F := Ideal) v224 v225) ?_) rfl
  · refine ix3_of_vals (n0 := 32) (n1 := 160) (n2 := 1024) _ _ _ _ ?_ ?_ ?_
    · show (Scalar.indexCast (Scalar.addi (Scalar.muli (Scf.iv 0#32 1#32 k.val) 4#32) 1#32)).toNat + 1 * 0 = (4 * k.val + (y 0).val / 160) % 32
      have : (Scalar.indexCast (Scalar.addi (Scalar.muli (Scf.iv 0#32 1#32 k.val) 4#32) 1#32)).toNat = 4 * k.val + 1 := hw.2.2.2.1
      omega
    · show 0 + 1 * d.val = (y 0).val % 160; omega
    · show (Scalar.indexCast (Scalar.muli (Scf.iv 0#32 1#32 k0_t2.val) 128#32)).toNat + 1 * l.val = (128 * k0_t2.val + (y 1).val) % 1024
      have : (Scalar.indexCast (Scalar.muli (Scf.iv 0#32 1#32 k0_t2.val) 128#32)).toNat = 128 * k0_t2.val := hw.1
      omega
  · refine congrArg (ix2 (n0 := 1) (n1 := 128) 0) ?_
    exact Fin.ext (show l.val = (y 1).val % 128 by omega)

theorem stage_piece2 (k : Fin k0_t3_loop.trips) (x : S160x128.Idx) (y : S1024x160.Idx)
    (hy : y = (Rect.unit (s := S1024x160) ![320, 0] S160x128.size (by decide)).emb x) :
    k0_pay7 (F := Ideal) (trip_k0_t3.sl.v256 (F := Ideal) i arg4 k0_h1 v224 v225 X4 k) (View.readAt (Elt Ideal) arg14.view (Rect.unit (s := S32x160x1024) (k0_off51 k0_t2 k 2#32) S1x160x128.size (k0_off51_inb i k0_t2 k k0_h1 2)).toLoadRect X14) x = stage i arg4 arg14 k0_h1 k0_t2 v224 v225 X4 X14 k y := by
  have hk : k.val < 8 := Nat.lt_of_lt_of_le k.isLt k0_t3_abs.2.1
  have hj : k0_t2.val < 8 := Nat.lt_of_lt_of_le k0_t2.isLt k0_t2_abs.2.1
  obtain ⟨d, l, rfl⟩ : ∃ (d : Fin 160) (l : Fin 128), x = ix2 d l := ⟨x 0, x 1, eq_ix2 x⟩
  have h0 : (y 0).val = 320 + d.val := by rw [hy]; show 320 + 1 * d.val = _; omega
  have h1 : (y 1).val = l.val := by rw [hy]; show 0 + 1 * l.val = _; omega
  have hw := trip2_word ⟨k0_t2.val, hj⟩ ⟨k.val, hk⟩
  have e : ∀ (v : FVec Ideal S1x128 .f32) (b : Vec Ideal S1x160x128 .f32), k0_pay7 (F := Ideal) v b (ix2 d l)
      = clip448 (b (ix3 0 d l) * v (ix2 0 l)) := by
    intro v b; pointwise [k0_pay7]; rfl
  refine (e (trip_k0_t3.sl.v256 (F := Ideal) i arg4 k0_h1 v224 v225 X4 k) (View.readAt (Elt Ideal) arg14.view (Rect.unit (s := S32x160x1024) (k0_off51 k0_t2 k 2#32) S1x160x128.size (k0_off51_inb i k0_t2 k k0_h1 2)).toLoadRect X14)).trans ?_
  have hin : ∀ a, k0_off51 k0_t2 k 2#32 a + S1x160x128.size a ≤ S32x160x1024.size a := k0_off51_inb i k0_t2 k k0_h1 2
  rw [factor_eq, View.readAt_unit arg14.view X14 hin rfl hin]
  unfold stage VecWindow.window
  refine clip_congr (congrArg (arg14.view.read (Elt Ideal) X14) ?_) (congrArg (k0_pay6 (F := Ideal) v224 v225) ?_) rfl
  · refine ix3_of_vals (n0 := 32) (n1 := 160) (n2 := 1024) _ _ _ _ ?_ ?_ ?_
    · show (Scalar.indexCast (Scalar.addi (Scalar.muli (Scf.iv 0#32 1#32 k.val) 4#32) 2#32)).toNat + 1 * 0 = (4 * k.val + (y 0).val / 160) % 32
      have : (Scalar.indexCast (Scalar.addi (Scalar.muli (Scf.iv 0#32 1#32 k.val) 4#32) 2#32)).toNat = 4 * k.val + 2 := hw.2.2.2.2.1
      omega
    · show 0 + 1 * d.val = (y 0).val % 160; omega
    · show (Scalar.indexCast (Scalar.muli (Scf.iv 0#32 1#32 k0_t2.val) 128#32)).toNat + 1 * l.val = (128 * k0_t2.val + (y 1).val) % 1024
      have : (Scalar.indexCast (Scalar.muli (Scf.iv 0#32 1#32 k0_t2.val) 128#32)).toNat = 128 * k0_t2.val := hw.1
      omega
  · refine congrArg (ix2 (n0 := 1) (n1 := 128) 0) ?_
    exact Fin.ext (show l.val = (y 1).val % 128 by omega)

theorem stage_piece3 (k : Fin k0_t3_loop.trips) (x : S160x128.Idx) (y : S1024x160.Idx)
    (hy : y = (Rect.unit (s := S1024x160) ![480, 0] S160x128.size (by decide)).emb x) :
    k0_pay8 (F := Ideal) (trip_k0_t3.sl.v256 (F := Ideal) i arg4 k0_h1 v224 v225 X4 k) (View.readAt (Elt Ideal) arg14.view (Rect.unit (s := S32x160x1024) (k0_off51 k0_t2 k 3#32) S1x160x128.size (k0_off51_inb i k0_t2 k k0_h1 3)).toLoadRect X14) x = stage i arg4 arg14 k0_h1 k0_t2 v224 v225 X4 X14 k y := by
  have hk : k.val < 8 := Nat.lt_of_lt_of_le k.isLt k0_t3_abs.2.1
  have hj : k0_t2.val < 8 := Nat.lt_of_lt_of_le k0_t2.isLt k0_t2_abs.2.1
  obtain ⟨d, l, rfl⟩ : ∃ (d : Fin 160) (l : Fin 128), x = ix2 d l := ⟨x 0, x 1, eq_ix2 x⟩
  have h0 : (y 0).val = 480 + d.val := by rw [hy]; show 480 + 1 * d.val = _; omega
  have h1 : (y 1).val = l.val := by rw [hy]; show 0 + 1 * l.val = _; omega
  have hw := trip2_word ⟨k0_t2.val, hj⟩ ⟨k.val, hk⟩
  have e : ∀ (v : FVec Ideal S1x128 .f32) (b : Vec Ideal S1x160x128 .f32), k0_pay7 (F := Ideal) v b (ix2 d l)
      = clip448 (b (ix3 0 d l) * v (ix2 0 l)) := by
    intro v b; pointwise [k0_pay7]; rfl
  refine (e (trip_k0_t3.sl.v256 (F := Ideal) i arg4 k0_h1 v224 v225 X4 k) (View.readAt (Elt Ideal) arg14.view (Rect.unit (s := S32x160x1024) (k0_off51 k0_t2 k 3#32) S1x160x128.size (k0_off51_inb i k0_t2 k k0_h1 3)).toLoadRect X14)).trans ?_
  have hin : ∀ a, k0_off51 k0_t2 k 3#32 a + S1x160x128.size a ≤ S32x160x1024.size a := k0_off51_inb i k0_t2 k k0_h1 3
  rw [factor_eq, View.readAt_unit arg14.view X14 hin rfl hin]
  unfold stage VecWindow.window
  refine clip_congr (congrArg (arg14.view.read (Elt Ideal) X14) ?_) (congrArg (k0_pay6 (F := Ideal) v224 v225) ?_) rfl
  · refine ix3_of_vals (n0 := 32) (n1 := 160) (n2 := 1024) _ _ _ _ ?_ ?_ ?_
    · show (Scalar.indexCast (Scalar.addi (Scalar.muli (Scf.iv 0#32 1#32 k.val) 4#32) 3#32)).toNat + 1 * 0 = (4 * k.val + (y 0).val / 160) % 32
      have : (Scalar.indexCast (Scalar.addi (Scalar.muli (Scf.iv 0#32 1#32 k.val) 4#32) 3#32)).toNat = 4 * k.val + 3 := hw.2.2.2.2.2.1
      omega
    · show 0 + 1 * d.val = (y 0).val % 160; omega
    · show (Scalar.indexCast (Scalar.muli (Scf.iv 0#32 1#32 k0_t2.val) 128#32)).toNat + 1 * l.val = (128 * k0_t2.val + (y 1).val) % 1024
      have : (Scalar.indexCast (Scalar.muli (Scf.iv 0#32 1#32 k0_t2.val) 128#32)).toNat = 128 * k0_t2.val := hw.1
      omega
  · refine congrArg (ix2 (n0 := 1) (n1 := 128) 0) ?_
    exact Fin.ext (show l.val = (y 1).val % 128 by omega)

theorem stage_pieces (k : Fin k0_t3_loop.trips) :
    ∀ p ∈ trip_k0_t3.sl.HW_arg19_4 (F := Ideal) i arg4 arg14 k0_h1 k0_t2 v224 v225 X4 X14 k, ∀ x : p.1.shape.Idx,
      p.2 x = stage i arg4 arg14 k0_h1 k0_t2 v224 v225 X4 X14 k (p.1.emb x) := by
  intro p hp
  unfold trip_k0_t3.sl.HW_arg19_4 at hp
  simp only [List.mem_cons, List.not_mem_nil, or_false] at hp
  rcases hp with rfl | rfl | rfl | rfl <;> intro x <;> dsimp only
  · exact stage_piece3 i arg4 arg14 k0_h1 k0_t2 v224 v225 X4 X14 k x _ rfl
  · exact stage_piece2 i arg4 arg14 k0_h1 k0_t2 v224 v225 X4 X14 k x _ rfl
  · exact stage_piece1 i arg4 arg14 k0_h1 k0_t2 v224 v225 X4 X14 k x _ rfl
  · exact stage_piece0 i arg4 arg14 k0_h1 k0_t2 v224 v225 X4 X14 k x _ rfl

theorem stage_cover (k : Fin k0_t3_loop.trips) (y : S1024x160.Idx) (h0 : (y 0).val < 640) (h1 : (y 1).val < 128) :
    ∃ p ∈ trip_k0_t3.sl.HW_arg19_4 (F := Ideal) i arg4 arg14 k0_h1 k0_t2 v224 v225 X4 X14 k, y ∈ p.1.set := by
  unfold trip_k0_t3.sl.HW_arg19_4
  rcases Nat.lt_or_ge (y 0).val 160 with h | h
  · refine ⟨_, List.mem_cons_of_mem _ (List.mem_cons_of_mem _ (List.mem_cons_of_mem _ List.mem_cons_self)), ?_⟩
    refine (Rect.mem_set_unit (s := S1024x160) (inb := inb_S1024x160_S160x128_0_0)).mpr fun a => match a with
      | ⟨0, _⟩ => ⟨Nat.zero_le _, ?_⟩
      | ⟨1, _⟩ => ⟨Nat.zero_le _, ?_⟩
    · show (y 0).val < 0 + 160; omega
    · show (y 1).val < 0 + 128; omega
  rcases Nat.lt_or_ge (y 0).val 320 with h' | h'
  · refine ⟨_, List.mem_cons_of_mem _ (List.mem_cons_of_mem _ List.mem_cons_self), ?_⟩
    refine (Rect.mem_set_unit (s := S1024x160) (inb := inb_S1024x160_S160x128_160_0)).mpr fun a => match a with
      | ⟨0, _⟩ => ⟨h, ?_⟩
      | ⟨1, _⟩ => ⟨Nat.zero_le _, ?_⟩
    · show (y 0).val < 160 + 160; omega
    · show (y 1).val < 0 + 128; omega
  rcases Nat.lt_or_ge (y 0).val 480 with h'' | h''
  · refine ⟨_, List.mem_cons_of_mem _ List.mem_cons_self, ?_⟩
    refine (Rect.mem_set_unit (s := S1024x160) (inb := inb_S1024x160_S160x128_320_0)).mpr fun a => match a with
      | ⟨0, _⟩ => ⟨h', ?_⟩
      | ⟨1, _⟩ => ⟨Nat.zero_le _, ?_⟩
    · show (y 0).val < 320 + 160; omega
    · show (y 1).val < 0 + 128; omega
  · refine ⟨_, List.mem_cons_self, ?_⟩
    refine (Rect.mem_set_unit (s := S1024x160) (inb := inb_S1024x160_S160x128_480_0)).mpr fun a => match a with
      | ⟨0, _⟩ => ⟨h'', ?_⟩
      | ⟨1, _⟩ => ⟨Nat.zero_le _, ?_⟩
    · show (y 0).val < 480 + 160; omega
    · show (y 1).val < 0 + 128; omega

/-- The block of codes stored by trip `k`. -/
theorem code_piece (k : Fin k0_t3_loop.trips) (x : S1x128x640.Idx) (y : S1x1024x5120.Idx)
    (hy : y = (Rect.unit (s := S1x1024x5120) (k0_off52 k0_t2 k) S1x128x640.size (k0_off52_inb i k0_t2 k k0_h1)).emb x) :
    k0_pay9 (F := Ideal) (trip_k0_t3.sl.v324 (F := Ideal) i arg4 arg14 arg19 k0_h1 k0_t2 v224 v225 X4 X14 k) x
      = codes i arg4 arg14 k0_h1 v224 v225 X4 X14 y := by
  have hk : k.val < 8 := Nat.lt_of_lt_of_le k.isLt k0_t3_abs.2.1
  have hj : k0_t2.val < 8 := Nat.lt_of_lt_of_le k0_t2.isLt k0_t2_abs.2.1
  obtain ⟨z, l, c, rfl⟩ : ∃ (z : Fin 1) (l : Fin 128) (c : Fin 640), x = ix3 z l c := ⟨x 0, x 1, x 2, eq_ix3 x⟩
  have hw := trip2_word ⟨k0_t2.val, hj⟩ ⟨k.val, hk⟩
  have h1 : (y 1).val = 128 * k0_t2.val + l.val := by
    rw [hy]; show (Scalar.indexCast (Scalar.muli (Scf.iv 0#32 1#32 k0_t2.val) 128#32)).toNat + 1 * l.val = _
    have : (Scalar.indexCast (Scalar.muli (Scf.iv 0#32 1#32 k0_t2.val) 128#32)).toNat = 128 * k0_t2.val := hw.1
    omega
  have h2 : (y 2).val = 640 * k.val + c.val := by
    rw [hy]; show (Scalar.indexCast (Scalar.muli (Scalar.muli (Scf.iv 0#32 1#32 k.val) 4#32) 160#32)).toNat + 1 * c.val = _
    have : (Scalar.indexCast (Scalar.muli (Scalar.muli (Scf.iv 0#32 1#32 k.val) 4#32) 160#32)).toNat = 640 * k.val := hw.2.2.2.2.2.2
    omega
  have e : ∀ (v : Vec Ideal S640x128 .f32), k0_pay9 (F := Ideal) v (ix3 z l c) = v (ix2 c l) := by
    intro v; pointwise [k0_pay9]
  refine (e _).trans ?_
  unfold trip_k0_t3.sl.v324
  refine (readCov_apply_at arg19.view _ (stage i arg4 arg14 k0_h1 k0_t2 v224 v225 X4 X14 k)
    (stage_pieces i arg4 arg14 k0_h1 k0_t2 v224 v225 X4 X14 k) inb_S1024x160_S640x128_0_0 (ix2 c l)
    (stage_cover i arg4 arg14 k0_h1 k0_t2 v224 v225 X4 X14 k _ ?_ ?_)).trans ?_
  · show 0 + 1 * c.val < 640; omega
  · show 0 + 1 * l.val < 128; omega
  unfold stage codes
  refine clip_congr (congrArg (arg14.view.read (Elt Ideal) X14) ?_) (congrArg (k0_pay6 (F := Ideal) v224 v225) ?_) (congrArg (vsAt i arg4 k0_h1 X4) ?_)
  · refine ix3_of_vals (n0 := 32) (n1 := 160) (n2 := 1024) _ _ _ _ ?_ ?_ ?_
    · show (4 * k.val + (0 + 1 * c.val) / 160) % 32 = (y 2).val / 160; omega
    · show (0 + 1 * c.val) % 160 = (y 2).val % 160; omega
    · show (128 * k0_t2.val + (0 + 1 * l.val)) % 1024 = (y 1).val; omega
  · refine congrArg (ix2 (n0 := 1) (n1 := 128) 0) ?_
    exact Fin.ext (show (0 + 1 * l.val) % 128 = (y 1).val % 128 by omega)
  · exact Fin.ext (show k.val = (y 2).val / 640 by omega)

/-- One trip of the inner loop: the columns of its group become codes in the rows of the block, the others stay. -/
theorem trip_read12 (k : Fin k0_t3_loop.trips) (f12 : BufTy.Contents (Elt Ideal) arg12.view.ty) (f19 : BufTy.Contents (Elt Ideal) arg19.view.ty) (y : S1x1024x5120.Idx) :
    arg12.view.read (Elt Ideal) (arg12.view.writes (Elt Ideal) f12 ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h1 k0_t2 v20 v224 v225 X4 X14 k).1 f12 f19)) y
      = if 128 * k0_t2.val ≤ (y 1).val ∧ (y 1).val < 128 * k0_t2.val + 128 ∧ 640 * k.val ≤ (y 2).val ∧ (y 2).val < 640 * k.val + 640
        then codes i arg4 arg14 k0_h1 v224 v225 X4 X14 y else arg12.view.read (Elt Ideal) f12 y := by
  have hk : k.val < 8 := Nat.lt_of_lt_of_le k.isLt k0_t3_abs.2.1
  have hj : k0_t2.val < 8 := Nat.lt_of_lt_of_le k0_t2.isLt k0_t2_abs.2.1
  have hw := trip2_word ⟨k0_t2.val, hj⟩ ⟨k.val, hk⟩
  have hw1 : (Scalar.indexCast (Scalar.muli (Scf.iv 0#32 1#32 k0_t2.val) 128#32)).toNat = 128 * k0_t2.val := hw.1
  have hw2 : (Scalar.indexCast (Scalar.muli (Scalar.muli (Scf.iv 0#32 1#32 k.val) 4#32) 160#32)).toNat = 640 * k.val := hw.2.2.2.2.2.2
  have hL : (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h1 k0_t2 v20 v224 v225 X4 X14 k).1 f12 f19 = [⟨Rect.unit (s := S1x1024x5120) (k0_off52 k0_t2 k) S1x128x640.size (k0_off52_inb i k0_t2 k k0_h1),
      k0_pay9 (F := Ideal) (trip_k0_t3.sl.v324 (F := Ideal) i arg4 arg14 arg19 k0_h1 k0_t2 v224 v225 X4 X14 k)⟩] := by
    unfold trip_k0_t3; dsimp only
  rw [hL]
  split
  · next h =>
    refine View.read_writes_apply_of_pieces arg12.view f12 (codes i arg4 arg14 k0_h1 v224 v225 X4 X14) _ ?_ y ?_
    · intro p hp x
      simp only [List.mem_cons, List.not_mem_nil, or_false] at hp
      subst hp
      dsimp only
      exact code_piece i arg4 arg14 arg19 k0_h1 k0_t2 v224 v225 X4 X14 k x _ rfl
    · refine ⟨_, List.mem_cons_self, (Rect.mem_set_unit (s := S1x1024x5120) (inb := k0_off52_inb i k0_t2 k k0_h1)).mpr fun a => match a with
        | ⟨0, _⟩ => ⟨Nat.zero_le _, ?_⟩ | ⟨1, _⟩ => ?_ | ⟨2, _⟩ => ?_⟩
      · exact (y 0).isLt
      · show (Scalar.indexCast (Scalar.muli (Scf.iv 0#32 1#32 k0_t2.val) 128#32)).toNat ≤ (y 1).val
          ∧ (y 1).val < (Scalar.indexCast (Scalar.muli (Scf.iv 0#32 1#32 k0_t2.val) 128#32)).toNat + 128
        omega
      · show (Scalar.indexCast (Scalar.muli (Scalar.muli (Scf.iv 0#32 1#32 k.val) 4#32) 160#32)).toNat ≤ (y 2).val
          ∧ (y 2).val < (Scalar.indexCast (Scalar.muli (Scalar.muli (Scf.iv 0#32 1#32 k.val) 4#32) 160#32)).toNat + 640
        omega
  · next h =>
    refine View.read_writes_apply_of_forall_not_mem arg12.view f12 y _ fun p hp hm => h ?_
    simp only [List.mem_cons, List.not_mem_nil, or_false] at hp
    subst hp
    have h1 := (Rect.mem_set_unit (s := S1x1024x5120) (inb := k0_off52_inb i k0_t2 k k0_h1)).mp hm 1
    have h2 := (Rect.mem_set_unit (s := S1x1024x5120) (inb := k0_off52_inb i k0_t2 k k0_h1)).mp hm 2
    have h1' : (Scalar.indexCast (Scalar.muli (Scf.iv 0#32 1#32 k0_t2.val) 128#32)).toNat ≤ (y 1).val
      ∧ (y 1).val < (Scalar.indexCast (Scalar.muli (Scf.iv 0#32 1#32 k0_t2.val) 128#32)).toNat + 128 := h1
    have h2' : (Scalar.indexCast (Scalar.muli (Scalar.muli (Scf.iv 0#32 1#32 k.val) 4#32) 160#32)).toNat ≤ (y 2).val
      ∧ (y 2).val < (Scalar.indexCast (Scalar.muli (Scalar.muli (Scf.iv 0#32 1#32 k.val) 4#32) 160#32)).toNat + 640 := h2
    omega

/-- The result block after the first `n` trips of the inner loop. -/
theorem loop_read12 (G12 : BufTy.Contents (Elt Ideal) arg12.view.ty) (G19 : BufTy.Contents (Elt Ideal) arg19.view.ty) (y : S1x1024x5120.Idx)
    (n : ℕ) (hn : n ≤ k0_t3_loop.trips) :
    arg12.view.read (Elt Ideal) (arg12.view.writes (Elt Ideal) G12 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h1 k0_t2 v20 v224 v225 X4 X14 G12 G19 n).1) y
      = if 128 * k0_t2.val ≤ (y 1).val ∧ (y 1).val < 128 * k0_t2.val + 128 ∧ (y 2).val < 640 * n
        then codes i arg4 arg14 k0_h1 v224 v225 X4 X14 y else arg12.view.read (Elt Ideal) G12 y := by
  induction n with
  | zero =>
    rw [if_neg (by omega)]
    rfl
  | succ n ih =>
    have hn' : n < k0_t3_loop.trips := hn
    rw [pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h1 k0_t2 v20 v224 v225 X4 X14 G12 G19 ⟨n, hn'⟩]
    dsimp only
    rw [View.writes_append, trip_read12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h1 k0_t2 v20 v224 v225 X4 X14 ⟨n, hn'⟩ _ _ y, ih (by omega)]
    by_cases h : 128 * k0_t2.val ≤ (y 1).val ∧ (y 1).val < 128 * k0_t2.val + 128 ∧ 640 * n ≤ (y 2).val ∧ (y 2).val < 640 * n + 640
    · rw [if_pos h, if_pos (by omega)]
    · rw [if_neg h]
      by_cases h2 : 128 * k0_t2.val ≤ (y 1).val ∧ (y 1).val < 128 * k0_t2.val + 128 ∧ (y 2).val < 640 * n
      · rw [if_pos h2, if_pos (by omega)]
      · rw [if_neg h2, if_neg (by omega)]

end

end Cert.KernelIdeal.Hand

end
-- ==== Proof.HeadMax.lean ====
module

public import proofs.«01_k».proof.Proof.CodeLoop

/-! # The largest magnitude of a token and the word of its exponent

The last phase takes, for each token, the maximum over the 32 heads, divides it by 448 and searches the exponent. -/

@[expose] public section

set_option maxRecDepth 16384

noncomputable section

open Idealize.ShloMosaic Idealize.SL.Sem

namespace Cert.KernelIdeal.Hand

open Cert.KernelIdeal Cert.KernelIdeal.Gen Cert.Attn

/-- The maximum of the 32 rows, taken one after the other. -/
theorem chain_eq (b : Fin 32 → Vec Ideal S1x1x128 .f32) (l : Fin 128) :
    (max (max (max (max (max (max (max (max (max (max (max (max (max (max (max (max (max (max (max (max (max (max (max (max (max (max (max (max (max (max (max (b 0 (ix3 0 0 l)) (b 1 (ix3 0 0 l))) (b 2 (ix3 0 0 l))) (b 3 (ix3 0 0 l))) (b 4 (ix3 0 0 l))) (b 5 (ix3 0 0 l))) (b 6 (ix3 0 0 l))) (b 7 (ix3 0 0 l))) (b 8 (ix3 0 0 l))) (b 9 (ix3 0 0 l))) (b 10 (ix3 0 0 l))) (b 11 (ix3 0 0 l))) (b 12 (ix3 0 0 l))) (b 13 (ix3 0 0 l))) (b 14 (ix3 0 0 l))) (b 15 (ix3 0 0 l))) (b 16 (ix3 0 0 l))) (b 17 (ix3 0 0 l))) (b 18 (ix3 0 0 l))) (b 19 (ix3 0 0 l))) (b 20 (ix3 0 0 l))) (b 21 (ix3 0 0 l))) (b 22 (ix3 0 0 l))) (b 23 (ix3 0 0 l))) (b 24 (ix3 0 0 l))) (b 25 (ix3 0 0 l))) (b 26 (ix3 0 0 l))) (b 27 (ix3 0 0 l))) (b 28 (ix3 0 0 l))) (b 29 (ix3 0 0 l))) (b 30 (ix3 0 0 l))) (b 31 (ix3 0 0 l))) = Finset.univ.fold max ⊥ (fun h => b h (ix3 0 0 l)) := by
  apply le_antisymm
  · have h : ∀ h, b h (ix3 0 0 l) ≤ Finset.univ.fold max ⊥ (fun h => b h (ix3 0 0 l)) := fun h =>
      Finset.le_sup (f := fun h => b h (ix3 0 0 l)) (Finset.mem_univ h)
    repeat' apply max_le
    all_goals exact h _
  · refine Finset.sup_le fun h _ => ?_
    exact match h with
    | ⟨0, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_rfl)))))))))))))))))))))))))))))))
    | ⟨1, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))))))))))))
    | ⟨2, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))))))))))))
    | ⟨3, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))))))))))
    | ⟨4, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))))))))))
    | ⟨5, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))))))))
    | ⟨6, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))))))))
    | ⟨7, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))))))
    | ⟨8, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))))))
    | ⟨9, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))))
    | ⟨10, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))))
    | ⟨11, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))
    | ⟨12, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))
    | ⟨13, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))
    | ⟨14, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))
    | ⟨15, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))
    | ⟨16, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))
    | ⟨17, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))
    | ⟨18, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))
    | ⟨19, _⟩ => le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))
    | ⟨20, _⟩ => le_max_of_le_left (le_max_of_le_left (le_max_of_le_left (le_max_of_le_left (le_max_of_le_left (le_max_of_le_left (le_max_of_le_left (le_max_of_le_left (le_max_of_le_left (le_max_of_le_left (le_max_of_le_left (le_max_right _ _)))))))))))
    | ⟨21, _⟩ => le_max_of_le_left (le_max_of_le_left (le_max_of_le_left (le_max_of_le_left (le_max_of_le_left (le_max_of_le_left (le_max_of_le_left (le_max_of_le_left (le_max_of_le_left (le_max_of_le_left (le_max_right _ _))))))))))
    | ⟨22, _⟩ => le_max_of_le_left (le_max_of_le_left (le_max_of_le_left (le_max_of_le_left (le_max_of_le_left (le_max_of_le_left (le_max_of_le_left (le_max_of_le_left (le_max_of_le_left (le_max_right _ _)))))))))
    | ⟨23, _⟩ => le_max_of_le_left (le_max_of_le_left (le_max_of_le_left (le_max_of_le_left (le_max_of_le_left (le_max_of_le_left (le_max_of_le_left (le_max_of_le_left (le_max_right _ _))))))))
    | ⟨24, _⟩ => le_max_of_le_left (le_max_of_le_left (le_max_of_le_left (le_max_of_le_left (le_max_of_le_left (le_max_of_le_left (le_max_of_le_left (le_max_right _ _)))))))
    | ⟨25, _⟩ => le_max_of_le_left (le_max_of_le_left (le_max_of_le_left (le_max_of_le_left (le_max_of_le_left (le_max_of_le_left (le_max_right _ _))))))
    | ⟨26, _⟩ => le_max_of_le_left (le_max_of_le_left (le_max_of_le_left (le_max_of_le_left (le_max_of_le_left (le_max_right _ _)))))
    | ⟨27, _⟩ => le_max_of_le_left (le_max_of_le_left (le_max_of_le_left (le_max_of_le_left (le_max_right _ _))))
    | ⟨28, _⟩ => le_max_of_le_left (le_max_of_le_left (le_max_of_le_left (le_max_right _ _)))
    | ⟨29, _⟩ => le_max_of_le_left (le_max_of_le_left (le_max_right _ _))
    | ⟨30, _⟩ => le_max_of_le_left (le_max_right _ _)
    | ⟨31, _⟩ => le_max_right _ _
    | ⟨n + 32, h⟩ => absurd h (by omega)

/-- The largest magnitude over 448, from the rows of the 32 heads. -/
theorem mag_chain (b : Fin 32 → Vec Ideal S1x1x128 .f32) (x : Fin 8) (l : Fin 128) :
    k0_pay359 (F := Ideal) (k0_pay358 (F := Ideal) (k0_pay357 (F := Ideal) (k0_pay356 (F := Ideal) (b 0) (b 1) (b 2) (b 3) (b 4) (b 5) (b 6) (b 7) (b 8)) (b 9) (b 10) (b 11) (b 12) (b 13) (b 14) (b 15) (b 16) (b 17) (b 18)) (b 19) (b 20) (b 21) (b 22) (b 23) (b 24) (b 25) (b 26) (b 27) (b 28)) (b 29) (b 30) (b 31) (ix2 x l)
      = Finset.univ.fold max ⊥ (fun h => b h (ix3 0 0 l)) * recip448 := by
  have e356 : (k0_pay356 (F := Ideal) (b 0) (b 1) (b 2) (b 3) (b 4) (b 5) (b 6) (b 7) (b 8)) (ix2 0 l) = (max (max (max (max (max (max (max (max (b 0 (ix3 0 0 l)) (b 1 (ix3 0 0 l))) (b 2 (ix3 0 0 l))) (b 3 (ix3 0 0 l))) (b 4 (ix3 0 0 l))) (b 5 (ix3 0 0 l))) (b 6 (ix3 0 0 l))) (b 7 (ix3 0 0 l))) (b 8 (ix3 0 0 l))) := by pointwise [k0_pay356]
  have e357 : ∀ v, (k0_pay357 (F := Ideal) v (b 9) (b 10) (b 11) (b 12) (b 13) (b 14) (b 15) (b 16) (b 17) (b 18)) (ix2 0 l) = (max (max (max (max (max (max (max (max (max (max (v (ix2 0 l)) (b 9 (ix3 0 0 l))) (b 10 (ix3 0 0 l))) (b 11 (ix3 0 0 l))) (b 12 (ix3 0 0 l))) (b 13 (ix3 0 0 l))) (b 14 (ix3 0 0 l))) (b 15 (ix3 0 0 l))) (b 16 (ix3 0 0 l))) (b 17 (ix3 0 0 l))) (b 18 (ix3 0 0 l))) := by
    intro v; pointwise [k0_pay357]
  have e358 : ∀ v, (k0_pay358 (F := Ideal) v (b 19) (b 20) (b 21) (b 22) (b 23) (b 24) (b 25) (b 26) (b 27) (b 28)) (ix2 0 l) = (max (max (max (max (max (max (max (max (max (max (v (ix2 0 l)) (b 19 (ix3 0 0 l))) (b 20 (ix3 0 0 l))) (b 21 (ix3 0 0 l))) (b 22 (ix3 0 0 l))) (b 23 (ix3 0 0 l))) (b 24 (ix3 0 0 l))) (b 25 (ix3 0 0 l))) (b 26 (ix3 0 0 l))) (b 27 (ix3 0 0 l))) (b 28 (ix3 0 0 l))) := by
    intro v; pointwise [k0_pay358]
  have e359 : ∀ v, (k0_pay359 (F := Ideal) v (b 29) (b 30) (b 31)) (ix2 x l) = (max (max (max (v (ix2 0 l)) (b 29 (ix3 0 0 l))) (b 30 (ix3 0 0 l))) (b 31 (ix3 0 0 l))) * recip448 := by
    intro v; pointwise [k0_pay359]
  rw [e359, e358, e357, e356, chain_eq]

/-- The word that the search finds for a token. -/
theorem search_chain (v : FVec Ideal S1x128 .f32) (p q r : Vec Ideal S1x1x128 .f32) (x : Fin 8) (l : Fin 128) :
    k0_pay362 (F := Ideal) (k0_pay359 (F := Ideal) v p q r) (k0_pay360 (F := Ideal) v p q r) k0_pay361 (ix2 x l)
      = search (k0_pay359 (F := Ideal) v p q r (ix2 x l)) := by
  have e1 : k0_pay360 (F := Ideal) v p q r (ix2 x l)
      = bump (k0_pay359 (F := Ideal) v p q r (ix2 x l)) (bump (k0_pay359 (F := Ideal) v p q r (ix2 x l)) (bump (k0_pay359 (F := Ideal) v p q r (ix2 x l)) 0#32 126#32) 63#32) 32#32 := by
    unfold k0_pay360
    generalize k0_pay359 (F := Ideal) v p q r = a
    pointwise []
    rfl
  have e2 : ∀ (a : FVec Ideal S8x128 .f32) (n : IVec S8x128 32), k0_pay362 (F := Ideal) a n k0_pay361 (ix2 x l)
      = bump (a (ix2 x l)) (bump (a (ix2 x l)) (bump (a (ix2 x l)) (bump (a (ix2 x l)) (bump (a (ix2 x l)) (n (ix2 x l)) 16#32) 8#32) 4#32) 2#32) 1#32 := by
    intro a n
    pointwise [k0_pay362, k0_pay361]
    rfl
  rw [e2, e1]
  rfl

/-- A row of one lane block, read off the buffer of the heads' magnitudes. -/
theorem row_read (arg15 : Memref sig .tc .vmem S32x2x1024 .f32) (X15 : BufTy.Contents (Elt Ideal) arg15.view.ty)
    (off : Fin 3 → ℕ) (inb : ∀ a, off a + S1x1x128.size a ≤ S32x2x1024.size a) (h : Fin 32) (j : Fin 8) (l : Fin 128)
    (hoff : off = ![h.val, 0, 128 * j.val]) :
    View.readAt (Elt Ideal) arg15.view (Rect.unit (s := S32x2x1024) off S1x1x128.size inb).toLoadRect X15 (ix3 0 0 l)
      = arg15.view.read (Elt Ideal) X15 (ix3 h 0 (⟨128 * j.val + l.val, by omega⟩ : Fin 1024)) := by
  subst hoff
  rw [View.readAt_unit arg15.view X15 inb rfl inb]
  unfold VecWindow.window
  refine congrArg (arg15.view.read (Elt Ideal) X15) ?_
  refine ix3_of_vals (n0 := 32) (n1 := 2) (n2 := 1024) _ _ _ _ ?_ ?_ ?_
  · show h.val + 1 * 0 = h.val; omega
  · show 0 + 1 * 0 = 0; omega
  · show 128 * j.val + 1 * l.val = 128 * j.val + l.val; omega

/-- A token's largest magnitude over 448, from the buffer of the heads' magnitudes. -/
def magOf (arg15 : Memref sig .tc .vmem S32x2x1024 .f32) (X15 : BufTy.Contents (Elt Ideal) arg15.view.ty) (t : Fin 1024) : EReal :=
  Finset.univ.fold max ⊥ (fun h : Fin 32 => arg15.view.read (Elt Ideal) X15 (ix3 h 0 t)) * recip448

section
variable (i : grid0.Coords) (arg15 : Memref sig .tc .vmem S32x2x1024 .f32) (k0_h1 : k0_cond1 i = 1#1)
  (X15 : BufTy.Contents (Elt Ideal) arg15.view.ty) (k0_t2 : Fin k0_t2_loop.trips)

/-- The rows of the 32 heads in block `k0_t2`. -/
def rows : Fin 32 → Vec Ideal S1x1x128 .f32 := fun h => match h with
  | ⟨0, _⟩ => (View.readAt (Elt Ideal) arg15.view (Rect.unit (s := S32x2x1024) (k0_off17 k0_t2) S1x1x128.size (k0_off17_inb i k0_t2 k0_h1)).toLoadRect X15)
  | ⟨1, _⟩ => (View.readAt (Elt Ideal) arg15.view (Rect.unit (s := S32x2x1024) (k0_off18 k0_t2) S1x1x128.size (k0_off18_inb i k0_t2 k0_h1)).toLoadRect X15)
  | ⟨2, _⟩ => (View.readAt (Elt Ideal) arg15.view (Rect.unit (s := S32x2x1024) (k0_off19 k0_t2) S1x1x128.size (k0_off19_inb i k0_t2 k0_h1)).toLoadRect X15)
  | ⟨3, _⟩ => (View.readAt (Elt Ideal) arg15.view (Rect.unit (s := S32x2x1024) (k0_off20 k0_t2) S1x1x128.size (k0_off20_inb i k0_t2 k0_h1)).toLoadRect X15)
  | ⟨4, _⟩ => (View.readAt (Elt Ideal) arg15.view (Rect.unit (s := S32x2x1024) (k0_off21 k0_t2) S1x1x128.size (k0_off21_inb i k0_t2 k0_h1)).toLoadRect X15)
  | ⟨5, _⟩ => (View.readAt (Elt Ideal) arg15.view (Rect.unit (s := S32x2x1024) (k0_off22 k0_t2) S1x1x128.size (k0_off22_inb i k0_t2 k0_h1)).toLoadRect X15)
  | ⟨6, _⟩ => (View.readAt (Elt Ideal) arg15.view (Rect.unit (s := S32x2x1024) (k0_off23 k0_t2) S1x1x128.size (k0_off23_inb i k0_t2 k0_h1)).toLoadRect X15)
  | ⟨7, _⟩ => (View.readAt (Elt Ideal) arg15.view (Rect.unit (s := S32x2x1024) (k0_off24 k0_t2) S1x1x128.size (k0_off24_inb i k0_t2 k0_h1)).toLoadRect X15)
  | ⟨8, _⟩ => (View.readAt (Elt Ideal) arg15.view (Rect.unit (s := S32x2x1024) (k0_off25 k0_t2) S1x1x128.size (k0_off25_inb i k0_t2 k0_h1)).toLoadRect X15)
  | ⟨9, _⟩ => (View.readAt (Elt Ideal) arg15.view (Rect.unit (s := S32x2x1024) (k0_off26 k0_t2) S1x1x128.size (k0_off26_inb i k0_t2 k0_h1)).toLoadRect X15)
  | ⟨10, _⟩ => (View.readAt (Elt Ideal) arg15.view (Rect.unit (s := S32x2x1024) (k0_off27 k0_t2) S1x1x128.size (k0_off27_inb i k0_t2 k0_h1)).toLoadRect X15)
  | ⟨11, _⟩ => (View.readAt (Elt Ideal) arg15.view (Rect.unit (s := S32x2x1024) (k0_off28 k0_t2) S1x1x128.size (k0_off28_inb i k0_t2 k0_h1)).toLoadRect X15)
  | ⟨12, _⟩ => (View.readAt (Elt Ideal) arg15.view (Rect.unit (s := S32x2x1024) (k0_off29 k0_t2) S1x1x128.size (k0_off29_inb i k0_t2 k0_h1)).toLoadRect X15)
  | ⟨13, _⟩ => (View.readAt (Elt Ideal) arg15.view (Rect.unit (s := S32x2x1024) (k0_off30 k0_t2) S1x1x128.size (k0_off30_inb i k0_t2 k0_h1)).toLoadRect X15)
  | ⟨14, _⟩ => (View.readAt (Elt Ideal) arg15.view (Rect.unit (s := S32x2x1024) (k0_off31 k0_t2) S1x1x128.size (k0_off31_inb i k0_t2 k0_h1)).toLoadRect X15)
  | ⟨15, _⟩ => (View.readAt (Elt Ideal) arg15.view (Rect.unit (s := S32x2x1024) (k0_off32 k0_t2) S1x1x128.size (k0_off32_inb i k0_t2 k0_h1)).toLoadRect X15)
  | ⟨16, _⟩ => (View.readAt (Elt Ideal) arg15.view (Rect.unit (s := S32x2x1024) (k0_off33 k0_t2) S1x1x128.size (k0_off33_inb i k0_t2 k0_h1)).toLoadRect X15)
  | ⟨17, _⟩ => (View.readAt (Elt Ideal) arg15.view (Rect.unit (s := S32x2x1024) (k0_off34 k0_t2) S1x1x128.size (k0_off34_inb i k0_t2 k0_h1)).toLoadRect X15)
  | ⟨18, _⟩ => (View.readAt (Elt Ideal) arg15.view (Rect.unit (s := S32x2x1024) (k0_off35 k0_t2) S1x1x128.size (k0_off35_inb i k0_t2 k0_h1)).toLoadRect X15)
  | ⟨19, _⟩ => (View.readAt (Elt Ideal) arg15.view (Rect.unit (s := S32x2x1024) (k0_off36 k0_t2) S1x1x128.size (k0_off36_inb i k0_t2 k0_h1)).toLoadRect X15)
  | ⟨20, _⟩ => (View.readAt (Elt Ideal) arg15.view (Rect.unit (s := S32x2x1024) (k0_off37 k0_t2) S1x1x128.size (k0_off37_inb i k0_t2 k0_h1)).toLoadRect X15)
  | ⟨21, _⟩ => (View.readAt (Elt Ideal) arg15.view (Rect.unit (s := S32x2x1024) (k0_off38 k0_t2) S1x1x128.size (k0_off38_inb i k0_t2 k0_h1)).toLoadRect X15)
  | ⟨22, _⟩ => (View.readAt (Elt Ideal) arg15.view (Rect.unit (s := S32x2x1024) (k0_off39 k0_t2) S1x1x128.size (k0_off39_inb i k0_t2 k0_h1)).toLoadRect X15)
  | ⟨23, _⟩ => (View.readAt (Elt Ideal) arg15.view (Rect.unit (s := S32x2x1024) (k0_off40 k0_t2) S1x1x128.size (k0_off40_inb i k0_t2 k0_h1)).toLoadRect X15)
  | ⟨24, _⟩ => (View.readAt (Elt Ideal) arg15.view (Rect.unit (s := S32x2x1024) (k0_off41 k0_t2) S1x1x128.size (k0_off41_inb i k0_t2 k0_h1)).toLoadRect X15)
  | ⟨25, _⟩ => (View.readAt (Elt Ideal) arg15.view (Rect.unit (s := S32x2x1024) (k0_off42 k0_t2) S1x1x128.size (k0_off42_inb i k0_t2 k0_h1)).toLoadRect X15)
  | ⟨26, _⟩ => (View.readAt (Elt Ideal) arg15.view (Rect.unit (s := S32x2x1024) (k0_off43 k0_t2) S1x1x128.size (k0_off43_inb i k0_t2 k0_h1)).toLoadRect X15)
  | ⟨27, _⟩ => (View.readAt (Elt Ideal) arg15.view (Rect.unit (s := S32x2x1024) (k0_off44 k0_t2) S1x1x128.size (k0_off44_inb i k0_t2 k0_h1)).toLoadRect X15)
  | ⟨28, _⟩ => (View.readAt (Elt Ideal) arg15.view (Rect.unit (s := S32x2x1024) (k0_off45 k0_t2) S1x1x128.size (k0_off45_inb i k0_t2 k0_h1)).toLoadRect X15)
  | ⟨29, _⟩ => (View.readAt (Elt Ideal) arg15.view (Rect.unit (s := S32x2x1024) (k0_off46 k0_t2) S1x1x128.size (k0_off46_inb i k0_t2 k0_h1)).toLoadRect X15)
  | ⟨30, _⟩ => (View.readAt (Elt Ideal) arg15.view (Rect.unit (s := S32x2x1024) (k0_off47 k0_t2) S1x1x128.size (k0_off47_inb i k0_t2 k0_h1)).toLoadRect X15)
  | ⟨31, _⟩ => (View.readAt (Elt Ideal) arg15.view (Rect.unit (s := S32x2x1024) (k0_off48 k0_t2) S1x1x128.size (k0_off48_inb i k0_t2 k0_h1)).toLoadRect X15)
  | ⟨n + 32, h⟩ => absurd h (by omega)

theorem row_off (j : Fin 8) : ∀ h : Fin 32, (match h with
  | ⟨0, _⟩ => k0_off17 (j : Fin k0_t2_loop.trips)
  | ⟨1, _⟩ => k0_off18 (j : Fin k0_t2_loop.trips)
  | ⟨2, _⟩ => k0_off19 (j : Fin k0_t2_loop.trips)
  | ⟨3, _⟩ => k0_off20 (j : Fin k0_t2_loop.trips)
  | ⟨4, _⟩ => k0_off21 (j : Fin k0_t2_loop.trips)
  | ⟨5, _⟩ => k0_off22 (j : Fin k0_t2_loop.trips)
  | ⟨6, _⟩ => k0_off23 (j : Fin k0_t2_loop.trips)
  | ⟨7, _⟩ => k0_off24 (j : Fin k0_t2_loop.trips)
  | ⟨8, _⟩ => k0_off25 (j : Fin k0_t2_loop.trips)
  | ⟨9, _⟩ => k0_off26 (j : Fin k0_t2_loop.trips)
  | ⟨10, _⟩ => k0_off27 (j : Fin k0_t2_loop.trips)
  | ⟨11, _⟩ => k0_off28 (j : Fin k0_t2_loop.trips)
  | ⟨12, _⟩ => k0_off29 (j : Fin k0_t2_loop.trips)
  | ⟨13, _⟩ => k0_off30 (j : Fin k0_t2_loop.trips)
  | ⟨14, _⟩ => k0_off31 (j : Fin k0_t2_loop.trips)
  | ⟨15, _⟩ => k0_off32 (j : Fin k0_t2_loop.trips)
  | ⟨16, _⟩ => k0_off33 (j : Fin k0_t2_loop.trips)
  | ⟨17, _⟩ => k0_off34 (j : Fin k0_t2_loop.trips)
  | ⟨18, _⟩ => k0_off35 (j : Fin k0_t2_loop.trips)
  | ⟨19, _⟩ => k0_off36 (j : Fin k0_t2_loop.trips)
  | ⟨20, _⟩ => k0_off37 (j : Fin k0_t2_loop.trips)
  | ⟨21, _⟩ => k0_off38 (j : Fin k0_t2_loop.trips)
  | ⟨22, _⟩ => k0_off39 (j : Fin k0_t2_loop.trips)
  | ⟨23, _⟩ => k0_off40 (j : Fin k0_t2_loop.trips)
  | ⟨24, _⟩ => k0_off41 (j : Fin k0_t2_loop.trips)
  | ⟨25, _⟩ => k0_off42 (j : Fin k0_t2_loop.trips)
  | ⟨26, _⟩ => k0_off43 (j : Fin k0_t2_loop.trips)
  | ⟨27, _⟩ => k0_off44 (j : Fin k0_t2_loop.trips)
  | ⟨28, _⟩ => k0_off45 (j : Fin k0_t2_loop.trips)
  | ⟨29, _⟩ => k0_off46 (j : Fin k0_t2_loop.trips)
  | ⟨30, _⟩ => k0_off47 (j : Fin k0_t2_loop.trips)
  | ⟨31, _⟩ => k0_off48 (j : Fin k0_t2_loop.trips)
  | ⟨n + 32, h⟩ => absurd h (by omega) : Fin 3 → ℕ) = ![h.val, 0, 128 * j.val] := by
  revert j; decide

theorem rows_read (h : Fin 32) (l : Fin 128) :
    rows i arg15 k0_h1 X15 k0_t2 h (ix3 0 0 l)
      = arg15.view.read (Elt Ideal) X15 (ix3 h 0 (⟨128 * k0_t2.val + l.val, by have hj : k0_t2.val < 8 := Nat.lt_of_lt_of_le k0_t2.isLt k0_t2_abs.2.1; omega⟩ : Fin 1024)) := by
  have hj : k0_t2.val < 8 := Nat.lt_of_lt_of_le k0_t2.isLt k0_t2_abs.2.1
  exact match h with
  | ⟨0, _⟩ => row_read arg15 X15 _ (k0_off17_inb i k0_t2 k0_h1) ⟨0, by decide⟩ ⟨k0_t2.val, hj⟩ l (row_off ⟨k0_t2.val, hj⟩ ⟨0, by decide⟩)
  | ⟨1, _⟩ => row_read arg15 X15 _ (k0_off18_inb i k0_t2 k0_h1) ⟨1, by decide⟩ ⟨k0_t2.val, hj⟩ l (row_off ⟨k0_t2.val, hj⟩ ⟨1, by decide⟩)
  | ⟨2, _⟩ => row_read arg15 X15 _ (k0_off19_inb i k0_t2 k0_h1) ⟨2, by decide⟩ ⟨k0_t2.val, hj⟩ l (row_off ⟨k0_t2.val, hj⟩ ⟨2, by decide⟩)
  | ⟨3, _⟩ => row_read arg15 X15 _ (k0_off20_inb i k0_t2 k0_h1) ⟨3, by decide⟩ ⟨k0_t2.val, hj⟩ l (row_off ⟨k0_t2.val, hj⟩ ⟨3, by decide⟩)
  | ⟨4, _⟩ => row_read arg15 X15 _ (k0_off21_inb i k0_t2 k0_h1) ⟨4, by decide⟩ ⟨k0_t2.val, hj⟩ l (row_off ⟨k0_t2.val, hj⟩ ⟨4, by decide⟩)
  | ⟨5, _⟩ => row_read arg15 X15 _ (k0_off22_inb i k0_t2 k0_h1) ⟨5, by decide⟩ ⟨k0_t2.val, hj⟩ l (row_off ⟨k0_t2.val, hj⟩ ⟨5, by decide⟩)
  | ⟨6, _⟩ => row_read arg15 X15 _ (k0_off23_inb i k0_t2 k0_h1) ⟨6, by decide⟩ ⟨k0_t2.val, hj⟩ l (row_off ⟨k0_t2.val, hj⟩ ⟨6, by decide⟩)
  | ⟨7, _⟩ => row_read arg15 X15 _ (k0_off24_inb i k0_t2 k0_h1) ⟨7, by decide⟩ ⟨k0_t2.val, hj⟩ l (row_off ⟨k0_t2.val, hj⟩ ⟨7, by decide⟩)
  | ⟨8, _⟩ => row_read arg15 X15 _ (k0_off25_inb i k0_t2 k0_h1) ⟨8, by decide⟩ ⟨k0_t2.val, hj⟩ l (row_off ⟨k0_t2.val, hj⟩ ⟨8, by decide⟩)
  | ⟨9, _⟩ => row_read arg15 X15 _ (k0_off26_inb i k0_t2 k0_h1) ⟨9, by decide⟩ ⟨k0_t2.val, hj⟩ l (row_off ⟨k0_t2.val, hj⟩ ⟨9, by decide⟩)
  | ⟨10, _⟩ => row_read arg15 X15 _ (k0_off27_inb i k0_t2 k0_h1) ⟨10, by decide⟩ ⟨k0_t2.val, hj⟩ l (row_off ⟨k0_t2.val, hj⟩ ⟨10, by decide⟩)
  | ⟨11, _⟩ => row_read arg15 X15 _ (k0_off28_inb i k0_t2 k0_h1) ⟨11, by decide⟩ ⟨k0_t2.val, hj⟩ l (row_off ⟨k0_t2.val, hj⟩ ⟨11, by decide⟩)
  | ⟨12, _⟩ => row_read arg15 X15 _ (k0_off29_inb i k0_t2 k0_h1) ⟨12, by decide⟩ ⟨k0_t2.val, hj⟩ l (row_off ⟨k0_t2.val, hj⟩ ⟨12, by decide⟩)
  | ⟨13, _⟩ => row_read arg15 X15 _ (k0_off30_inb i k0_t2 k0_h1) ⟨13, by decide⟩ ⟨k0_t2.val, hj⟩ l (row_off ⟨k0_t2.val, hj⟩ ⟨13, by decide⟩)
  | ⟨14, _⟩ => row_read arg15 X15 _ (k0_off31_inb i k0_t2 k0_h1) ⟨14, by decide⟩ ⟨k0_t2.val, hj⟩ l (row_off ⟨k0_t2.val, hj⟩ ⟨14, by decide⟩)
  | ⟨15, _⟩ => row_read arg15 X15 _ (k0_off32_inb i k0_t2 k0_h1) ⟨15, by decide⟩ ⟨k0_t2.val, hj⟩ l (row_off ⟨k0_t2.val, hj⟩ ⟨15, by decide⟩)
  | ⟨16, _⟩ => row_read arg15 X15 _ (k0_off33_inb i k0_t2 k0_h1) ⟨16, by decide⟩ ⟨k0_t2.val, hj⟩ l (row_off ⟨k0_t2.val, hj⟩ ⟨16, by decide⟩)
  | ⟨17, _⟩ => row_read arg15 X15 _ (k0_off34_inb i k0_t2 k0_h1) ⟨17, by decide⟩ ⟨k0_t2.val, hj⟩ l (row_off ⟨k0_t2.val, hj⟩ ⟨17, by decide⟩)
  | ⟨18, _⟩ => row_read arg15 X15 _ (k0_off35_inb i k0_t2 k0_h1) ⟨18, by decide⟩ ⟨k0_t2.val, hj⟩ l (row_off ⟨k0_t2.val, hj⟩ ⟨18, by decide⟩)
  | ⟨19, _⟩ => row_read arg15 X15 _ (k0_off36_inb i k0_t2 k0_h1) ⟨19, by decide⟩ ⟨k0_t2.val, hj⟩ l (row_off ⟨k0_t2.val, hj⟩ ⟨19, by decide⟩)
  | ⟨20, _⟩ => row_read arg15 X15 _ (k0_off37_inb i k0_t2 k0_h1) ⟨20, by decide⟩ ⟨k0_t2.val, hj⟩ l (row_off ⟨k0_t2.val, hj⟩ ⟨20, by decide⟩)
  | ⟨21, _⟩ => row_read arg15 X15 _ (k0_off38_inb i k0_t2 k0_h1) ⟨21, by decide⟩ ⟨k0_t2.val, hj⟩ l (row_off ⟨k0_t2.val, hj⟩ ⟨21, by decide⟩)
  | ⟨22, _⟩ => row_read arg15 X15 _ (k0_off39_inb i k0_t2 k0_h1) ⟨22, by decide⟩ ⟨k0_t2.val, hj⟩ l (row_off ⟨k0_t2.val, hj⟩ ⟨22, by decide⟩)
  | ⟨23, _⟩ => row_read arg15 X15 _ (k0_off40_inb i k0_t2 k0_h1) ⟨23, by decide⟩ ⟨k0_t2.val, hj⟩ l (row_off ⟨k0_t2.val, hj⟩ ⟨23, by decide⟩)
  | ⟨24, _⟩ => row_read arg15 X15 _ (k0_off41_inb i k0_t2 k0_h1) ⟨24, by decide⟩ ⟨k0_t2.val, hj⟩ l (row_off ⟨k0_t2.val, hj⟩ ⟨24, by decide⟩)
  | ⟨25, _⟩ => row_read arg15 X15 _ (k0_off42_inb i k0_t2 k0_h1) ⟨25, by decide⟩ ⟨k0_t2.val, hj⟩ l (row_off ⟨k0_t2.val, hj⟩ ⟨25, by decide⟩)
  | ⟨26, _⟩ => row_read arg15 X15 _ (k0_off43_inb i k0_t2 k0_h1) ⟨26, by decide⟩ ⟨k0_t2.val, hj⟩ l (row_off ⟨k0_t2.val, hj⟩ ⟨26, by decide⟩)
  | ⟨27, _⟩ => row_read arg15 X15 _ (k0_off44_inb i k0_t2 k0_h1) ⟨27, by decide⟩ ⟨k0_t2.val, hj⟩ l (row_off ⟨k0_t2.val, hj⟩ ⟨27, by decide⟩)
  | ⟨28, _⟩ => row_read arg15 X15 _ (k0_off45_inb i k0_t2 k0_h1) ⟨28, by decide⟩ ⟨k0_t2.val, hj⟩ l (row_off ⟨k0_t2.val, hj⟩ ⟨28, by decide⟩)
  | ⟨29, _⟩ => row_read arg15 X15 _ (k0_off46_inb i k0_t2 k0_h1) ⟨29, by decide⟩ ⟨k0_t2.val, hj⟩ l (row_off ⟨k0_t2.val, hj⟩ ⟨29, by decide⟩)
  | ⟨30, _⟩ => row_read arg15 X15 _ (k0_off47_inb i k0_t2 k0_h1) ⟨30, by decide⟩ ⟨k0_t2.val, hj⟩ l (row_off ⟨k0_t2.val, hj⟩ ⟨30, by decide⟩)
  | ⟨31, _⟩ => row_read arg15 X15 _ (k0_off48_inb i k0_t2 k0_h1) ⟨31, by decide⟩ ⟨k0_t2.val, hj⟩ l (row_off ⟨k0_t2.val, hj⟩ ⟨31, by decide⟩)
  | ⟨n + 32, h⟩ => absurd h (by omega)

/-- The vector of words that the search leaves for block `k0_t2`. -/
def words : IVec S8x128 32 :=
  let b := rows i arg15 k0_h1 X15 k0_t2
  k0_pay362 (F := Ideal) (k0_pay359 (F := Ideal) (k0_pay358 (F := Ideal) (k0_pay357 (F := Ideal) (k0_pay356 (F := Ideal) (b 0) (b 1) (b 2) (b 3) (b 4) (b 5) (b 6) (b 7) (b 8)) (b 9) (b 10) (b 11) (b 12) (b 13) (b 14) (b 15) (b 16) (b 17) (b 18)) (b 19) (b 20) (b 21) (b 22) (b 23) (b 24) (b 25) (b 26) (b 27) (b 28)) (b 29) (b 30) (b 31)) (k0_pay360 (F := Ideal) (k0_pay358 (F := Ideal) (k0_pay357 (F := Ideal) (k0_pay356 (F := Ideal) (b 0) (b 1) (b 2) (b 3) (b 4) (b 5) (b 6) (b 7) (b 8)) (b 9) (b 10) (b 11) (b 12) (b 13) (b 14) (b 15) (b 16) (b 17) (b 18)) (b 19) (b 20) (b 21) (b 22) (b 23) (b 24) (b 25) (b 26) (b 27) (b 28)) (b 29) (b 30) (b 31)) k0_pay361

theorem words_apply (x : Fin 8) (l : Fin 128) :
    words i arg15 k0_h1 X15 k0_t2 (ix2 x l)
      = search (magOf arg15 X15 ⟨128 * k0_t2.val + l.val, by have hj : k0_t2.val < 8 := Nat.lt_of_lt_of_le k0_t2.isLt k0_t2_abs.2.1; omega⟩) := by
  unfold words
  rw [search_chain, mag_chain]
  unfold magOf
  congr 2
  congr 1
  funext h
  exact rows_read i arg15 k0_h1 X15 k0_t2 h l

/-- The scale row of a block. -/
theorem up_row (z u : Fin 1) (l : Fin 128) :
    k0_pay5 (F := Ideal) (words i arg15 k0_h1 X15 k0_t2) k0_pay363 (ix3 z u l)
      = Ideal.exp2 (expo (magOf arg15 X15 ⟨128 * k0_t2.val + l.val, by have hj : k0_t2.val < 8 := Nat.lt_of_lt_of_le k0_t2.isLt k0_t2_abs.2.1; omega⟩)) := by
  rw [← scale_up, ← words_apply i arg15 k0_h1 X15 k0_t2 0 l]
  generalize words i arg15 k0_h1 X15 k0_t2 = w
  pointwise [k0_pay5, k0_pay4, k0_pay363]
  rfl

/-- The inverse scale row of a block. -/
theorem down_row (l : Fin 128) :
    k0_pay6 (F := Ideal) (words i arg15 k0_h1 X15 k0_t2) k0_pay363 (ix2 0 l)
      = Ideal.exp2 (0 - expo (magOf arg15 X15 ⟨128 * k0_t2.val + l.val, by have hj : k0_t2.val < 8 := Nat.lt_of_lt_of_le k0_t2.isLt k0_t2_abs.2.1; omega⟩)) := by
  rw [← scale_down, ← words_apply i arg15 k0_h1 X15 k0_t2 0 l]
  generalize words i arg15 k0_h1 X15 k0_t2 = w
  pointwise [k0_pay6, k0_pay4, k0_pay363]
  rfl

end

end Cert.KernelIdeal.Hand

end
-- ==== Proof.LastPhase.lean ====
module

public import proofs.«01_k».proof.Proof.HeadMax
public import Idealize.ShloMosaic.Lib.Pipeline.Frame
public import Idealize.ShloMosaic.Lib.Tactic

/-! # The loop over the token blocks of the last phase

After its trips every token has its scale and its codes. -/

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The codes of the last phase, from the scratch buffers that hold the heads' outputs and magnitudes. -/
def codeAt (i : grid0.Coords) (arg4 : Memref sig .tc .smem S2x8 .f32) (arg14 : Memref sig .tc .vmem S32x160x1024 .f32) (arg15 : Memref sig .tc .vmem S32x2x1024 .f32)
    (k0_h1 : k0_cond1 i = 1#1) (X4 : BufTy.Contents (Elt Ideal) arg4.view.ty) (X14 : BufTy.Contents (Elt Ideal) arg14.view.ty) (X15 : BufTy.Contents (Elt Ideal) arg15.view.ty)
    (y : S1x1024x5120.Idx) : EReal :=
  clip448 (arg14.view.read (Elt Ideal) X14 (ix3 (n0 := 32) (n1 := 160) (n2 := 1024) ⟨(y 2).val / 160, by have h : (y 2).val < 5120 := (y 2).isLt; omega⟩
      ⟨(y 2).val % 160, Nat.mod_lt _ (by omega)⟩ (y 1))
    * (Ideal.exp2 (0 - expo (magOf arg15 X15 (y 1)))
      * vsAt i arg4 k0_h1 X4 ⟨(y 2).val / 640, by have h : (y 2).val < 5120 := (y 2).isLt; show _ < 8; omega⟩))

/-- The scales of the last phase. -/
def scaleAt (arg15 : Memref sig .tc .vmem S32x2x1024 .f32) (X15 : BufTy.Contents (Elt Ideal) arg15.view.ty) (y : S1x8x128.Idx) : EReal :=
  Ideal.exp2 (expo (magOf arg15 X15 ⟨128 * (y 1).val + (y 2).val, by have h : (y 1).val < 8 := (y 1).isLt; have h' : (y 2).val < 128 := (y 2).isLt; omega⟩))

section
variable (𝒱 : Variants) (c : Dev nD) (bd : Option 𝒱.V) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole) (k0_h1 : k0_cond1 i = 1#1)
    (X4 : BufTy.Contents (Elt Ideal) arg4.view.ty) (X14 : BufTy.Contents (Elt Ideal) arg14.view.ty) (X15 : BufTy.Contents (Elt Ideal) arg15.view.ty) (k0_t2 : Fin k0_t2_loop.trips)

/-- One trip's codes: the rows of its block, the others as before. -/
theorem trip2_read12 (arg0 v20 : BitVec 32) (f12 : BufTy.Contents (Elt Ideal) arg12.view.ty) (f19 : BufTy.Contents (Elt Ideal) arg19.view.ty)
    (h : ∀ y : S1x1024x5120.Idx, (y 1).val < 128 * k0_t2.val → arg12.view.read (Elt Ideal) f12 y = codeAt i arg4 arg14 arg15 k0_h1 X4 X14 X15 y)
    (y : S1x1024x5120.Idx) (hy : (y 1).val < 128 * (k0_t2.val + 1)) :
    arg12.view.read (Elt Ideal) (arg12.view.writes (Elt Ideal) f12 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h1 k0_t2 v20 (words i arg15 k0_h1 X15 k0_t2) k0_pay363 X4 X14 f12 f19 k0_t3_loop.trips).1) y
      = codeAt i arg4 arg14 arg15 k0_h1 X4 X14 X15 y := by
  rw [loop_read12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h1 k0_t2 v20 (words i arg15 k0_h1 X15 k0_t2) k0_pay363 X4 X14 f12 f19 y _ le_rfl]
  have h2 : (y 2).val < 640 * k0_t3_loop.trips := (y 2).isLt
  by_cases h1 : 128 * k0_t2.val ≤ (y 1).val
  · rw [if_pos ⟨h1, by omega, h2⟩]
    unfold codes codeAt
    refine clip_congr rfl ?_ rfl
    rw [down_row]
    congr 3
    refine congrArg _ (Fin.ext (show 128 * k0_t2.val + (y 1).val % 128 = (y 1).val by omega))
  · rw [if_neg (fun h => h1 h.1)]
    exact h y (by omega)

/-- One trip's scales: the row of its block, the others as before. -/
theorem trip2_read13 (f13 : BufTy.Contents (Elt Ideal) arg13.view.ty)
    (h : ∀ y : S1x8x128.Idx, (y 1).val < k0_t2.val → arg13.view.read (Elt Ideal) f13 y = scaleAt arg15 X15 y)
    (y : S1x8x128.Idx) (hy : (y 1).val < k0_t2.val + 1) :
    arg13.view.read (Elt Ideal) (arg13.view.writes (Elt Ideal) f13 [⟨Rect.unit (s := S1x8x128) (k0_off49 k0_t2) S1x1x128.size (k0_off49_inb i k0_t2 k0_h1),
        k0_pay5 (F := Ideal) (words i arg15 k0_h1 X15 k0_t2) k0_pay363⟩]) y
      = scaleAt arg15 X15 y := by
  have hj : k0_t2.val < 8 := Nat.lt_of_lt_of_le k0_t2.isLt k0_t2_abs.2.1
  have hw : (Scalar.indexCast (Scf.iv 0#32 1#32 k0_t2.val)).toNat = k0_t2.val := (trip2_word ⟨k0_t2.val, hj⟩ 0).2.1
  by_cases h1 : (y 1).val = k0_t2.val
  · refine View.read_writes_apply_of_pieces arg13.view f13 (scaleAt arg15 X15) _ ?_ y ?_
    · intro p hp x
      simp only [List.mem_cons, List.not_mem_nil, or_false] at hp
      subst hp
      dsimp only
      obtain ⟨z, u, l, rfl⟩ : ∃ (z : Fin 1) (u : Fin 1) (l : Fin 128), x = ix3 z u l := ⟨x 0, x 1, x 2, eq_ix3 x⟩
      refine (up_row i arg15 k0_h1 X15 k0_t2 z u l).trans ?_
      unfold scaleAt
      refine congrArg (fun t => Ideal.exp2 (expo (magOf arg15 X15 t))) (Fin.ext ?_)
      show 128 * k0_t2.val + l.val = 128 * ((Scalar.indexCast (Scf.iv 0#32 1#32 k0_t2.val)).toNat + 1 * u.val) + (0 + 1 * l.val)
      omega
    · refine ⟨_, List.mem_cons_self, (Rect.mem_set_unit (s := S1x8x128) (inb := k0_off49_inb i k0_t2 k0_h1)).mpr fun a => match a with
        | ⟨0, _⟩ => ⟨Nat.zero_le _, (y 0).isLt⟩ | ⟨1, _⟩ => ?_ | ⟨2, _⟩ => ⟨Nat.zero_le _, ?_⟩⟩
      · show (Scalar.indexCast (Scf.iv 0#32 1#32 k0_t2.val)).toNat ≤ (y 1).val ∧ (y 1).val < (Scalar.indexCast (Scf.iv 0#32 1#32 k0_t2.val)).toNat + 1
        omega
      · show (y 2).val < 0 + 128
        have h' : (y 2).val < 128 := (y 2).isLt
        omega
  · refine (View.read_writes_apply_of_forall_not_mem arg13.view f13 y _ fun p hp hm => h1 ?_).trans (h y (by omega))
    simp only [List.mem_cons, List.not_mem_nil, or_false] at hp
    subst hp
    have h1 := (Rect.mem_set_unit (s := S1x8x128) (inb := k0_off49_inb i k0_t2 k0_h1)).mp hm 1
    have h1' : (Scalar.indexCast (Scf.iv 0#32 1#32 k0_t2.val)).toNat ≤ (y 1).val ∧ (y 1).val < (Scalar.indexCast (Scf.iv 0#32 1#32 k0_t2.val)).toNat + 1 := h1
    omega
end

set_option warn.classDefReducibility false in
/-- Before trip `k` of the last phase's loop over the token blocks: the value scales and the carried outputs and maxima at
    what they were; the codes and scales of the first `k` blocks written. -/
@[sl_loop] def lastLoop (c : Dev nD) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole) (k0_h1 : k0_cond1 i = 1#1)
    (X4 : BufTy.Contents (Elt Ideal) arg4.view.ty) (X14 : BufTy.Contents (Elt Ideal) arg14.view.ty) (X15 : BufTy.Contents (Elt Ideal) arg15.view.ty) :
    LoopInvTy_k0_t2 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) k0_h1 where
  inv := fun k _ => iprop((arg4.view.loc (c : Thread nD τ) ↦[arg4.view.set]{fullShare} X4) ∗ (arg14.view.loc (c : Thread nD τ) ↦[arg14.view.set]{fullShare} X14) ∗ (arg15.view.loc (c : Thread nD τ) ↦[arg15.view.set]{fullShare} X15) ∗ (∃ f : BufTy.Contents (Elt Ideal) arg12.view.ty, ⌜∀ y : S1x1024x5120.Idx, (y 1).val < 128 * (k : ℕ) → arg12.view.read (Elt Ideal) f y = codeAt i arg4 arg14 arg15 k0_h1 X4 X14 X15 y⌝ ∗ (arg12.view.loc (c : Thread nD τ) ↦[arg12.view.set]{fullShare} f)) ∗ (∃ f : BufTy.Contents (Elt Ideal) arg13.view.ty, ⌜∀ y : S1x8x128.Idx, (y 1).val < (k : ℕ) → arg13.view.read (Elt Ideal) f y = scaleAt arg15 X15 y⌝ ∗ (arg13.view.loc (c : Thread nD τ) ↦[arg13.view.set]{fullShare} f)) ∗ (∃ f : BufTy.Contents (Elt Ideal) arg19.view.ty, (arg19.view.loc (c : Thread nD τ) ↦[arg19.view.set]{fullShare} f)))
  step := fun k acc => by
    unfold k0_t2_body
    iintro ⟨H4, H14, H15, ⟨%f12, %h12, H12⟩, ⟨%f13, %h13, H13⟩, ⟨%f19, H19⟩⟩
    sl_exec
    sl_step
    isplitl [H4]; · iexact H4
    isplitl [H14]; · iexact H14
    isplitl [H15]; · iexact H15
    isplitl [H12]
    · iexists _
      isplitr; swap; · iexact H12
      ipureintro
      exact fun y hy => trip2_read12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X4 X14 X15 k _ _ f12 f19 h12 y hy
    isplitl [H13]
    · iexists _
      isplitr; swap; · iexact H13
      ipureintro
      exact fun y hy => trip2_read13 i arg13 arg15 k0_h1 X15 k f13 h13 y hy
    iexists _; iexact H19

end Cert.KernelIdeal.Hand

end
-- ==== Proof.BodyValues.lean ====
module

public import proofs.«01_k».proof.Proof.LastPhase
public import Idealize.ShloMosaic.Lib.Pipeline.Frame
public import Idealize.ShloMosaic.Lib.Tactic

/-! # The kernel's body, run once

What one grid point does, on the values of its windows and scratch buffers: the outputs and magnitudes of its four heads
are written; the last point of a batch writes the codes and the scales. -/

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ## What one head computes, from the blocks -/

/-- The attention of head `k` of group `g`, batch `b`, from the blocks of one grid point. -/
def hv (b : Fin 2) (g : Fin 8) (d2 : Vec Ideal S2x32 .f32) (d3 : Vec Ideal S2x8 .f32) (d5 : Vec Ideal S2x32 .i32) (d6 : Vec Ideal S2x32 .i32) (d7 : Vec Ideal S1x1x4x220 .i32) (d8 : Vec Ideal S1x1x4x400 .i32) (d9 : Vec Ideal S1x4x160x1024 .fp8e4m3) (d10 : Vec Ideal S1x1x160x1024 .fp8e4m3) (d11 : Vec Ideal S1x1x160x1024 .fp8e4m3) (k : Fin 4) (d : Fin 160) (t : Fin 1024) : EReal :=
  attend (score (fun d => d9 (ix4 (0 : Fin 1) k d t)) (fun x d => d10 (ix4 (0 : Fin 1) (0 : Fin 1) d x))
      (d2 (ix2 b (⟨4 * g.val + k.val, by omega⟩ : Fin 32)) * d3 (ix2 b g) * smScale)
      (Visible (Listed (fun x : Fin 220 => d7 (ix4 (0 : Fin 1) (0 : Fin 1) k x)) (d5 (ix2 b (⟨4 * g.val + k.val, by omega⟩ : Fin 32))))
        (Listed (fun x : Fin 400 => d8 (ix4 (0 : Fin 1) (0 : Fin 1) k x)) (d6 (ix2 b (⟨4 * g.val + k.val, by omega⟩ : Fin 32)))) t.val))
    (fun x => d11 (ix4 (0 : Fin 1) (0 : Fin 1) d x))

/-- The largest magnitude of that head's token, value scale included. -/
def hm (b : Fin 2) (g : Fin 8) (d4 : Vec Ideal S2x8 .f32) (d2 : Vec Ideal S2x32 .f32) (d3 : Vec Ideal S2x8 .f32) (d5 : Vec Ideal S2x32 .i32) (d6 : Vec Ideal S2x32 .i32) (d7 : Vec Ideal S1x1x4x220 .i32) (d8 : Vec Ideal S1x1x4x400 .i32) (d9 : Vec Ideal S1x4x160x1024 .fp8e4m3) (d10 : Vec Ideal S1x1x160x1024 .fp8e4m3) (d11 : Vec Ideal S1x1x160x1024 .fp8e4m3) (k : Fin 4) (t : Fin 1024) : EReal :=
  topMag (fun d => hv b g d2 d3 d5 d6 d7 d8 d9 d10 d11 k d t) * max (d4 (ix2 b g)) (-(d4 (ix2 b g)))

/-- A token's largest magnitude over 448. -/
def magD (d15 : Vec Ideal S32x2x1024 .f32) (t : Fin 1024) : EReal :=
  Finset.univ.fold max ⊥ (fun h : Fin 32 => d15 (ix3 h (0 : Fin 2) t)) * recip448

/-- The codes, from the outputs and the magnitudes of all heads. -/
def codeOf (i : grid0.Coords) (d4 : Vec Ideal S2x8 .f32) (d14 : Vec Ideal S32x160x1024 .f32) (d15 : Vec Ideal S32x2x1024 .f32) (y : S1x1024x5120.Idx) : EReal :=
  clip448 (d14 (ix3 (n0 := 32) (n1 := 160) (n2 := 1024) ⟨(y 2).val / 160, by have h : (y 2).val < 5120 := (y 2).isLt; omega⟩
      ⟨(y 2).val % 160, Nat.mod_lt _ (by omega)⟩ (y 1))
    * (Ideal.exp2 (0 - expo (magD d15 (y 1)))
      * d4 (ix2 (n0 := 2) (n1 := 8) (i 0) ⟨(y 2).val / 640, by have h : (y 2).val < 5120 := (y 2).isLt; omega⟩)))

/-- The scales, from the magnitudes of all heads. -/
def scaleOf (d15 : Vec Ideal S32x2x1024 .f32) (y : S1x8x128.Idx) : EReal :=
  Ideal.exp2 (expo (magD d15 ⟨128 * (y 1).val + (y 2).val, by have h : (y 1).val < 8 := (y 1).isLt; have h' : (y 2).val < 128 := (y 2).isLt; omega⟩))

/-- What a grid point does to the two carried scratch buffers: its own four heads are written, the others stay. -/
structure Step (i : grid0.Coords) (d2 : Vec Ideal S2x32 .f32) (d3 : Vec Ideal S2x8 .f32) (d4 : Vec Ideal S2x8 .f32) (d5 : Vec Ideal S2x32 .i32) (d6 : Vec Ideal S2x32 .i32) (d7 : Vec Ideal S1x1x4x220 .i32) (d8 : Vec Ideal S1x1x4x400 .i32) (d9 : Vec Ideal S1x4x160x1024 .fp8e4m3) (d10 : Vec Ideal S1x1x160x1024 .fp8e4m3) (d11 : Vec Ideal S1x1x160x1024 .fp8e4m3)
    (d14 : Vec Ideal S32x160x1024 .f32) (d15 : Vec Ideal S32x2x1024 .f32) (d14' : Vec Ideal S32x160x1024 .f32) (d15' : Vec Ideal S32x2x1024 .f32) : Prop where
  outs : ∀ (h : Fin 32) (d : Fin 160) (t : Fin 1024), d14' (ix3 h d t)
    = if hh : 4 * (i 1).val ≤ h.val ∧ h.val < 4 * (i 1).val + 4 then hv (i 0) (i 1) d2 d3 d5 d6 d7 d8 d9 d10 d11 ⟨h.val - 4 * (i 1).val, by omega⟩ d t
      else d14 (ix3 h d t)
  mags : ∀ (h : Fin 32) (t : Fin 1024), d15' (ix3 h (0 : Fin 2) t)
    = if hh : 4 * (i 1).val ≤ h.val ∧ h.val < 4 * (i 1).val + 4 then hm (i 0) (i 1) d4 d2 d3 d5 d6 d7 d8 d9 d10 d11 ⟨h.val - 4 * (i 1).val, by omega⟩ t
      else d15 (ix3 h (0 : Fin 2) t)

/-! ## The loads, value by value -/

theorem grid_word : ∀ b : Fin 2, (Scalar.indexCast (BitVec.ofNat 32 b.val)).toNat = b.val := by decide

theorem group_word : ∀ g : Fin 8, (Scalar.indexCast (BitVec.ofNat 32 g.val)).toNat = g.val ∧ (Scalar.indexCast (Scf.iv 0#32 1#32 g.val)).toNat = g.val := by decide

theorem readAt_at {κ : Kind} {sp : Space} {s : Shape} {e : EltTy} (v : View sig κ sp s e) (X : BufTy.Contents (Elt Ideal) v.ty)
    {off size : Fin s.rank → ℕ} (inb : ∀ a, off a + size a ≤ s.size a) (x : (Rect.unit off size inb).shape.Idx) (y : s.Idx)
    (h : (Rect.unit off size inb).emb x = y) :
    View.readAt (Elt Ideal) v (Rect.unit off size inb).toLoadRect X x = v.read (Elt Ideal) X y := by
  rw [View.readAt_unit v X inb rfl inb, ← h]
  rfl

section
variable (i : grid0.Coords)

theorem one_word (i : grid0.Coords) (k : Fin k0_t1_loop.trips) (hk : k.val < 4) :
    (Rect.unit (s := S2x32) (k0_off2 i k) S1x1.size (k0_off2_inb i k)).emb (Shape.Idx.first (Nat.lt_of_lt_of_eq Nat.one_pos numel1_S1x1.symm))
      = ix2 (n0 := 2) (n1 := 32) (i 0) ⟨4 * (i 1).val + k.val, by have h : (i 1).val < 8 := (i 1).isLt; omega⟩ := by
  refine ix2_of_vals _ _ _ ?_ ?_
  · have h := grid_word (i 0)
    show (Scalar.indexCast (BitVec.ofNat 32 (i 0).val)).toNat + 1 * 0 = (i 0).val
    rw [Nat.mul_zero, Nat.add_zero]; exact h
  · have h := head_word (i 1) ⟨k.val, hk⟩
    show (Scalar.indexCast (Scalar.addi (Scalar.muli (BitVec.ofNat 32 (i 1).val) 4#32) (Scf.iv 0#32 1#32 k.val))).toNat + 1 * 0 = 4 * (i 1).val + k.val
    rw [Nat.mul_zero, Nat.add_zero]; exact h

theorem read_r5 (arg2 : Memref sig .tc .smem S2x32 .f32) (X2 : BufTy.Contents (Elt Ideal) arg2.view.ty) (k : Fin k0_t1_loop.trips) (hk : k.val < 4) :
    trip_k0_t1.sl.r_5 (F := Ideal) i arg2 X2 k = arg2.view.read (Elt Ideal) X2 (ix2 (n0 := 2) (n1 := 32) (i 0) ⟨4 * (i 1).val + k.val, by have h : (i 1).val < 8 := (i 1).isLt; omega⟩) :=
  readAt_at arg2.view X2 (k0_off2_inb i k) _ _ (one_word i k hk)

theorem read_count (arg : Memref sig .tc .smem S2x32 .i32) (X : BufTy.Contents (Elt Ideal) arg.view.ty) (k : Fin k0_t1_loop.trips) (hk : k.val < 4) :
    count i arg X k = arg.view.read (Elt Ideal) X (ix2 (n0 := 2) (n1 := 32) (i 0) ⟨4 * (i 1).val + k.val, by have h : (i 1).val < 8 := (i 1).isLt; omega⟩) :=
  readAt_at arg.view X (k0_off2_inb i k) _ _ (one_word i k hk)

theorem group_cell (i : grid0.Coords) :
    (Rect.unit (s := S2x8) (k0_off4 i) S1x1.size (k0_off4_inb i)).emb (Shape.Idx.first (Nat.lt_of_lt_of_eq Nat.one_pos numel1_S1x1.symm))
      = ix2 (n0 := 2) (n1 := 8) (i 0) (i 1) := by
  refine ix2_of_vals _ _ _ ?_ ?_
  · have h := grid_word (i 0)
    show (Scalar.indexCast (BitVec.ofNat 32 (i 0).val)).toNat + 1 * 0 = (i 0).val
    rw [Nat.mul_zero, Nat.add_zero]; exact h
  · have h := (group_word (i 1)).1
    show (Scalar.indexCast (BitVec.ofNat 32 (i 1).val)).toNat + 1 * 0 = (i 1).val
    rw [Nat.mul_zero, Nat.add_zero]; exact h

theorem read_r6 (arg3 : Memref sig .tc .smem S2x8 .f32) (X3 : BufTy.Contents (Elt Ideal) arg3.view.ty) :
    trip_k0_t1.sl.r_6 (F := Ideal) i arg3 X3 = arg3.view.read (Elt Ideal) X3 (ix2 (n0 := 2) (n1 := 8) (i 0) (i 1)) :=
  readAt_at arg3.view X3 (k0_off4_inb i) _ _ (group_cell i)

theorem read_r7 (arg4 : Memref sig .tc .smem S2x8 .f32) (X4 : BufTy.Contents (Elt Ideal) arg4.view.ty) :
    trip_k0_t1.sl.r_7 (F := Ideal) i arg4 X4 = arg4.view.read (Elt Ideal) X4 (ix2 (n0 := 2) (n1 := 8) (i 0) (i 1)) :=
  readAt_at arg4.view X4 (k0_off4_inb i) _ _ (group_cell i)

theorem read_vs (arg4 : Memref sig .tc .smem S2x8 .f32) (X4 : BufTy.Contents (Elt Ideal) arg4.view.ty) (h1 : k0_cond1 i = 1#1) (k : Fin k0_t3_loop.trips) (k' : Fin 8) (hk : k.val = k'.val) :
    vsAt i arg4 h1 X4 k = arg4.view.read (Elt Ideal) X4 (ix2 (n0 := 2) (n1 := 8) (i 0) k') := by
  refine readAt_at arg4.view X4 (k0_off50_inb i k h1) _ _ (ix2_of_vals _ _ _ ?_ ?_)
  · have h := grid_word (i 0)
    show (Scalar.indexCast (BitVec.ofNat 32 (i 0).val)).toNat + 1 * 0 = (i 0).val
    rw [Nat.mul_zero, Nat.add_zero]; exact h
  · have h := (group_word k').2
    show (Scalar.indexCast (Scf.iv 0#32 1#32 k.val)).toNat + 1 * 0 = k'.val
    rw [Nat.mul_zero, Nat.add_zero, hk]; exact h

theorem trip_word1 : ∀ k : Fin 4, (Scalar.indexCast (Scf.iv 0#32 1#32 k.val)).toNat = k.val := by decide

theorem read_sRow (arg8 : Memref sig .tc .vmem S1x1x4x400 .i32) (X8 : BufTy.Contents (Elt Ideal) arg8.view.ty) (k : Fin k0_t1_loop.trips) (hk : k.val < 4) (x : Fin 400) :
    sRow arg8 X8 k (ix4 0 0 0 x) = arg8.view.read (Elt Ideal) X8 (ix4 (n0 := 1) (n1 := 1) (n2 := 4) (n3 := 400) 0 0 ⟨k.val, hk⟩ x) := by
  refine readAt_at arg8.view X8 (k0_off3_inb k) _ _ (ix4_of_vals _ _ _ _ _ ?_ ?_ ?_ ?_)
  · rfl
  · rfl
  · have h := trip_word1 ⟨k.val, hk⟩
    show (Scalar.indexCast (Scf.iv 0#32 1#32 k.val)).toNat + 1 * 0 = k.val
    rw [Nat.mul_zero, Nat.add_zero]; exact h
  · show 0 + 1 * x.val = x.val; omega

theorem read_vRow (arg7 : Memref sig .tc .vmem S1x1x4x220 .i32) (X7 : BufTy.Contents (Elt Ideal) arg7.view.ty) (k : Fin k0_t1_loop.trips) (hk : k.val < 4) (x : Fin 220) :
    vRow arg7 X7 k (ix4 0 0 0 x) = arg7.view.read (Elt Ideal) X7 (ix4 (n0 := 1) (n1 := 1) (n2 := 4) (n3 := 220) 0 0 ⟨k.val, hk⟩ x) := by
  refine readAt_at arg7.view X7 (k0_off1_inb k) _ _ (ix4_of_vals _ _ _ _ _ ?_ ?_ ?_ ?_)
  · rfl
  · rfl
  · have h := trip_word1 ⟨k.val, hk⟩
    show (Scalar.indexCast (Scf.iv 0#32 1#32 k.val)).toNat + 1 * 0 = k.val
    rw [Nat.mul_zero, Nat.add_zero]; exact h
  · show 0 + 1 * x.val = x.val; omega

/-- The first scratch copy of a block: the keys, transposed. -/
theorem read_keys (arg19 : Memref sig .tc .vmem S1024x160 .fp8e4m3) (arg10 : Memref sig .tc .vmem S1x1x160x1024 .fp8e4m3) (X10 : BufTy.Contents (Elt Ideal) arg10.view.ty) (J : BufTy.Contents (Elt Ideal) arg19.view.ty)
    (inb : ∀ a, (![0, 0] : Fin 2 → ℕ) a + S1024x160.size a ≤ S1024x160.size a)
    (inb4 : ∀ a, (![0, 0, 0, 0] : Fin 4 → ℕ) a + S1x1x160x1024.size a ≤ S1x1x160x1024.size a) (x : Fin 1024) (d : Fin 160) :
    arg19.view.read (Elt Ideal) (arg19.view.writes (Elt Ideal) J [⟨Rect.unit (s := S1024x160) ![0, 0] S1024x160.size inb, k0_pay1 (F := Ideal) (View.readAt (Elt Ideal) arg10.view (Rect.unit (s := S1x1x160x1024) ![0, 0, 0, 0] S1x1x160x1024.size inb4).toLoadRect X10)⟩]) (ix2 x d)
      = arg10.view.read (Elt Ideal) X10 (ix4 (0 : Fin 1) (0 : Fin 1) d x) := by
  refine View.read_writes_apply_of_pieces arg19.view J (fun y : S1024x160.Idx => arg10.view.read (Elt Ideal) X10 (ix4 (n0 := 1) (n1 := 1) (n2 := 160) (n3 := 1024) 0 0 (y 1) (y 0))) _ ?_ (ix2 x d) ?_
  · intro p hp z
    simp only [List.mem_cons, List.not_mem_nil, or_false] at hp
    subst hp
    dsimp only
    obtain ⟨a, b, rfl⟩ : ∃ (a : Fin 1024) (b : Fin 160), z = ix2 a b := ⟨z 0, z 1, eq_ix2 z⟩
    have e : ∀ w : Vec Ideal S1x1x160x1024 .fp8e4m3, k0_pay1 (F := Ideal) w (ix2 a b) = w (ix4 0 0 b a) := by
      intro w; pointwise [k0_pay1]
    refine (e _).trans (readAt_at arg10.view X10 inb4 _ _ (ix4_of_vals _ _ _ _ _ ?_ ?_ ?_ ?_))
    · rfl
    · rfl
    · show 0 + 1 * b.val = 0 + 1 * b.val; rfl
    · show 0 + 1 * a.val = 0 + 1 * a.val; rfl
  · refine ⟨_, List.mem_cons_self, (Rect.mem_set_unit (s := S1024x160) (inb := inb)).mpr fun a => match a with
      | ⟨0, _⟩ => ⟨Nat.zero_le _, ?_⟩ | ⟨1, _⟩ => ⟨Nat.zero_le _, ?_⟩⟩
    · show x.val < 0 + 1024; omega
    · show d.val < 0 + 160; omega

/-- The second scratch copy of a block: the values. -/
theorem read_values (arg20 : Memref sig .tc .vmem S160x1024 .bf16) (arg11 : Memref sig .tc .vmem S1x1x160x1024 .fp8e4m3) (X11 : BufTy.Contents (Elt Ideal) arg11.view.ty) (J : BufTy.Contents (Elt Ideal) arg20.view.ty)
    (inb : ∀ a, (![0, 0] : Fin 2 → ℕ) a + S160x1024.size a ≤ S160x1024.size a)
    (inb4 : ∀ a, (![0, 0, 0, 0] : Fin 4 → ℕ) a + S1x1x160x1024.size a ≤ S1x1x160x1024.size a) (d : Fin 160) (x : Fin 1024) :
    arg20.view.read (Elt Ideal) (arg20.view.writes (Elt Ideal) J [⟨Rect.unit (s := S160x1024) ![0, 0] S160x1024.size inb, k0_pay2 (F := Ideal) (View.readAt (Elt Ideal) arg11.view (Rect.unit (s := S1x1x160x1024) ![0, 0, 0, 0] S1x1x160x1024.size inb4).toLoadRect X11)⟩]) (ix2 d x)
      = arg11.view.read (Elt Ideal) X11 (ix4 (0 : Fin 1) (0 : Fin 1) d x) := by
  refine View.read_writes_apply_of_pieces arg20.view J (fun y : S160x1024.Idx => arg11.view.read (Elt Ideal) X11 (ix4 (n0 := 1) (n1 := 1) (n2 := 160) (n3 := 1024) 0 0 (y 0) (y 1))) _ ?_ (ix2 d x) ?_
  · intro p hp z
    simp only [List.mem_cons, List.not_mem_nil, or_false] at hp
    subst hp
    dsimp only
    obtain ⟨a, b, rfl⟩ : ∃ (a : Fin 160) (b : Fin 1024), z = ix2 a b := ⟨z 0, z 1, eq_ix2 z⟩
    have e : ∀ w : Vec Ideal S1x1x160x1024 .fp8e4m3, k0_pay2 (F := Ideal) w (ix2 a b) = w (ix4 0 0 a b) := by
      intro w; pointwise [k0_pay2]
    refine (e _).trans (readAt_at arg11.view X11 inb4 _ _ (ix4_of_vals _ _ _ _ _ ?_ ?_ ?_ ?_))
    · rfl
    · rfl
    · show 0 + 1 * a.val = 0 + 1 * a.val; rfl
    · show 0 + 1 * b.val = 0 + 1 * b.val; rfl
  · refine ⟨_, List.mem_cons_self, (Rect.mem_set_unit (s := S160x1024) (inb := inb)).mpr fun a => match a with
      | ⟨0, _⟩ => ⟨Nat.zero_le _, ?_⟩ | ⟨1, _⟩ => ⟨Nat.zero_le _, ?_⟩⟩
    · show d.val < 0 + 160; omega
    · show x.val < 0 + 1024; omega

end

section
variable (i : grid0.Coords) (arg2 : Memref sig .tc .smem S2x32 .f32) (arg3 : Memref sig .tc .smem S2x8 .f32) (arg4 : Memref sig .tc .smem S2x8 .f32) (arg5 : Memref sig .tc .smem S2x32 .i32) (arg6 : Memref sig .tc .smem S2x32 .i32) (arg7 : Memref sig .tc .vmem S1x1x4x220 .i32) (arg8 : Memref sig .tc .vmem S1x1x4x400 .i32) (arg9 : Memref sig .tc .vmem S1x4x160x1024 .fp8e4m3) (arg10 : Memref sig .tc .vmem S1x1x160x1024 .fp8e4m3) (arg11 : Memref sig .tc .vmem S1x1x160x1024 .fp8e4m3) (arg19 : Memref sig .tc .vmem S1024x160 .fp8e4m3) (arg20 : Memref sig .tc .vmem S160x1024 .bf16)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X19 : BufTy.Contents (Elt Ideal) arg19.view.ty) (X20 : BufTy.Contents (Elt Ideal) arg20.view.ty)

/-- One head's output, value by value. -/
theorem headOut_val (hK : ∀ (x : Fin 1024) (d : Fin 160), arg19.view.read (Elt Ideal) X19 (ix2 x d) = arg10.view.read (Elt Ideal) X10 (ix4 (0 : Fin 1) (0 : Fin 1) d x))
    (hV : ∀ (d : Fin 160) (x : Fin 1024), arg20.view.read (Elt Ideal) X20 (ix2 d x) = arg11.view.read (Elt Ideal) X11 (ix4 (0 : Fin 1) (0 : Fin 1) d x))
    (k : Fin k0_t1_loop.trips) (k' : Fin 4) (hk : k.val = k'.val) (d : Fin 160) (t : Fin 1024) :
    headOut i arg2 arg3 arg5 arg6 arg7 arg8 arg9 arg19 arg20 X2 X3 X5 X6 X7 X8 X9 X19 X20 k d t = hv (i 0) (i 1) (arg2.view.read (Elt Ideal) X2) (arg3.view.read (Elt Ideal) X3) (arg5.view.read (Elt Ideal) X5) (arg6.view.read (Elt Ideal) X6) (arg7.view.read (Elt Ideal) X7) (arg8.view.read (Elt Ideal) X8) (arg9.view.read (Elt Ideal) X9) (arg10.view.read (Elt Ideal) X10) (arg11.view.read (Elt Ideal) X11) k' d t := by
  obtain ⟨k', hk'⟩ := k'
  obtain ⟨k, hkk⟩ := k
  dsimp only at hk
  subst hk
  unfold headOut hv multOf SlashAt VerticalAt
  rw [read_r5 i arg2 X2 ⟨k, hkk⟩ hk', read_r6, read_count i arg5 X5 ⟨k, hkk⟩ hk', read_count i arg6 X6 ⟨k, hkk⟩ hk']
  have hs : (fun x : Fin 400 => sRow arg8 X8 ⟨k, hkk⟩ (ix4 0 0 0 x)) = fun x => arg8.view.read (Elt Ideal) X8 (ix4 (n0 := 1) (n1 := 1) (n2 := 4) (n3 := 400) 0 0 ⟨k, hk'⟩ x) :=
    funext fun x => read_sRow arg8 X8 ⟨k, hkk⟩ hk' x
  have hv : (fun x : Fin 220 => vRow arg7 X7 ⟨k, hkk⟩ (ix4 0 0 0 x)) = fun x => arg7.view.read (Elt Ideal) X7 (ix4 (n0 := 1) (n1 := 1) (n2 := 4) (n3 := 220) 0 0 ⟨k, hk'⟩ x) :=
    funext fun x => read_vRow arg7 X7 ⟨k, hkk⟩ hk' x
  have hK' : kOf arg19 X19 = fun x d => arg10.view.read (Elt Ideal) X10 (ix4 (0 : Fin 1) (0 : Fin 1) d x) := funext fun x => funext fun d => hK x d
  have hV' : vOf arg20 X20 d = fun x => arg11.view.read (Elt Ideal) X11 (ix4 (0 : Fin 1) (0 : Fin 1) d x) := funext fun x => hV d x
  rw [hs, hv, hK', hV']
  rfl

/-- One head's magnitude, value by value. -/
theorem headMag_val (hK : ∀ (x : Fin 1024) (d : Fin 160), arg19.view.read (Elt Ideal) X19 (ix2 x d) = arg10.view.read (Elt Ideal) X10 (ix4 (0 : Fin 1) (0 : Fin 1) d x))
    (hV : ∀ (d : Fin 160) (x : Fin 1024), arg20.view.read (Elt Ideal) X20 (ix2 d x) = arg11.view.read (Elt Ideal) X11 (ix4 (0 : Fin 1) (0 : Fin 1) d x))
    (k : Fin k0_t1_loop.trips) (k' : Fin 4) (hk : k.val = k'.val) (t : Fin 1024) :
    headMag i arg2 arg3 arg4 arg5 arg6 arg7 arg8 arg9 arg19 arg20 X2 X3 X4 X5 X6 X7 X8 X9 X19 X20 k t = hm (i 0) (i 1) (arg4.view.read (Elt Ideal) X4) (arg2.view.read (Elt Ideal) X2) (arg3.view.read (Elt Ideal) X3) (arg5.view.read (Elt Ideal) X5) (arg6.view.read (Elt Ideal) X6) (arg7.view.read (Elt Ideal) X7) (arg8.view.read (Elt Ideal) X8) (arg9.view.read (Elt Ideal) X9) (arg10.view.read (Elt Ideal) X10) (arg11.view.read (Elt Ideal) X11) k' t := by
  unfold headMag hm
  rw [read_r7]
  refine congrArg (fun o => topMag o * max (arg4.view.read (Elt Ideal) X4 (ix2 (n0 := 2) (n1 := 8) (i 0) (i 1))) (-(arg4.view.read (Elt Ideal) X4 (ix2 (n0 := 2) (n1 := 8) (i 0) (i 1))))) (funext fun d => ?_)
  exact headOut_val i arg2 arg3 arg5 arg6 arg7 arg8 arg9 arg10 arg11 arg19 arg20 X2 X3 X5 X6 X7 X8 X9 X10 X11 X19 X20 hK hV k k' hk d t

end

end Cert.KernelIdeal.Hand

end
-- ==== Proof.BodyRun.lean ====
module

public import proofs.«01_k».proof.Proof.BodyValues
public import Idealize.ShloMosaic.Lib.Pipeline.Frame
public import Idealize.ShloMosaic.Lib.Tactic

/-! # The kernel's body, run once

The body's triple, on the values of the windows and the scratch buffers. -/

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section
variable (𝒱 : Variants) (c : Dev nD) (bd : Option 𝒱.V) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole) (arg0 arg1 : BitVec 32) (v12 v13 : IVec S8x128 32)
  (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (F19 : BufTy.Contents (Elt Ideal) arg19.view.ty) (F20 : BufTy.Contents (Elt Ideal) arg20.view.ty)

/-- The loop over a block's heads, value by value. -/
theorem step_of_loop (h12 : ∀ y, v12 y = BitVec.ofNat 32 (y 1).val) (h13 : ∀ y, v13 y = BitVec.ofNat 32 (y 0).val)
    (hK : ∀ (x : Fin 1024) (d : Fin 160), arg19.view.read (Elt Ideal) F19 (ix2 x d) = arg10.view.read (Elt Ideal) f10 (ix4 (0 : Fin 1) (0 : Fin 1) d x))
    (hV : ∀ (d : Fin 160) (x : Fin 1024), arg20.view.read (Elt Ideal) F20 (ix2 d x) = arg11.view.read (Elt Ideal) f11 (ix4 (0 : Fin 1) (0 : Fin 1) d x)) :
    Step i (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10) (arg11.view.read (Elt Ideal) f11) (arg14.view.read (Elt Ideal) f14) (arg15.view.read (Elt Ideal) f15) (arg14.view.read (Elt Ideal) (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 f2 f3 f4 f5 f6 f7 f8 f9 F19 F20 f14 f15 f16 f17 f18 k0_t1_loop.trips).1)) (arg15.view.read (Elt Ideal) (arg15.view.writes (Elt Ideal) f15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 f2 f3 f4 f5 f6 f7 f8 f9 F19 F20 f14 f15 f16 f17 f18 k0_t1_loop.trips).2.1)) := by
  have hg : (i 1).val < 8 := (i 1).isLt
  have h4 : k0_t1_loop.trips = 4 := rfl
  constructor
  · intro h d t
    refine (loop_read14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 f2 f3 f4 f5 f6 f7 f8 f9 F19 F20 h12 h13 f14 f15 f16 f17 f18 (ix3 h d t) _ le_rfl).trans ?_
    by_cases hh : 4 * (i 1).val ≤ h.val ∧ h.val < 4 * (i 1).val + 4
    · refine (dif_pos (show 4 * (i 1).val ≤ h.val ∧ h.val < 4 * (i 1).val + k0_t1_loop.trips by omega)).trans (Eq.trans ?_ (dif_pos hh).symm)
      exact headOut_val i arg2 arg3 arg5 arg6 arg7 arg8 arg9 arg10 arg11 arg19 arg20 f2 f3 f5 f6 f7 f8 f9 f10 f11 F19 F20 hK hV _ _ rfl d t
    · rw [dif_neg hh]
      exact dif_neg (show ¬(4 * (i 1).val ≤ h.val ∧ h.val < 4 * (i 1).val + k0_t1_loop.trips) by omega)
  · intro h t
    refine (loop_read15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v12 v13 f2 f3 f4 f5 f6 f7 f8 f9 F19 F20 h12 h13 f14 f15 f16 f17 f18 (ix3 h 0 t) rfl _ le_rfl).trans ?_
    by_cases hh : 4 * (i 1).val ≤ h.val ∧ h.val < 4 * (i 1).val + 4
    · refine (dif_pos (show 4 * (i 1).val ≤ h.val ∧ h.val < 4 * (i 1).val + k0_t1_loop.trips by omega)).trans (Eq.trans ?_ (dif_pos hh).symm)
      exact headMag_val i arg2 arg3 arg4 arg5 arg6 arg7 arg8 arg9 arg10 arg11 arg19 arg20 f2 f3 f4 f5 f6 f7 f8 f9 f10 f11 F19 F20 hK hV _ _ rfl t
    · rw [dif_neg hh]
      exact dif_neg (show ¬(4 * (i 1).val ≤ h.val ∧ h.val < 4 * (i 1).val + k0_t1_loop.trips) by omega)
end

theorem codeAt_val (i : grid0.Coords) (arg4 : Memref sig .tc .smem S2x8 .f32) (arg14 : Memref sig .tc .vmem S32x160x1024 .f32) (arg15 : Memref sig .tc .vmem S32x2x1024 .f32)
    (h1 : k0_cond1 i = 1#1) (f4 : BufTy.Contents (Elt Ideal) arg4.view.ty) (X14 : BufTy.Contents (Elt Ideal) arg14.view.ty) (X15 : BufTy.Contents (Elt Ideal) arg15.view.ty) (y : S1x1024x5120.Idx) :
    codeAt i arg4 arg14 arg15 h1 f4 X14 X15 y
      = codeOf i (arg4.view.read (Elt Ideal) f4) (arg14.view.read (Elt Ideal) X14) (arg15.view.read (Elt Ideal) X15) y := by
  unfold codeAt codeOf
  refine clip_congr rfl rfl ?_
  exact read_vs i arg4 f4 h1 _ _ rfl

/-- The body's triple: the inputs stay, the point's four heads are written, and the last point of a batch writes the codes
    and the scales from the buffers as they then are. -/
theorem bodyRun (c : Dev nD) (i : grid0.Coords) (arg2 : Memref sig .tc .smem S2x32 .f32) (harg2 : arg2.IsWhole) (arg3 : Memref sig .tc .smem S2x8 .f32) (harg3 : arg3.IsWhole) (arg4 : Memref sig .tc .smem S2x8 .f32) (harg4 : arg4.IsWhole) (arg5 : Memref sig .tc .smem S2x32 .i32) (harg5 : arg5.IsWhole) (arg6 : Memref sig .tc .smem S2x32 .i32) (harg6 : arg6.IsWhole) (arg7 : Memref sig .tc .vmem S1x1x4x220 .i32) (harg7 : arg7.IsWhole) (arg8 : Memref sig .tc .vmem S1x1x4x400 .i32) (harg8 : arg8.IsWhole) (arg9 : Memref sig .tc .vmem S1x4x160x1024 .fp8e4m3) (harg9 : arg9.IsWhole) (arg10 : Memref sig .tc .vmem S1x1x160x1024 .fp8e4m3) (harg10 : arg10.IsWhole) (arg11 : Memref sig .tc .vmem S1x1x160x1024 .fp8e4m3) (harg11 : arg11.IsWhole) (arg12 : Memref sig .tc .vmem S1x1024x5120 .fp8e4m3) (harg12 : arg12.IsWhole) (arg13 : Memref sig .tc .vmem S1x8x128 .f32) (harg13 : arg13.IsWhole) (arg14 : Memref sig .tc .vmem S32x160x1024 .f32) (harg14 : arg14.IsWhole) (arg15 : Memref sig .tc .vmem S32x2x1024 .f32) (harg15 : arg15.IsWhole) (arg16 : Memref sig .tc .vmem S1152x128 .f32) (harg16 : arg16.IsWhole) (arg17 : Memref sig .tc .vmem S10x128 .f32) (harg17 : arg17.IsWhole) (arg18 : Memref sig .tc .vmem S1024x128 .f32) (harg18 : arg18.IsWhole) (arg19 : Memref sig .tc .vmem S1024x160 .fp8e4m3) (harg19 : arg19.IsWhole) (arg20 : Memref sig .tc .vmem S160x1024 .bf16) (harg20 : arg20.IsWhole) (d2 : Vec Ideal S2x32 .f32) (d3 : Vec Ideal S2x8 .f32) (d4 : Vec Ideal S2x8 .f32) (d5 : Vec Ideal S2x32 .i32) (d6 : Vec Ideal S2x32 .i32) (d7 : Vec Ideal S1x1x4x220 .i32) (d8 : Vec Ideal S1x1x4x400 .i32) (d9 : Vec Ideal S1x4x160x1024 .fp8e4m3) (d10 : Vec Ideal S1x1x160x1024 .fp8e4m3) (d11 : Vec Ideal S1x1x160x1024 .fp8e4m3) (d14 : Vec Ideal S32x160x1024 .f32) (d15 : Vec Ideal S32x2x1024 .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ d, owns (c : Thread nD τ) arg12 fullShare d) ∗ (∃ d, owns (c : Thread nD τ) arg13 fullShare d) ∗ owns (c : Thread nD τ) arg14 fullShare d14 ∗ owns (c : Thread nD τ) arg15 fullShare d15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ d14' d15', ⌜Step i d2 d3 d4 d5 d6 d7 d8 d9 d10 d11 d14 d15 d14' d15'⌝ ∗ owns (c : Thread nD τ) arg14 fullShare d14' ∗ owns (c : Thread nD τ) arg15 fullShare d15' ∗ (∃ d12, ⌜k0_cond1 i = 1#1 → ∀ y, d12 y = codeOf i d4 d14' d15' y⌝ ∗ owns (c : Thread nD τ) arg12 fullShare d12) ∗ (∃ d13, ⌜k0_cond1 i = 1#1 → ∀ y, d13 y = scaleOf d15' y⌝ ∗ owns (c : Thread nD τ) arg13 fullShare d13)) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := Ideal)) Variants.none c none) Set.univ (cc0_vs_attn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_vs_attn_eq_skeleton]; unfold cc0_vs_attn_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%d13, %f13, -, H13⟩, ⟨%f14, %e14, H14⟩, ⟨%f15, %e15, H15⟩, ⟨%d16, %f16, -, H16⟩, ⟨%d17, %f17, -, H17⟩, ⟨%d18, %f18, -, H18⟩, ⟨%d19, %f19, -, H19⟩, ⟨%d20, %f20, -, H20⟩, Hk⟩
  subst e2 e3 e4 e5 e6 e7 e8 e9 e10 e11 e14 e15
  have hs := step_of_loop Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) (BitVec.ofNat 32 (i 1).val)
    (iota .tc S8x128 32 [1] iota_S8x128_d1_w32) (iota .tc S8x128 32 [0] iota_S8x128_d0_w32) f2 f3 f4 f5 f6 f7 f8 f9 f10 f11 f14 f15 f16 f17 f18
    (arg19.view.writes (Elt Ideal) arg19.view.junk [⟨Rect.unit (s := S1024x160) ![0, 0] S1024x160.size inb_S1024x160_S1024x160_0_0, k0_pay1 (F := Ideal) (View.readAt (Elt Ideal) arg10.view (Rect.unit (s := S1x1x160x1024) ![0, 0, 0, 0] S1x1x160x1024.size inb_S1x1x160x1024_S1x1x160x1024_0_0_0_0).toLoadRect f10)⟩])
    (arg20.view.writes (Elt Ideal) arg20.view.junk [⟨Rect.unit (s := S160x1024) ![0, 0] S160x1024.size inb_S160x1024_S160x1024_0_0, k0_pay2 (F := Ideal) (View.readAt (Elt Ideal) arg11.view (Rect.unit (s := S1x1x160x1024) ![0, 0, 0, 0] S1x1x160x1024.size inb_S1x1x160x1024_S1x1x160x1024_0_0_0_0).toLoadRect f11)⟩])
    (fun y => ?h12) (fun y => ?h13)
    (fun x d => read_keys arg19 arg10 f10 _ _ _ x d) (fun d x => read_values arg20 arg11 f11 _ _ _ d x)
  case h12 =>
    obtain ⟨a, b, rfl⟩ : ∃ (a : Fin 8) (b : Fin 128), y = ix2 a b := ⟨y 0, y 1, eq_ix2 y⟩
    pointwise []
    try rfl
  case h13 =>
    obtain ⟨a, b, rfl⟩ : ∃ (a : Fin 8) (b : Fin 128), y = ix2 a b := ⟨y 0, y 1, eq_ix2 y⟩
    pointwise []
    try rfl
  by_cases h1 : k0_cond1 i = 1#1
  all_goals
  sl_exec
  sl_step
  iapply Hk
  isplitl [H2]
  · iexists _; isplitr; swap; · iexact H2
    ipureintro; rfl --2
  isplitl [H3]
  · iexists _; isplitr; swap; · iexact H3
    ipureintro; rfl --3
  isplitl [H4]
  · iexists _; isplitr; swap; · iexact H4
    ipureintro; rfl --4
  isplitl [H5]
  · iexists _; isplitr; swap; · iexact H5
    ipureintro; rfl --5
  isplitl [H6]
  · iexists _; isplitr; swap; · iexact H6
    ipureintro; rfl --6
  isplitl [H7]
  · iexists _; isplitr; swap; · iexact H7
    ipureintro; rfl --7
  isplitl [H8]
  · iexists _; isplitr; swap; · iexact H8
    ipureintro; rfl --8
  isplitl [H9]
  · iexists _; isplitr; swap; · iexact H9
    ipureintro; rfl --9
  isplitl [H10]
  · iexists _; isplitr; swap; · iexact H10
    ipureintro; rfl --10
  isplitl [H11]
  · iexists _; isplitr; swap; · iexact H11
    ipureintro; rfl --11
  isplitl [H14 H15 H12 H13]
  · iexists _, _
    isplitr; · ipureintro; exact hs
    isplitl [H14]
    · iexists _; isplitr; swap; · iexact H14
      ipureintro; rfl
    isplitl [H15]
    · iexists _; isplitr; swap; · iexact H15
      ipureintro; rfl
    isplitl [H12]
    · iexists _
      isplitr; swap
      · iexists _; isplitr; swap; · iexact H12
        ipureintro; rfl
      ipureintro
      intro hc y
      first
        | exact absurd hc h1
        | exact (hL23 y (y 1).isLt).trans (codeAt_val i arg4 arg14 arg15 h1 f4 _ _ y)
    · iexists _
      isplitr; swap
      · iexists _; isplitr; swap; · iexact H13
        ipureintro; rfl
      ipureintro
      intro hc y
      first
        | exact absurd hc h1
        | exact hL25 y (y 1).isLt
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

end Cert.KernelIdeal.Hand

end
-- ==== Proof.Result.lean ====
module

public import proofs.«01_k».proof.Proof.Spec

/-! # The two results, as functions of the ten arguments

The per-token fp8 codes and scales that both programs compute, once in the order of the kernel and once in the order of the
reference, and the equality of the two. -/

@[expose] public section

noncomputable section

open Idealize.ShloMosaic

namespace Cert.Attn

/-- The ten argument arrays, by coordinates. -/
structure Inputs where
  q : Fin 2 → Fin 1024 → Fin 32 → Fin 160 → EReal
  qs : Fin 2 → Fin 32 → EReal
  k : Fin 2 → Fin 1024 → Fin 8 → Fin 160 → EReal
  ks : Fin 2 → Fin 8 → EReal
  v : Fin 2 → Fin 1024 → Fin 8 → Fin 160 → EReal
  vs : Fin 2 → Fin 8 → EReal
  vi : Fin 2 → Fin 32 → Fin 220 → BitVec 32
  vc : Fin 2 → Fin 32 → BitVec 32
  si : Fin 2 → Fin 32 → Fin 400 → BitVec 32
  sc : Fin 2 → Fin 32 → BitVec 32

/-- The group of a query head. -/
abbrev grp (h : Fin 32) : Fin 8 := ⟨h.val / 4, by omega⟩

namespace Inputs

variable (A : Inputs)

/-- The attention of token `t` of head `h` of batch `b`, at coordinate `d`, before the value scale. -/
def out (b : Fin 2) (h : Fin 32) (d : Fin 160) (t : Fin 1024) : EReal :=
  attend (score (A.q b t h) (fun x => A.k b x (grp h)) (A.qs b h * A.ks b (grp h) * smScale)
    (Visible (Listed (A.vi b h) (A.vc b h)) (Listed (A.si b h) (A.sc b h)) t.val)) (fun x => A.v b x (grp h) d)

/-- The largest magnitude of one head's token: the kernel takes the value scale out of the maximum. -/
def headMag (b : Fin 2) (h : Fin 32) (t : Fin 1024) : EReal :=
  (Finset.univ.fold max ⊥ fun d => max (A.out b h d t) (-(A.out b h d t))) * max (A.vs b (grp h)) (-(A.vs b (grp h)))

/-- The kernel's exponent of a token. -/
def kexp (b : Fin 2) (t : Fin 1024) : EReal :=
  expo ((Finset.univ.fold max ⊥ fun h : Fin 32 => A.headMag b h t) * recip448)

/-- The kernel's code: the value scale and the inverse token scale are multiplied first. -/
def kcode (b : Fin 2) (t : Fin 1024) (h : Fin 32) (d : Fin 160) : EReal :=
  min (Ideal.ofBits FTy.f32 1138753536#32) (max (Ideal.ofBits FTy.f32 3286237184#32)
    (A.out b h d t * (Ideal.exp2 (0 - A.kexp b t) * A.vs b (grp h))))

/-- The attention with its value scale. -/
def scaled (b : Fin 2) (h : Fin 32) (d : Fin 160) (t : Fin 1024) : EReal := A.out b h d t * A.vs b (grp h)

/-- The reference's exponent of a token: the largest magnitude over all heads and coordinates. -/
def rexp (b : Fin 2) (t : Fin 1024) : EReal :=
  expo ((Finset.univ.fold max ⊥ fun x : Fin 5120 =>
    max (A.scaled b ⟨x.val / 160, by omega⟩ ⟨x.val % 160, by omega⟩ t) (-(A.scaled b ⟨x.val / 160, by omega⟩ ⟨x.val % 160, by omega⟩ t))) * recip448)

/-- The reference's code. -/
def rcode (b : Fin 2) (t : Fin 1024) (h : Fin 32) (d : Fin 160) : EReal := code (A.scaled b h d t) (A.rexp b t)

end Inputs

/-! ## The two orders agree -/

theorem abs_mul_abs (x y : EReal) : max (x * y) (-(x * y)) = max x (-x) * max y (-y) := by
  have h : ∀ z : EReal, 0 ≤ z → max z (-z) = z := fun z hz => max_eq_left ((EReal.neg_le_zero.mpr hz).trans hz)
  have h' : ∀ z : EReal, z ≤ 0 → max z (-z) = -z := fun z hz => max_eq_right (hz.trans (EReal.neg_nonneg.mpr hz))
  rcases le_total 0 x with hx | hx <;> rcases le_total 0 y with hy | hy
  · rw [h _ hx, h _ hy, h _ (mul_nonneg hx hy)]
  · rw [h _ hx, h' _ hy, h' _ (EReal.mul_nonpos_iff.mpr (.inl ⟨hx, hy⟩)), mul_neg]
  · rw [h' _ hx, h _ hy, h' _ (EReal.mul_nonpos_iff.mpr (.inr ⟨hx, hy⟩)), neg_mul]
  · rw [h' _ hx, h' _ hy, neg_mul_neg]
    have := mul_nonneg (EReal.neg_nonneg.mpr hx) (EReal.neg_nonneg.mpr hy)
    rw [neg_mul_neg] at this
    exact h _ this

theorem abs_nonneg' (x : EReal) : 0 ≤ max x (-x) := by
  rcases le_total 0 x with h | h
  · exact h.trans (le_max_left _ _)
  · exact (EReal.neg_nonneg.mpr h).trans (le_max_right _ _)

/-- A factor that is not negative comes out of a maximum over a non-empty range. -/
theorem fold_max_mul {n : ℕ} (f : Fin (n + 1) → EReal) (c : EReal) (hc : 0 ≤ c) :
    (Finset.univ.fold max ⊥ fun d => f d * c) = (Finset.univ.fold max ⊥ f) * c := by
  refine le_antisymm (Finset.fold_max_le _ |>.mpr ⟨bot_le, fun d _ => ?_⟩) ?_
  · exact mul_le_mul_of_nonneg_right (Finset.le_fold_max _ |>.mpr (.inr ⟨d, Finset.mem_univ d, le_rfl⟩)) hc
  · obtain ⟨d, -, hd⟩ : ∃ d ∈ Finset.univ, Finset.univ.fold max ⊥ f = f d := by
      have : (Finset.univ : Finset (Fin (n + 1))).sup f = Finset.univ.fold max ⊥ f := rfl
      rw [← this]
      exact Finset.exists_mem_eq_sup _ Finset.univ_nonempty f
    rw [hd]
    exact Finset.le_fold_max _ |>.mpr (.inr ⟨d, Finset.mem_univ d, le_rfl⟩)

/-- A maximum over `32 · 160` columns is the maximum over the heads of the maxima over the coordinates. -/
theorem fold_max_split (f : Fin 32 → Fin 160 → EReal) :
    (Finset.univ.fold max ⊥ fun x : Fin 5120 => f ⟨x.val / 160, by omega⟩ ⟨x.val % 160, by omega⟩)
      = Finset.univ.fold max ⊥ fun h => Finset.univ.fold max ⊥ fun d => f h d := by
  refine le_antisymm (Finset.fold_max_le _ |>.mpr ⟨bot_le, fun x _ => ?_⟩)
    (Finset.fold_max_le _ |>.mpr ⟨bot_le, fun h _ => Finset.fold_max_le _ |>.mpr ⟨bot_le, fun d _ => ?_⟩⟩)
  · exact Finset.le_fold_max _ |>.mpr (.inr ⟨⟨x.val / 160, by omega⟩, Finset.mem_univ _,
      Finset.le_fold_max _ |>.mpr (.inr ⟨⟨x.val % 160, by omega⟩, Finset.mem_univ _, le_rfl⟩)⟩)
  · refine Finset.le_fold_max _ |>.mpr (.inr ⟨⟨h.val * 160 + d.val, by omega⟩, Finset.mem_univ _, le_of_eq ?_⟩)
    rw [show (⟨(h.val * 160 + d.val) / 160, by omega⟩ : Fin 32) = h from Fin.ext (show (h.val * 160 + d.val) / 160 = h.val by omega),
      show (⟨(h.val * 160 + d.val) % 160, by omega⟩ : Fin 160) = d from Fin.ext (show (h.val * 160 + d.val) % 160 = d.val by omega)]

namespace Inputs

variable (A : Inputs)

theorem kexp_eq (b : Fin 2) (t : Fin 1024) : A.kexp b t = A.rexp b t := by
  unfold kexp rexp
  rw [fold_max_split (fun h d => max (A.scaled b h d t) (-(A.scaled b h d t)))]
  refine congrArg (fun z => expo (z * recip448)) ?_
  refine congrArg (Finset.univ.fold max ⊥) (funext fun h => ?_)
  unfold headMag
  refine (fold_max_mul (n := 159) _ _ (abs_nonneg' _)).symm.trans ?_
  exact congrArg (Finset.univ.fold max ⊥) (funext fun d => (abs_mul_abs _ _).symm)

theorem kcode_eq (b : Fin 2) (t : Fin 1024) (h : Fin 32) (d : Fin 160) : A.kcode b t h d = A.rcode b t h d := by
  unfold kcode rcode code scaled
  rw [kexp_eq, mul_comm (Ideal.exp2 _), mul_assoc]

end Inputs

end Cert.Attn

end
-- ==== Proof.Arrays.lean ====
module

public import proofs.«01_k».proof.Proof.BodyRun
public import proofs.«01_k».proof.Proof.Result
public import proofs.«01_k».proof.Proof.Gen.KernelIdeal.Frame
public import Idealize.ShloMosaic.Lib.Pipeline.ValueKit.Geometry
public import Idealize.ShloMosaic.Lib.Pointwise

/-! # The kernel's blocks, read off the arguments

Each block that a grid point works on, as entries of the argument arrays. -/

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL.Sem

variable (m : (ℓ : Loc nD τ sig) → Buf (Elt Ideal) ℓ)

/-- The arguments on core `c`, by coordinates. -/
def inputs (c : Dev nD) : Inputs where
  q b t h d := (m ((c : Thread nD τ).loc main_arg0) : Vec Ideal S2x1024x32x160 .fp8e4m3) (ix4 b t h d)
  qs b h := (m ((c : Thread nD τ).loc main_arg1) : Vec Ideal S2x32 .f32) (ix2 b h)
  k b t g d := (m ((c : Thread nD τ).loc main_arg2) : Vec Ideal S2x1024x8x160 .fp8e4m3) (ix4 b t g d)
  ks b g := (m ((c : Thread nD τ).loc main_arg3) : Vec Ideal S2x8 .f32) (ix2 b g)
  v b t g d := (m ((c : Thread nD τ).loc main_arg4) : Vec Ideal S2x1024x8x160 .fp8e4m3) (ix4 b t g d)
  vs b g := (m ((c : Thread nD τ).loc main_arg5) : Vec Ideal S2x8 .f32) (ix2 b g)
  vi b h x := (m ((c : Thread nD τ).loc main_arg6) : Vec Ideal S2x32x220 .i32) (ix3 b h x)
  vc b h := (m ((c : Thread nD τ).loc main_arg7) : Vec Ideal S2x32 .i32) (ix2 b h)
  si b h x := (m ((c : Thread nD τ).loc main_arg8) : Vec Ideal S2x32x400 .i32) (ix3 b h x)
  sc b h := (m ((c : Thread nD τ).loc main_arg9) : Vec Ideal S2x32 .i32) (ix2 b h)

/-- The batch and the group of a grid point. -/
abbrev bat (t : Fin cfg0.N) : Fin 2 := grid0.coords t 0
abbrev gro (t : Fin cfg0.N) : Fin 8 := grid0.coords t 1

theorem bat_val : ∀ t : Fin cfg0.N, (bat t).val = t.val / 8 := (by decide +kernel : ∀ t : Fin grid0.N, (grid0.coords t 0).val = t.val / 8)
theorem gro_val : ∀ t : Fin cfg0.N, (gro t).val = t.val % 8 := (by decide +kernel : ∀ t : Fin grid0.N, (grid0.coords t 1).val = t.val % 8)

theorem e0 : ∀ t : Fin cfg0.N, win0_0.index t = ![0, 0] := (by decide +kernel : ∀ t : Fin grid0.N, win0_0.index t = ![0, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![(grid0.coords t 0).val, (grid0.coords t 1).val, 0, 0] := (by decide +kernel : ∀ t : Fin grid0.N, win0_5.index t = ![(grid0.coords t 0).val, (grid0.coords t 1).val, 0, 0])
theorem e6 : ∀ t : Fin cfg0.N, win0_6.index t = ![(grid0.coords t 0).val, (grid0.coords t 1).val, 0, 0] := (by decide +kernel : ∀ t : Fin grid0.N, win0_6.index t = ![(grid0.coords t 0).val, (grid0.coords t 1).val, 0, 0])
theorem e7 : ∀ t : Fin cfg0.N, win0_7.index t = ![(grid0.coords t 0).val, (grid0.coords t 1).val, 0, 0] := (by decide +kernel : ∀ t : Fin grid0.N, win0_7.index t = ![(grid0.coords t 0).val, (grid0.coords t 1).val, 0, 0])
theorem e8 : ∀ t : Fin cfg0.N, win0_8.index t = ![(grid0.coords t 0).val, (grid0.coords t 1).val, 0, 0] := (by decide +kernel : ∀ t : Fin grid0.N, win0_8.index t = ![(grid0.coords t 0).val, (grid0.coords t 1).val, 0, 0])
theorem e9 : ∀ t : Fin cfg0.N, win0_9.index t = ![(grid0.coords t 0).val, (grid0.coords t 1).val, 0, 0] := (by decide +kernel : ∀ t : Fin grid0.N, win0_9.index t = ![(grid0.coords t 0).val, (grid0.coords t 1).val, 0, 0])
theorem e10 : ∀ t : Fin cfg0.N, win0_10.index t = ![(grid0.coords t 0).val, 0, 0] := (by decide +kernel : ∀ t : Fin grid0.N, win0_10.index t = ![(grid0.coords t 0).val, 0, 0])
theorem e11 : ∀ t : Fin cfg0.N, win0_11.index t = ![(grid0.coords t 0).val, 0, 0] := (by decide +kernel : ∀ t : Fin grid0.N, win0_11.index t = ![(grid0.coords t 0).val, 0, 0])

/-! ## The arrays that the host operations write -/

theorem V_v0 (c : Dev nD) : V m c main_v0 = transpose S2x32x160x1024 [0, 2, 3, 1] (m ((c : Thread nD τ).loc main_arg0)) transposes_S2x1024x32x160_S2x32x160x1024_0_2_3_1 := by
  unfold V; simp only [hostOps0, StableHlo.after_cons, StableHlo.after_nil]; rfl
theorem V_v1 (c : Dev nD) : V m c main_v1 = transpose S2x8x160x1024 [0, 2, 3, 1] (m ((c : Thread nD τ).loc main_arg2)) transposes_S2x1024x8x160_S2x8x160x1024_0_2_3_1 := by
  unfold V; simp only [hostOps0, StableHlo.after_cons, StableHlo.after_nil]; rfl
theorem V_v2 (c : Dev nD) : V m c main_v2 = transpose S2x8x160x1024 [0, 2, 3, 1] (m ((c : Thread nD τ).loc main_arg4)) transposes_S2x1024x8x160_S2x8x160x1024_0_2_3_1 := by
  unfold V; simp only [hostOps0, StableHlo.after_cons, StableHlo.after_nil]; rfl
theorem V_v3 (c : Dev nD) : (V m c main_v3 : Vec Ideal S2x8x4x220 .i32) = shapeCast S2x8x4x220 (m ((c : Thread nD τ).loc main_arg6) : Vec Ideal S2x32x220 .i32) shapeCasts_S2x32x220_S2x8x4x220 := by
  unfold V; simp only [hostOps0, StableHlo.after_cons, StableHlo.after_nil]; rfl
theorem V_v4 (c : Dev nD) : (V m c main_v4 : Vec Ideal S2x8x4x400 .i32) = shapeCast S2x8x4x400 (m ((c : Thread nD τ).loc main_arg8) : Vec Ideal S2x32x400 .i32) shapeCasts_S2x32x400_S2x8x4x400 := by
  unfold V; simp only [hostOps0, StableHlo.after_cons, StableHlo.after_nil]; rfl

/-! ## The blocks -/

theorem lists_at (X : Vec Ideal S2x32x220 .i32) (b : Fin 2) (g : Fin 8) (k : Fin 4) (x : Fin 220) :
    shapeCast S2x8x4x220 X shapeCasts_S2x32x220_S2x8x4x220 (ix4 b g k x) = X (ix3 b ⟨4 * g.val + k.val, by omega⟩ x) := by
  pointwise
  exact congrArg (fun h => X (ix3 b h x)) (Fin.ext (show g.val * 4 + k.val = 4 * g.val + k.val by omega))

theorem offsets_at (X : Vec Ideal S2x32x400 .i32) (b : Fin 2) (g : Fin 8) (k : Fin 4) (x : Fin 400) :
    shapeCast S2x8x4x400 X shapeCasts_S2x32x400_S2x8x4x400 (ix4 b g k x) = X (ix3 b ⟨4 * g.val + k.val, by omega⟩ x) := by
  pointwise
  exact congrArg (fun h => X (ix3 b h x)) (Fin.ext (show g.val * 4 + k.val = 4 * g.val + k.val by omega))

theorem heads_at (X : Vec Ideal S2x1024x32x160 .fp8e4m3) (b : Fin 2) (h : Fin 32) (d : Fin 160) (x : Fin 1024) :
    transpose S2x32x160x1024 [0, 2, 3, 1] X transposes_S2x1024x32x160_S2x32x160x1024_0_2_3_1 (ix4 b h d x) = X (ix4 b x h d) := by
  pointwise

theorem groups_at (X : Vec Ideal S2x1024x8x160 .fp8e4m3) (b : Fin 2) (g : Fin 8) (d : Fin 160) (x : Fin 1024) :
    transpose S2x8x160x1024 [0, 2, 3, 1] X transposes_S2x1024x8x160_S2x8x160x1024_0_2_3_1 (ix4 b g d x) = X (ix4 b x g d) := by
  pointwise

theorem blk0 (c : Dev nD) (t : Fin cfg0.N) (b : Fin 2) (h : Fin 32) : (iblk m c 0 t : Vec Ideal S2x32 .f32) (ix2 b h) = (inputs m c).qs b h := by
  unfold iblk inputs
  rw [View.read_apply]
  show V m c main_arg1 _ = _
  rw [V_main_arg1]
  refine congrArg _ ?_
  blk_ext [e0 t]

theorem blk1 (c : Dev nD) (t : Fin cfg0.N) (b : Fin 2) (h : Fin 8) : (iblk m c 1 t : Vec Ideal S2x8 .f32) (ix2 b h) = (inputs m c).ks b h := by
  unfold iblk inputs
  rw [View.read_apply]
  show V m c main_arg3 _ = _
  rw [V_main_arg3]
  refine congrArg _ ?_
  blk_ext [e1 t]

theorem blk2 (c : Dev nD) (t : Fin cfg0.N) (b : Fin 2) (h : Fin 8) : (iblk m c 2 t : Vec Ideal S2x8 .f32) (ix2 b h) = (inputs m c).vs b h := by
  unfold iblk inputs
  rw [View.read_apply]
  show V m c main_arg5 _ = _
  rw [V_main_arg5]
  refine congrArg _ ?_
  blk_ext [e2 t]

theorem blk3 (c : Dev nD) (t : Fin cfg0.N) (b : Fin 2) (h : Fin 32) : (iblk m c 3 t : Vec Ideal S2x32 .i32) (ix2 b h) = (inputs m c).vc b h := by
  unfold iblk inputs
  rw [View.read_apply]
  show V m c main_arg7 _ = _
  rw [V_main_arg7]
  refine congrArg _ ?_
  blk_ext [e3 t]

theorem blk4 (c : Dev nD) (t : Fin cfg0.N) (b : Fin 2) (h : Fin 32) : (iblk m c 4 t : Vec Ideal S2x32 .i32) (ix2 b h) = (inputs m c).sc b h := by
  unfold iblk inputs
  rw [View.read_apply]
  show V m c main_arg9 _ = _
  rw [V_main_arg9]
  refine congrArg _ ?_
  blk_ext [e4 t]

theorem blk5 (c : Dev nD) (t : Fin cfg0.N) (k : Fin 4) (x : Fin 220) :
    (iblk m c 5 t : Vec Ideal S1x1x4x220 .i32) (ix4 0 0 k x) = (inputs m c).vi (bat t) ⟨4 * (gro t).val + k.val, by omega⟩ x := by
  unfold iblk
  rw [View.read_apply]
  show V m c main_v3 _ = _
  have h : ((cfg0.win 5).blk t).view.emb (ix4 (0 : Fin 1) (0 : Fin 1) k x) = (ix4 (bat t) (gro t) k x : S2x8x4x220.Idx) := by
    blk_ext [e5 t] <;> first | rfl | (show (grid0.coords t 1).val * 4 + k.val = 4 * (grid0.coords t 1).val + k.val; omega)
  rw [h]
  exact (congrFun (V_v3 m c) _).trans (lists_at _ _ _ _ _)

theorem blk6 (c : Dev nD) (t : Fin cfg0.N) (k : Fin 4) (x : Fin 400) :
    (iblk m c 6 t : Vec Ideal S1x1x4x400 .i32) (ix4 0 0 k x) = (inputs m c).si (bat t) ⟨4 * (gro t).val + k.val, by omega⟩ x := by
  unfold iblk
  rw [View.read_apply]
  show V m c main_v4 _ = _
  have h : ((cfg0.win 6).blk t).view.emb (ix4 (0 : Fin 1) (0 : Fin 1) k x) = (ix4 (bat t) (gro t) k x : S2x8x4x400.Idx) := by
    blk_ext [e6 t] <;> first | rfl | (show (grid0.coords t 1).val * 4 + k.val = 4 * (grid0.coords t 1).val + k.val; omega)
  rw [h]
  exact (congrFun (V_v4 m c) _).trans (offsets_at _ _ _ _ _)

theorem blk7 (c : Dev nD) (t : Fin cfg0.N) (k : Fin 4) (d : Fin 160) (x : Fin 1024) :
    (iblk m c 7 t : Vec Ideal S1x4x160x1024 .fp8e4m3) (ix4 0 k d x) = (inputs m c).q (bat t) x ⟨4 * (gro t).val + k.val, by omega⟩ d := by
  unfold iblk
  rw [View.read_apply]
  show V m c main_v0 _ = _
  have h : ((cfg0.win 7).blk t).view.emb (ix4 (0 : Fin 1) k d x) = (ix4 (bat t) ⟨4 * (gro t).val + k.val, by omega⟩ d x : S2x32x160x1024.Idx) := by
    blk_ext [e7 t] <;> first | rfl | (show (grid0.coords t 1).val * 4 + k.val = 4 * (grid0.coords t 1).val + k.val; omega)
  rw [h]
  exact (congrFun (V_v0 m c) _).trans (heads_at _ _ _ _ _)

theorem blk8 (c : Dev nD) (t : Fin cfg0.N) (d : Fin 160) (x : Fin 1024) :
    (iblk m c 8 t : Vec Ideal S1x1x160x1024 .fp8e4m3) (ix4 0 0 d x) = (inputs m c).k (bat t) x (gro t) d := by
  unfold iblk
  rw [View.read_apply]
  show V m c main_v1 _ = _
  have h : ((cfg0.win 8).blk t).view.emb (ix4 (0 : Fin 1) (0 : Fin 1) d x) = (ix4 (bat t) (gro t) d x : S2x8x160x1024.Idx) := by
    blk_ext [e8 t] <;> first | rfl | (show (grid0.coords t 1).val * 4 + k.val = 4 * (grid0.coords t 1).val + k.val; omega)
  rw [h]
  exact (congrFun (V_v1 m c) _).trans (groups_at _ _ _ _ _)

theorem blk9 (c : Dev nD) (t : Fin cfg0.N) (d : Fin 160) (x : Fin 1024) :
    (iblk m c 9 t : Vec Ideal S1x1x160x1024 .fp8e4m3) (ix4 0 0 d x) = (inputs m c).v (bat t) x (gro t) d := by
  unfold iblk
  rw [View.read_apply]
  show V m c main_v2 _ = _
  have h : ((cfg0.win 9).blk t).view.emb (ix4 (0 : Fin 1) (0 : Fin 1) d x) = (ix4 (bat t) (gro t) d x : S2x8x160x1024.Idx) := by
    blk_ext [e9 t] <;> first | rfl | (show (grid0.coords t 1).val * 4 + k.val = 4 * (grid0.coords t 1).val + k.val; omega)
  rw [h]
  exact (congrFun (V_v2 m c) _).trans (groups_at _ _ _ _ _)

/-! ## The values of a grid point -/

/-- A head of the group that a grid point works on. -/
abbrev headAt (t : Fin cfg0.N) (k : Fin 4) : Fin 32 := ⟨4 * (gro t).val + k.val, by omega⟩

theorem grp_headAt (t : Fin cfg0.N) (k : Fin 4) : grp (headAt t k) = gro t :=
  Fin.ext (show (4 * (gro t).val + k.val) / 4 = (gro t).val by omega)

theorem hv_at (c : Dev nD) (t : Fin cfg0.N) (k : Fin 4) (d : Fin 160) (x : Fin 1024) :
    hv (bat t) (gro t) (iblk m c 0 t) (iblk m c 1 t) (iblk m c 3 t) (iblk m c 4 t) (iblk m c 5 t) (iblk m c 6 t) (iblk m c 7 t) (iblk m c 8 t) (iblk m c 9 t) k d x
      = (inputs m c).out (bat t) (headAt t k) d x := by
  unfold hv Inputs.out
  rw [grp_headAt]
  simp only [blk0, blk1, blk3, blk4, blk5, blk6, blk7, blk8, blk9]

theorem hm_at (c : Dev nD) (t : Fin cfg0.N) (k : Fin 4) (x : Fin 1024) :
    hm (bat t) (gro t) (iblk m c 2 t) (iblk m c 0 t) (iblk m c 1 t) (iblk m c 3 t) (iblk m c 4 t) (iblk m c 5 t) (iblk m c 6 t) (iblk m c 7 t) (iblk m c 8 t) (iblk m c 9 t) k x
      = (inputs m c).headMag (bat t) (headAt t k) x := by
  unfold hm Inputs.headMag topMag
  rw [grp_headAt, blk2]
  simp only [hv_at]

end Cert.KernelIdeal.Hand

end
-- ==== Proof.KernelRun.lean ====
module

public import proofs.«01_k».proof.Proof.Arrays
public import Idealize.ShloMosaic.Lib.Pipeline.DatRel
public import Idealize.ShloMosaic.Lib.Pipeline.ArrRel
public import Idealize.ShloMosaic.Lib.Pipeline.FrameBody

/-! # The kernel's run

Over the grid of batches and groups: the two carried scratch buffers hold the outputs and magnitudes of the groups done so
far, the last point of a batch leaves its codes and scales, and the arrays at the end hold those of both batches. -/

@[expose] public section

set_option maxRecDepth 16384

noncomputable section

namespace Cert.KernelIdeal.Value

open Cert.KernelIdeal Cert.KernelIdeal.Gen Cert.KernelIdeal.Hand Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel)

local notation "𝕄" => MT nD τ sig Unit (Elt Ideal) ℕ (UR sig nD τ) ℕ

/-! ## The carried scratch buffers -/

/-- Before point `n`, the heads of the groups that the batch has done hold their outputs and magnitudes. -/
def SoFar (A : Inputs) (n : ℕ) (d14 : Vec Ideal S32x160x1024 .f32) (d15 : Vec Ideal S32x2x1024 .f32) : Prop :=
  ∀ b : Fin 2, b.val = n / 8 → ∀ h : Fin 32, h.val < 4 * (n % 8) →
    (∀ (d : Fin 160) (x : Fin 1024), d14 (ix3 h d x) = A.out b h d x) ∧ ∀ x : Fin 1024, d15 (ix3 h (0 : Fin 2) x) = A.headMag b h x

variable (m : (ℓ : Loc nD τ sig) → Buf (Elt Ideal) ℓ) (ρ : Dev nD → PrngReg)

/-- After point `t`, the heads up to its group's last hold their outputs and magnitudes. -/
theorem done_upto (c : Dev nD) (t : Fin cfg0.N) {d14 d14' : Vec Ideal S32x160x1024 .f32} {d15 d15' : Vec Ideal S32x2x1024 .f32}
    (h0 : SoFar (inputs m c) t.val d14 d15) (hs : Step (grid0.coords t) (iblk m c 0 t) (iblk m c 1 t) (iblk m c 2 t) (iblk m c 3 t) (iblk m c 4 t) (iblk m c 5 t) (iblk m c 6 t) (iblk m c 7 t) (iblk m c 8 t) (iblk m c 9 t) d14 d15 d14' d15')
    (h : Fin 32) (hh : h.val < 4 * (t.val % 8) + 4) :
    (∀ (d : Fin 160) (x : Fin 1024), d14' (ix3 h d x) = (inputs m c).out (bat t) h d x)
      ∧ ∀ x : Fin 1024, d15' (ix3 h (0 : Fin 2) x) = (inputs m c).headMag (bat t) h x := by
  have hg : (grid0.coords t 1).val = t.val % 8 := gro_val t
  by_cases hc : 4 * (grid0.coords t 1).val ≤ h.val ∧ h.val < 4 * (grid0.coords t 1).val + 4
  · have hk : headAt t ⟨h.val - 4 * (grid0.coords t 1).val, by omega⟩ = h :=
      Fin.ext (show 4 * (grid0.coords t 1).val + (h.val - 4 * (grid0.coords t 1).val) = h.val by omega)
    refine ⟨fun d x => (hs.outs h d x).trans ?_, fun x => (hs.mags h x).trans ?_⟩
    · rw [dif_pos hc]
      exact (hv_at m c t _ d x).trans (by rw [hk])
    · rw [dif_pos hc]
      exact (hm_at m c t _ x).trans (by rw [hk])
  · obtain ⟨ho, hm⟩ := h0 (bat t) (bat_val t) h (by omega)
    refine ⟨fun d x => (hs.outs h d x).trans ?_, fun x => (hs.mags h x).trans ?_⟩
    · rw [dif_neg hc]; exact ho d x
    · rw [dif_neg hc]; exact hm x

theorem soFar_succ (c : Dev nD) (t : Fin cfg0.N) {d14 d14' : Vec Ideal S32x160x1024 .f32} {d15 d15' : Vec Ideal S32x2x1024 .f32}
    (h0 : SoFar (inputs m c) t.val d14 d15) (hs : Step (grid0.coords t) (iblk m c 0 t) (iblk m c 1 t) (iblk m c 2 t) (iblk m c 3 t) (iblk m c 4 t) (iblk m c 5 t) (iblk m c 6 t) (iblk m c 7 t) (iblk m c 8 t) (iblk m c 9 t) d14 d15 d14' d15') :
    SoFar (inputs m c) (t.val + 1) d14' d15' := fun b hb h hh => by
  have hb' : b = bat t := Fin.ext (by rw [bat_val]; omega)
  rw [hb']
  exact done_upto m c t h0 hs h (by omega)

/-! ## What the last point of a batch leaves -/

/-- The codes of the batch of point `t`. -/
def codeBlk (c : Dev nD) (t : Fin cfg0.N) (y : S1x1024x5120.Idx) : EReal :=
  (inputs m c).kcode (bat t) (y 1) ⟨(y 2).val / 160, by have h : (y 2).val < 5120 := (y 2).isLt; omega⟩ ⟨(y 2).val % 160, Nat.mod_lt _ (by omega)⟩

/-- The scales of the batch of point `t`. -/
def scaleBlk (c : Dev nD) (t : Fin cfg0.N) (y : S1x8x128.Idx) : EReal :=
  Ideal.exp2 ((inputs m c).kexp (bat t) ⟨128 * (y 1).val + (y 2).val, by have h : (y 1).val < 8 := (y 1).isLt; have h' : (y 2).val < 128 := (y 2).isLt; omega⟩)

theorem expo_magD (c : Dev nD) (t : Fin cfg0.N) {d15' : Vec Ideal S32x2x1024 .f32}
    (hd : ∀ (h : Fin 32) (x : Fin 1024), d15' (ix3 h (0 : Fin 2) x) = (inputs m c).headMag (bat t) h x) (x : Fin 1024) :
    expo (magD d15' x) = (inputs m c).kexp (bat t) x := by
  unfold magD Inputs.kexp
  simp only [hd]

theorem last_code (c : Dev nD) (t : Fin cfg0.N) {d14' : Vec Ideal S32x160x1024 .f32} {d15' : Vec Ideal S32x2x1024 .f32}
    (ho : ∀ (h : Fin 32) (d : Fin 160) (x : Fin 1024), d14' (ix3 h d x) = (inputs m c).out (bat t) h d x)
    (hd : ∀ (h : Fin 32) (x : Fin 1024), d15' (ix3 h (0 : Fin 2) x) = (inputs m c).headMag (bat t) h x) (y : S1x1024x5120.Idx) :
    codeOf (grid0.coords t) (iblk m c 2 t) d14' d15' y = codeBlk m c t y := by
  unfold codeOf codeBlk Inputs.kcode clip448
  refine congrArg (fun z => min _ (max _ z)) ?_
  have hg : (⟨(y 2).val / 640, by have h : (y 2).val < 5120 := (y 2).isLt; omega⟩ : Fin 8) = grp ⟨(y 2).val / 160, by have h : (y 2).val < 5120 := (y 2).isLt; omega⟩ :=
    Fin.ext (show (y 2).val / 640 = (y 2).val / 160 / 4 by omega)
  refine congrArg₂ (· * ·) (ho _ _ _) (congrArg₂ (· * ·) (congrArg (fun z => Ideal.exp2 (0 - z)) (expo_magD m c t hd _)) ((blk2 m c t _ _).trans ?_))
  rw [hg]

theorem last_scale (c : Dev nD) (t : Fin cfg0.N) {d15' : Vec Ideal S32x2x1024 .f32}
    (hd : ∀ (h : Fin 32) (x : Fin 1024), d15' (ix3 h (0 : Fin 2) x) = (inputs m c).headMag (bat t) h x) (y : S1x8x128.Idx) :
    scaleOf d15' y = scaleBlk m c t y := by
  unfold scaleOf scaleBlk
  rw [expo_magD m c t hd]

/-! ## The proof data -/

/-- The invariant before point `n`. -/
def carried (c : Dev nD) (n : ℕ) : sProp 𝕄 :=
  iprop(∃ (d14 : Vec Ideal S32x160x1024 .f32) (d15 : Vec Ideal S32x2x1024 .f32), ⌜SoFar (inputs m c) n d14 d15⌝ ∗ owns (c : Thread nD τ) (Memref.whole cc0_scratch0) fullShare d14 ∗ owns (c : Thread nD τ) (Memref.whole cc0_scratch1) fullShare d15 ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ r, prngReg c r))

/-- The proof data on core `c`: the arrays as the region finds them; each input window left as found; the carried scratch
buffers tracked. -/
def kdat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
  Φ n := carried m c n.val
  q _ := fullShare
  owed _ := 0

/-- The two output windows are held to a relation. -/
def marked : Fin cfg0.W → Bool := fun w => decide (10 ≤ w.val)

/-- What the last point of a batch leaves in the output windows. -/
def krel (c : Dev nD) (w : Fin cfg0.W) (t : Fin cfg0.N) (X : (cfg0.win w).block.Idx → Elt Ideal (cfg0.win w).elt) : Prop :=
  match w with
  | ⟨10, _⟩ => t.val % 8 = 7 → ∀ y : S1x1024x5120.Idx, (X : S1x1024x5120.Idx → EReal) y = codeBlk m c t y
  | ⟨11, _⟩ => t.val % 8 = 7 → ∀ y : S1x8x128.Idx, (X : S1x8x128.Idx → EReal) y = scaleBlk m c t y
  | _ => True

/-- The data, the output windows held to `krel`. -/
abbrev krd (c : Dev nD) : RDat τ (Elt Ideal) Unit ℕ (UR sig nD τ) ℕ cfg0 c := (kdat m c).toRRel marked (krel m c)

theorem A_at (c : Dev nD) (w : Fin cfg0.W) : (kdat m c).A w = V m c (Pipeline.arrRef spec0 w) := by dsimp only [kdat]

theorem before_0 (c : Dev nD) (t : Fin cfg0.N) (d) : (kdat m c).before 0 t d = iblk m c 0 t :=
  before0_0_of m (kdat m c) (A_at m c 0) (fun t => by dsimp only [kdat]) t d
theorem before_1 (c : Dev nD) (t : Fin cfg0.N) (d) : (kdat m c).before 1 t d = iblk m c 1 t :=
  before0_1_of m (kdat m c) (A_at m c 1) (fun t => by dsimp only [kdat]) t d
theorem before_2 (c : Dev nD) (t : Fin cfg0.N) (d) : (kdat m c).before 2 t d = iblk m c 2 t :=
  before0_2_of m (kdat m c) (A_at m c 2) (fun t => by dsimp only [kdat]) t d
theorem before_3 (c : Dev nD) (t : Fin cfg0.N) (d) : (kdat m c).before 3 t d = iblk m c 3 t :=
  before0_3_of m (kdat m c) (A_at m c 3) (fun t => by dsimp only [kdat]) t d
theorem before_4 (c : Dev nD) (t : Fin cfg0.N) (d) : (kdat m c).before 4 t d = iblk m c 4 t :=
  before0_4_of m (kdat m c) (A_at m c 4) (fun t => by dsimp only [kdat]) t d
theorem before_5 (c : Dev nD) (t : Fin cfg0.N) (d) : (kdat m c).before 5 t d = iblk m c 5 t :=
  before0_5_of m (kdat m c) (A_at m c 5) (fun t => by dsimp only [kdat]) t d
theorem before_6 (c : Dev nD) (t : Fin cfg0.N) (d) : (kdat m c).before 6 t d = iblk m c 6 t :=
  before0_6_of m (kdat m c) (A_at m c 6) (fun t => by dsimp only [kdat]) t d
theorem before_7 (c : Dev nD) (t : Fin cfg0.N) (d) : (kdat m c).before 7 t d = iblk m c 7 t :=
  before0_7_of m (kdat m c) (A_at m c 7) (fun t => by dsimp only [kdat]) t d
theorem before_8 (c : Dev nD) (t : Fin cfg0.N) (d) : (kdat m c).before 8 t d = iblk m c 8 t :=
  before0_8_of m (kdat m c) (A_at m c 8) (fun t => by dsimp only [kdat]) t d
theorem before_9 (c : Dev nD) (t : Fin cfg0.N) (d) : (kdat m c).before 9 t d = iblk m c 9 t :=
  before0_9_of m (kdat m c) (A_at m c 9) (fun t => by dsimp only [kdat]) t d

/-- What the body is called with at point `t`, and what it returns. -/
def pointPre (c : Dev nD) (t : Fin cfg0.N) : sProp 𝕄 :=
  iprop((kdat m c).Φ t.castSucc ∗ (kdat m c).owesAt () t.castSucc ∗ (∃ d, owns (c : Thread nD τ) (st0_0 t) fullShare ((kdat m c).before 0 t d)) ∗ (∃ d, owns (c : Thread nD τ) (st0_1 t) fullShare ((kdat m c).before 1 t d)) ∗ (∃ d, owns (c : Thread nD τ) (st0_2 t) fullShare ((kdat m c).before 2 t d)) ∗ (∃ d, owns (c : Thread nD τ) (st0_3 t) fullShare ((kdat m c).before 3 t d)) ∗ (∃ d, owns (c : Thread nD τ) (st0_4 t) fullShare ((kdat m c).before 4 t d)) ∗ (∃ d, owns (c : Thread nD τ) (st0_5 t) fullShare ((kdat m c).before 5 t d)) ∗ (∃ d, owns (c : Thread nD τ) (st0_6 t) fullShare ((kdat m c).before 6 t d)) ∗ (∃ d, owns (c : Thread nD τ) (st0_7 t) fullShare ((kdat m c).before 7 t d)) ∗ (∃ d, owns (c : Thread nD τ) (st0_8 t) fullShare ((kdat m c).before 8 t d)) ∗ (∃ d, owns (c : Thread nD τ) (st0_9 t) fullShare ((kdat m c).before 9 t d)) ∗ (∃ Y, ⌜(krd m c).Finds 10 t Y⌝ ∗ owns (c : Thread nD τ) (st0_10 t) fullShare Y) ∗ (∃ Y, ⌜(krd m c).Finds 11 t Y⌝ ∗ owns (c : Thread nD τ) (st0_11 t) fullShare Y))
def pointPost (c : Dev nD) (t : Fin cfg0.N) : sProp 𝕄 :=
  iprop((kdat m c).Φ t.succ ∗ (kdat m c).owesAt () t.succ ∗ owns (c : Thread nD τ) (st0_0 t) fullShare ((kdat m c).after 0 t) ∗ owns (c : Thread nD τ) (st0_1 t) fullShare ((kdat m c).after 1 t) ∗ owns (c : Thread nD τ) (st0_2 t) fullShare ((kdat m c).after 2 t) ∗ owns (c : Thread nD τ) (st0_3 t) fullShare ((kdat m c).after 3 t) ∗ owns (c : Thread nD τ) (st0_4 t) fullShare ((kdat m c).after 4 t) ∗ owns (c : Thread nD τ) (st0_5 t) fullShare ((kdat m c).after 5 t) ∗ owns (c : Thread nD τ) (st0_6 t) fullShare ((kdat m c).after 6 t) ∗ owns (c : Thread nD τ) (st0_7 t) fullShare ((kdat m c).after 7 t) ∗ owns (c : Thread nD τ) (st0_8 t) fullShare ((kdat m c).after 8 t) ∗ owns (c : Thread nD τ) (st0_9 t) fullShare ((kdat m c).after 9 t) ∗ (∃ X, ⌜krel m c 10 t X⌝ ∗ owns (c : Thread nD τ) (st0_10 t) fullShare X) ∗ (∃ X, ⌜krel m c 11 t X⌝ ∗ owns (c : Thread nD τ) (st0_11 t) fullShare X))

theorem last_cond : ∀ t : Fin cfg0.N, t.val % 8 = 7 → k0_cond1 (grid0.coords t) = 1#1 :=
  (by decide +kernel : ∀ t : Fin grid0.N, t.val % 8 = 7 → k0_cond1 (grid0.coords t) = 1#1)

/-- The body at the point. -/
theorem sound_point (c : Dev nD) (t : Fin cfg0.N) :
    pointPre m c t ⊢ wp frame (wpE (defs₀ (F := Ideal)) Variants.none c none) Set.univ (bodyAt0 t) (fun _ => pointPost m c t) := by
  unfold pointPre pointPost bodyAt0
  rw [show (kdat m c).owesAt () t.succ = (kdat m c).owesAt () t.castSucc from rfl,
    show (kdat m c).Φ t.castSucc = carried m c t.val from rfl, show (kdat m c).Φ t.succ = carried m c (t.val + 1) from rfl]
  simp only [before_0, before_1, before_2, before_3, before_4, before_5, before_6, before_7, before_8, before_9]
  unfold carried
  iintro ⟨⟨%d14, %d15, %hsf, S0, S1, S2, S3, S4, S5, S6, Hg⟩, HO, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%Y10, -, W10⟩, ⟨%Y11, -, W11⟩⟩
  iapply (bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) d14 d15 _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexists _; iexact W10
  isplitl [W11]; · iexists _; iexact W11
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨W0, W1, W2, W3, W4, W5, W6, W7, W8, W9, ⟨%d14', %d15', %hst, S0, S1, ⟨%d12, %hc, W10⟩, ⟨%d13, %hd, W11⟩⟩, S2, S3, S4, S5, S6⟩
  isplitl [S0 S1 S2 S3 S4 S5 S6 Hg]
  · iexists d14', d15'
    isplitr
    · ipureintro; exact soFar_succ m c t hsf hst
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]
  · iexists d12
    isplitr
    · ipureintro
      intro ht y
      have hall := fun h : Fin 32 => done_upto m c t hsf hst h (by omega)
      exact (hc (last_cond t ht) y).trans (last_code m c t (fun h => (hall h).1) (fun h => (hall h).2) y)
    iexact W10
  iexists d13
  isplitr
  · ipureintro
    intro ht y
    have hall := fun h : Fin 32 => done_upto m c t hsf hst h (by omega)
    exact (hd (last_cond t ht) y).trans (last_scale m c t (fun h => (hall h).2) y)
  iexact W11

/-- The body table's row at the point is the body as `bodyAt0` spells it. -/
theorem row_at (t : Fin cfg0.N) : defs₀ (F := Ideal) .tc cfg0.body (cfg0.bodyArgs t (cfg0.slots t)) = bodyAt0 t := by
  unfold defs₀; rw [Defs.onTc_tc]

theorem obligation (c : Dev nD) :
    BodyObligationRel (kdat m c) (defs₀ (F := Ideal)) Variants.none () Set.univ marked (krel m c) := fun t => by
  rw [bigSep_W0, bigSep_W0, row_at]
  exact triple_restated (sound_point m c t) rfl .rfl fun _ => .rfl

/-- The invariant between the points, conjunct by conjunct. -/
theorem PhiA_at (c : Dev nD) : (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

theorem carried_in (c : Dev nD) : Pipeline.ΦA spec0 c ⊢ (krd m c).Φ 0 := by
  show Pipeline.ΦA spec0 c ⊢ carried m c 0
  rw [PhiA_at]
  unfold carried
  iintro ⟨⟨⟨%d14, S0⟩, ⟨%d15, S1⟩, S2, S3, S4, S5, S6⟩, Hg⟩
  iexists d14, d15
  isplitr
  · ipureintro
    intro b _ h hh
    exact absurd hh (by omega)
  isplitl [S0]; · iexact S0
  isplitl [S1]; · iexact S1
  isplitl [S2]; · iexact S2
  isplitl [S3]; · iexact S3
  isplitl [S4]; · iexact S4
  isplitl [S5]; · iexact S5
  isplitl [S6]; · iexact S6
  iexact Hg

theorem carried_out (c : Dev nD) : (krd m c).Φ (Fin.last cfg0.N) ⊢ Pipeline.ΦA spec0 c := by
  show carried m c (Fin.last cfg0.N).val ⊢ Pipeline.ΦA spec0 c
  rw [PhiA_at]
  unfold carried
  iintro ⟨%d14, %d15, -, S0, S1, S2, S3, S4, S5, S6, Hg⟩
  isplitl [S0 S1 S2 S3 S4 S5 S6]
  · skip
    isplitl [S0]; · iexists _; iexact S0
    isplitl [S1]; · iexists _; iexact S1
    isplitl [S2]; · iexact S2
    isplitl [S3]; · iexact S3
    isplitl [S4]; · iexact S4
    isplitl [S5]; · iexact S5
    iexact S6
  iexact Hg

/-! ## The launch -/

set_option backward.isDefEq.respectTransparency.types false in
/-- From any memory with zero counters every weakly fair execution of @main terminates; every final state has each window's
array at contents that the relational data allow. -/
theorem run_tracked :
    θ_run defs (onTc (τ := τ) (main (F := Ideal))) (s₀ m ρ)
      (fun r => Pipeline.RDat.FramePost (cfgs 0) (krd m) (V m) r ∧ r.2.sem = fun _ => 0) :=
  Pipeline.RDat.θ_run_frame_track (Q' := _) cfgs (0 : Fin 1) launch0 defs₀ Variants.none (krd m) m ρ main
    (hbody := fun c => (obligation m c).toRRel) (hshare := fun c => (kdat m c).share_full fun _ => rfl)
    (howed := fun _ _ => rfl) (V := V m) (hmain := hmain m Variants.none) (hA := A_at m)
    (hin := carried_in m) (hout := carried_out m)

/-- The codes of both batches. -/
def codes (c : Dev nD) : S2x1024x5120.Idx → EReal := fun y =>
  (inputs m c).kcode (y 0) (y 1) ⟨(y 2).val / 160, by have h : (y 2).val < 5120 := (y 2).isLt; omega⟩ ⟨(y 2).val % 160, Nat.mod_lt _ (by omega)⟩

/-- The scales of both batches. -/
def scales (c : Dev nD) : S2x8x128.Idx → EReal := fun y =>
  Ideal.exp2 ((inputs m c).kexp (y 0) ⟨128 * (y 1).val + (y 2).val, by have h : (y 1).val < 8 := (y 1).isLt; have h' : (y 2).val < 128 := (y 2).isLt; omega⟩)

/-- The codes' array after the run, from what each flushing point leaves. -/
theorem codes_arr (c : Dev nD) (dat : Dat τ (Elt Ideal) Unit ℕ (UR sig nD τ) ℕ cfg0 c)
    (h : ∀ t : Fin cfg0.N, (cfg0.win 10).flush t = true → krel m c 10 t (dat.after 10 t)) :
    dat.arrAt 10 cfg0.N = codes m c := by
  refine dat.arrAt_eq_of_covers 10 _ (by decide +kernel) fun t hf y => ?_
  blk_simp
  refine (h t hf ((flush0_10 t).mp hf) y).trans ?_
  have hy : (win0_10.blk t).view.emb y = ix3 (n0 := 2) (n1 := 1024) (n2 := 5120) (bat t) (y 1) (y 2) := by
    idx_bounds y
    blk_ext [e10 t]
    all_goals first | omega | rfl | (show (grid0.coords t 0).val + (y 0).val = (grid0.coords t 0).val; omega)
  exact (congrArg (codes m c) hy).symm

theorem scales_arr (c : Dev nD) (dat : Dat τ (Elt Ideal) Unit ℕ (UR sig nD τ) ℕ cfg0 c)
    (h : ∀ t : Fin cfg0.N, (cfg0.win 11).flush t = true → krel m c 11 t (dat.after 11 t)) :
    dat.arrAt 11 cfg0.N = scales m c := by
  refine dat.arrAt_eq_of_covers 11 _ (by decide +kernel) fun t hf y => ?_
  blk_simp
  refine (h t hf ((flush0_11 t).mp hf) y).trans ?_
  have hy : (win0_11.blk t).view.emb y = ix3 (n0 := 2) (n1 := 8) (n2 := 128) (bat t) (y 1) (y 2) := by
    idx_bounds y
    blk_ext [e11 t]
    all_goals first | omega | rfl | (show (grid0.coords t 0).val + (y 0).val = (grid0.coords t 0).val; omega)
  exact (congrArg (scales m c) hy).symm

/-- The run, read: the two results at the codes and the scales, the arguments unchanged. -/
theorem run : θ_run (defs (F := Ideal)) (onTc (τ := τ) (main (F := Ideal))) (s₀ m ρ) (fun r => ∀ c : Dev nD,
      r.2.mem ((c.tc : Thread nD τ).loc main_v5_0) = codes m c
      ∧ r.2.mem ((c.tc : Thread nD τ).loc main_v5_1) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    have hc := h.1
    obtain ⟨after, hL, hA⟩ := hc.exists_exact c
    refine ⟨?_, ?_, ?_, ?_, ?_, ?_, ?_, ?_, ?_, ?_, ?_, ?_⟩
    · refine (hA 10).trans (codes_arr m c _ fun t hf => ?_)
      exact (kdat m c).toRRel_leaves (fgt := marked) (Rl := krel m c) (w := 10) rfl (hL 10 t hf)
    · refine (hA 11).trans (scales_arr m c _ fun t hf => ?_)
      exact (kdat m c).toRRel_leaves (fgt := marked) (Rl := krel m c) (w := 11) rfl (hL 11 t hf)
    · exact ((hc c).2 main_arg0 (Pipeline.mem_restRefs_of main_arg0 (by decide) (by decide))).trans (V_main_arg0 m c)
    · exact (Pipeline.RDat.FramePost.arr_in hc c 0 rfl).trans (V_main_arg1 m c)
    · exact ((hc c).2 main_arg2 (Pipeline.mem_restRefs_of main_arg2 (by decide) (by decide))).trans (V_main_arg2 m c)
    · exact (Pipeline.RDat.FramePost.arr_in hc c 1 rfl).trans (V_main_arg3 m c)
    · exact ((hc c).2 main_arg4 (Pipeline.mem_restRefs_of main_arg4 (by decide) (by decide))).trans (V_main_arg4 m c)
    · exact (Pipeline.RDat.FramePost.arr_in hc c 2 rfl).trans (V_main_arg5 m c)
    · exact ((hc c).2 main_arg6 (Pipeline.mem_restRefs_of main_arg6 (by decide) (by decide))).trans (V_main_arg6 m c)
    · exact (Pipeline.RDat.FramePost.arr_in hc c 3 rfl).trans (V_main_arg7 m c)
    · exact ((hc c).2 main_arg8 (Pipeline.mem_restRefs_of main_arg8 (by decide) (by decide))).trans (V_main_arg8 m c)
    · exact (Pipeline.RDat.FramePost.arr_in hc c 4 rfl).trans (V_main_arg9 m c)) (run_tracked m ρ)

end Cert.KernelIdeal.Value

end
-- ==== Proof.RefBody.lean ====
module

public import proofs.«01_k».proof.Proof.Result
public import proofs.«01_k».proof.Proof.Gen.ReferenceIdeal.Skeleton
public import Idealize.ShloMosaic.Lib.Pointwise

/-! # The reference's body

What the reference's body computes from its six arrays, entry by entry. -/

@[expose] public section

set_option maxRecDepth 16384

noncomputable section

namespace Cert.ReferenceIdeal.Value

open Cert.ReferenceIdeal Cert.ReferenceIdeal.Gen Cert.Attn
open Idealize.ShloMosaic Idealize.ShloMosaic.Tactic

theorem bottom_eq : Ideal.ofBits FTy.f32 4286578688#32 = (⊥ : EReal) := by
  simp [Ideal.ofBits, Ideal.ieee]

/-- The attention stage at one token of one head. -/
theorem attend_at (q k v : Vec Ideal S64x1024x160 .fp8e4m3) (vis : Vec Ideal S64x1024x1024 .i32) (mult : Vec Ideal S64x1x1 .f32)
    (h : Fin 64) (t : Fin 1024) (d : Fin 160) :
    k0_pay5 q k vis mult v (ix3 h t d) =
      attend (fun x => Scalar.select (IntOp.cmpi .ne (vis (ix3 h t x)) 0#32) ((∑ e, q (ix3 h t e) * k (ix3 h x e)) * mult (ix3 h 0 0)) ⊥)
        (fun x => v (ix3 h x d)) := by
  pointwise [k0_pay5]
  simp only [bottom_eq]
  rfl

/-- The exponent of every token's scale, from the largest magnitudes over 448. -/
def tail (x : FVec Ideal S2x1024 .f32) : FVec Ideal S2x1024 .f32 :=
  select (cmpf .olt x (broadcast S2x1024 (Scalar.ofBits (F := Ideal) .f32 0x00800000#32)))
    (broadcast S2x1024 (Scalar.ofBits (F := Ideal) .f32 0x00000000#32))
    (minimumf (addf (floor (divf (log x) (broadcast S2x1024 (Named.named (F := Ideal) (φ := .f32) κ "log2" 0x3F317218#32))))
      (broadcast S2x1024 (Scalar.ofBits (F := Ideal) .f32 0x3F800000#32))) (broadcast S2x1024 (Scalar.ofBits (F := Ideal) .f32 0x42FC0000#32)))

theorem tail_at (x : FVec Ideal S2x1024 .f32) (b : Fin 2) (t : Fin 1024) : tail x (ix2 b t) = expo (x (ix2 b t)) := by
  have hl : Named.named (F := Ideal) (φ := .f32) κ "log2" 0x3F317218#32 = ((Real.log 2 : ℝ) : EReal) :=
    IdealRules.named_const.ideal_named_scalar _ _ _ _ rfl
  pointwise [tail]
  rw [hl]
  rfl

theorem pay1_at (v34 : FVec Ideal S64x1024x160 .f32) (v35 : Vec Ideal S64x1x1 .f32) (b : Fin 2) (t : Fin 1024) (x : Fin 5120) :
    k0_pay1 v34 v35 (ix3 b t x) = v34 (ix3 (⟨32 * b.val + x.val / 160, by omega⟩ : Fin 64) t ⟨x.val % 160, by omega⟩) *
      v35 (ix3 (⟨32 * b.val + x.val / 160, by omega⟩ : Fin 64) 0 0) := by
  have e : ∀ n : Fin 64, n.val = b.val * 32 + x.val / 160 → n = ⟨32 * b.val + x.val / 160, by omega⟩ := fun n hn => Fin.ext (by show n.val = 32 * b.val + x.val / 160; omega)
  pointwise [k0_pay1]
  rw [e ⟨b.val * 32 + x.val / 160, _⟩ rfl]

theorem rowMax_at (X : FVec Ideal S2x1024x5120 .f32) (b : Fin 2) (t : Fin 1024) :
    multiReduction .maximumf [2] S2x1024 X 0xFF800000#32 reduces_S2x1024x5120_S2x1024 (.inl rfl) rfl (ix2 b t) =
      Finset.univ.fold max (Ideal.ofBits FTy.f32 4286578688#32) fun x : Fin 5120 => X (ix3 b t x) := by
  pointwise

theorem mulRecip_at (A : FVec Ideal S2x1024 .f32) (i : S2x1024.Idx) :
    mulf A (broadcast S2x1024 (Scalar.ofBits (F := Ideal) .f32 0x3B124925#32)) i = A i * recip448 := rfl

theorem absf_at (X : FVec Ideal S2x1024x5120 .f32) (i : S2x1024x5120.Idx) : absf X i = max (X i) (-(X i)) := rfl

/-- The largest magnitude of every token, over 448. -/
theorem magnitude_at (X : FVec Ideal S2x1024x5120 .f32) (b : Fin 2) (t : Fin 1024) :
    mulf (multiReduction .maximumf [2] S2x1024 (absf X) 0xFF800000#32 reduces_S2x1024x5120_S2x1024 (.inl rfl) rfl)
      (broadcast S2x1024 (Scalar.ofBits (F := Ideal) .f32 0x3B124925#32)) (ix2 b t) =
      (Finset.univ.fold max ⊥ fun x : Fin 5120 => max (X (ix3 b t x)) (-(X (ix3 b t x)))) * recip448 := by
  rw [mulRecip_at, rowMax_at, bottom_eq]
  simp only [absf_at]

theorem pay2_at (v34 : FVec Ideal S64x1024x160 .f32) (v35 : Vec Ideal S64x1x1 .f32) (b : Fin 2) (t : Fin 1024) :
    k0_pay2 v34 v35 (ix2 b t) = expo ((Finset.univ.fold max ⊥ fun x : Fin 5120 =>
      max (k0_pay1 v34 v35 (ix3 b t x)) (-(k0_pay1 v34 v35 (ix3 b t x)))) * recip448) := by
  have e : k0_pay2 v34 v35 = tail (mulf (multiReduction .maximumf [2] S2x1024 (absf (k0_pay1 v34 v35)) 0xFF800000#32 reduces_S2x1024x5120_S2x1024 (.inl rfl) rfl)
      (broadcast S2x1024 (Scalar.ofBits (F := Ideal) .f32 0x3B124925#32))) := rfl
  rw [e, tail_at, magnitude_at]

theorem scale_at (o : FVec Ideal S2x1024 .f32) (b : Fin 2) (i : Fin 8) (l : Fin 128) :
    shapeCast S2x8x128 (exp2 o) shapeCasts_S2x1024_S2x8x128 (ix3 b i l) = Ideal.exp2 (o (ix2 b ⟨128 * i.val + l.val, by omega⟩)) := by
  have e : ∀ n : Fin 1024, n.val = i.val * 128 + l.val → n = ⟨128 * i.val + l.val, by omega⟩ := fun n hn => Fin.ext (by show n.val = 128 * i.val + l.val; omega)
  pointwise
  rw [e ⟨i.val * 128 + l.val, _⟩ rfl]
  rfl

theorem pay3_at (v34 : FVec Ideal S64x1024x160 .f32) (v35 : Vec Ideal S64x1x1 .f32) (b : Fin 2) (i : Fin 8) (l : Fin 128) :
    k0_pay3 v34 v35 (ix3 b i l) = Ideal.exp2 (k0_pay2 v34 v35 (ix2 b ⟨128 * i.val + l.val, by omega⟩)) :=
  scale_at _ b i l

theorem clip_at (p : FVec Ideal S2x1024x5120 .f32) (o : FVec Ideal S2x1024 .f32) (b : Fin 2) (t : Fin 1024) (x : Fin 5120) :
    truncf .fp8e4m3 (minimumf (broadcast S2x1024x5120 (Scalar.ofBits (F := Ideal) .f32 0x43E00000#32))
      (maximumf (broadcast S2x1024x5120 (Scalar.ofBits (F := Ideal) .f32 0xC3E00000#32))
        (mulf p (broadcastTo S2x1024x5120 (shapeCast S2x1024x1 (exp2 (subf (broadcast S2x1024 (Scalar.ofBits (F := Ideal) .f32 0x00000000#32)) o))
          shapeCasts_S2x1024_S2x1024x1) broadcasts_S2x1024x1_S2x1024x5120)))) bitsLt_fp8e4m3_f32 (ix3 b t x) = code (p (ix3 b t x)) (o (ix2 b t)) := by
  pointwise
  rfl

theorem pay4_at (v34 : FVec Ideal S64x1024x160 .f32) (v35 : Vec Ideal S64x1x1 .f32) (b : Fin 2) (t : Fin 1024) (x : Fin 5120) :
    k0_pay4 v34 v35 (ix3 b t x) = code (k0_pay1 v34 v35 (ix3 b t x)) (k0_pay2 v34 v35 (ix2 b t)) :=
  clip_at (k0_pay1 v34 v35) (k0_pay2 v34 v35) b t x

end Cert.ReferenceIdeal.Value

end
-- ==== Proof.RefMasks.lean ====
module

public import proofs.«01_k».proof.Proof.Result
public import proofs.«01_k».proof.Proof.Gen.ReferenceIdeal
public import Idealize.ShloMosaic.Lib.Pointwise
public import Idealize.ShloMosaic.Lib.Routing.OpsOrder

/-! # The reference's masks

The reference marks a key of a token as listed by comparing it with every entry of the list and taking the `or` over the
entries. -/

@[expose] public section

set_option maxRecDepth 16384

noncomputable section

namespace Cert.ReferenceIdeal.Value

open Cert.ReferenceIdeal Cert.ReferenceIdeal.Gen Cert.Attn
open Idealize.ShloMosaic Idealize.ShloMosaic.Tactic

theorem pair_bit (a b n c : BitVec 32) :
    IntOp.andi (IntOp.cmpi CmpIPredicate.eq a b) (IntOp.cmpi CmpIPredicate.slt n c) = 1#1 ↔ n.slt c = true ∧ a = b := by
  rw [IntOp.andi_eq_one, IntOp.cmpi_eq, IntOp.cmpi_slt, ← BitVec.slt_iff_toInt_lt, and_comm]

/-- One bit per head, token and key: whether `key` at the token and the key is an entry of the vertical list. -/
def vertBits (idx : IVec S2x32x220 32) (cnt : IVec S2x32 32) (key : IVec S1024x1024 32) : IVec S2x32x1024x1024 1 :=
  Host.reduce IntOp.ori
    (andi
      (cmpi .eq (broadcastInDim S2x32x220x1024x1024 ![0, 1, 2, 3, 4] bcast_S2x32x220x1x1_S2x32x220x1024x1024_0_1_2_3_4
          (broadcastInDim S2x32x220x1x1 ![0, 1, 2] bcast_S2x32x220_S2x32x220x1x1_0_1_2 idx))
        (broadcastInDim S2x32x220x1024x1024 ![0, 1, 2, 3, 4] bcast_S1x1x1x1024x1024_S2x32x220x1024x1024_0_1_2_3_4
          (broadcastInDim S1x1x1x1024x1024 ![3, 4] bcast_S1024x1024_S1x1x1x1024x1024_3_4 key)))
      (broadcastInDim S2x32x220x1024x1024 ![0, 1, 2, 3, 4] bcast_S2x32x220x1x1_S2x32x220x1024x1024_0_1_2_3_4
        (broadcastInDim S2x32x220x1x1 ![0, 1, 2] bcast_S2x32x220_S2x32x220x1x1_0_1_2
          (cmpi .slt (broadcastInDim S2x32x220 ![0, 1, 2] bcast_S1x1x220_S2x32x220_0_1_2
              (broadcastInDim S1x1x220 ![2] bcast_S220_S1x1x220_2 (iotaInDim S220 32 0)))
            (broadcastInDim S2x32x220 ![0, 1, 2] bcast_S2x32x1_S2x32x220_0_1_2
              (broadcastInDim S2x32x1 ![0, 1] bcast_S2x32_S2x32x1_0_1 cnt))))))
    (constantI S_ 1 0#1) reducesTo_S2x32x220x1024x1024_S2x32x1024x1024_d2 h_S_

theorem vertBits_at (idx : IVec S2x32x220 32) (cnt : IVec S2x32 32) (key : IVec S1024x1024 32) (b : Fin 2) (h : Fin 32) (t x : Fin 1024) :
    vertBits idx cnt key (ix4 b h t x) = 1#1 ↔
      ∃ j : Fin 220, (BitVec.ofNat 32 j.val).slt (cnt (ix2 b h)) = true ∧ idx (ix3 b h j) = key (ix2 t x) := by
  unfold vertBits
  pointwise
  rw [Routing.fold_ori]
  exact ⟨fun ⟨j, _, hj⟩ => ⟨j, (pair_bit _ _ _ _).1 hj⟩, fun ⟨j, hj⟩ => ⟨j, Finset.mem_univ j, (pair_bit _ _ _ _).2 hj⟩⟩

/-- One bit per head, token and key: whether `key` at the token and the key is an entry of the slash list. -/
def slashBits (idx : IVec S2x32x400 32) (cnt : IVec S2x32 32) (key : IVec S1024x1024 32) : IVec S2x32x1024x1024 1 :=
  Host.reduce IntOp.ori
    (andi
      (cmpi .eq (broadcastInDim S2x32x400x1024x1024 ![0, 1, 2, 3, 4] bcast_S2x32x400x1x1_S2x32x400x1024x1024_0_1_2_3_4
          (broadcastInDim S2x32x400x1x1 ![0, 1, 2] bcast_S2x32x400_S2x32x400x1x1_0_1_2 idx))
        (broadcastInDim S2x32x400x1024x1024 ![0, 1, 2, 3, 4] bcast_S1x1x1x1024x1024_S2x32x400x1024x1024_0_1_2_3_4
          (broadcastInDim S1x1x1x1024x1024 ![3, 4] bcast_S1024x1024_S1x1x1x1024x1024_3_4 key)))
      (broadcastInDim S2x32x400x1024x1024 ![0, 1, 2, 3, 4] bcast_S2x32x400x1x1_S2x32x400x1024x1024_0_1_2_3_4
        (broadcastInDim S2x32x400x1x1 ![0, 1, 2] bcast_S2x32x400_S2x32x400x1x1_0_1_2
          (cmpi .slt (broadcastInDim S2x32x400 ![0, 1, 2] bcast_S1x1x400_S2x32x400_0_1_2
              (broadcastInDim S1x1x400 ![2] bcast_S400_S1x1x400_2 (iotaInDim S400 32 0)))
            (broadcastInDim S2x32x400 ![0, 1, 2] bcast_S2x32x1_S2x32x400_0_1_2
              (broadcastInDim S2x32x1 ![0, 1] bcast_S2x32_S2x32x1_0_1 cnt))))))
    (constantI S_ 1 0#1) reducesTo_S2x32x400x1024x1024_S2x32x1024x1024_d2 h_S_

theorem slashBits_at (idx : IVec S2x32x400 32) (cnt : IVec S2x32 32) (key : IVec S1024x1024 32) (b : Fin 2) (h : Fin 32) (t x : Fin 1024) :
    slashBits idx cnt key (ix4 b h t x) = 1#1 ↔
      ∃ j : Fin 400, (BitVec.ofNat 32 j.val).slt (cnt (ix2 b h)) = true ∧ idx (ix3 b h j) = key (ix2 t x) := by
  unfold slashBits
  pointwise
  rw [Routing.fold_ori]
  exact ⟨fun ⟨j, _, hj⟩ => ⟨j, (pair_bit _ _ _ _).1 hj⟩, fun ⟨j, hj⟩ => ⟨j, Finset.mem_univ j, (pair_bit _ _ _ _).2 hj⟩⟩

/-- The keys and the tokens, counted along their axes. -/
abbrev tokens : IVec S1024x1024 32 := iotaInDim S1024x1024 32 0
abbrev keys : IVec S1024x1024 32 := iotaInDim S1024x1024 32 1

/-- The mask of visible keys, from the two lists and their lengths. -/
def maskBits (vi : IVec S2x32x220 32) (vc : IVec S2x32 32) (si : IVec S2x32x400 32) (sc : IVec S2x32 32) : IVec S64x1024x1024 32 :=
  shapeCast S64x1024x1024 (extui 32 (andi
    (broadcastInDim S2x32x1024x1024 ![0, 1, 2, 3] bcast_S1x1x1024x1024_S2x32x1024x1024_0_1_2_3
      (broadcastInDim S1x1x1024x1024 ![2, 3] bcast_S1024x1024_S1x1x1024x1024_2_3 (cmpi .sle keys tokens)))
    (ori (vertBits vi vc keys) (slashBits si sc (subi tokens keys))))) shapeCasts_S2x32x1024x1024_S64x1024x1024

theorem extui_ne (c : BitVec 1) : IntOp.cmpi CmpIPredicate.ne (BitVec.setWidth 32 c) 0#32 = c := by revert c; decide

theorem word_le (t x : Fin 1024) : IntOp.cmpi CmpIPredicate.sle (BitVec.ofNat 32 x.val) (BitVec.ofNat 32 t.val) = 1#1 ↔ x.val ≤ t.val := by
  rw [IntOp.cmpi_sle, BitVec.toInt_eq_toNat_of_lt, BitVec.toInt_eq_toNat_of_lt, BitVec.toNat_ofNat, BitVec.toNat_ofNat] <;>
    (try simp only [BitVec.toNat_ofNat]) <;> omega

theorem word_sub (t x : Fin 1024) (h : x.val ≤ t.val) : IntOp.subi (BitVec.ofNat 32 t.val) (BitVec.ofNat 32 x.val) = BitVec.ofNat 32 (t.val - x.val) := by
  apply BitVec.eq_of_toNat_eq
  simp only [IntOp.subi, BitVec.toNat_sub, BitVec.toNat_ofNat]
  omega

theorem bits_at (V W : IVec S2x32x1024x1024 1) (b : Fin 2) (h : Fin 32) (t x : Fin 1024) :
    shapeCast S64x1024x1024 (extui 32 (andi
    (broadcastInDim S2x32x1024x1024 ![0, 1, 2, 3] bcast_S1x1x1024x1024_S2x32x1024x1024_0_1_2_3
      (broadcastInDim S1x1x1024x1024 ![2, 3] bcast_S1024x1024_S1x1x1024x1024_2_3 (cmpi .sle keys tokens)))
    (ori V W))) shapeCasts_S2x32x1024x1024_S64x1024x1024 (ix3 (⟨32 * b.val + h.val, by omega⟩ : Fin 64) t x) =
    BitVec.setWidth 32 (IntOp.andi (IntOp.cmpi CmpIPredicate.sle (BitVec.ofNat 32 x.val) (BitVec.ofNat 32 t.val))
      (IntOp.ori (V (ix4 b h t x)) (W (ix4 b h t x)))) := by
  pointwise

/-- The mask marks the visible keys. -/
theorem mask_at (vi : IVec S2x32x220 32) (vc : IVec S2x32 32) (si : IVec S2x32x400 32) (sc : IVec S2x32 32)
    (b : Fin 2) (h : Fin 32) (t x : Fin 1024) :
    IntOp.cmpi CmpIPredicate.ne (maskBits vi vc si sc (ix3 (⟨32 * b.val + h.val, by omega⟩ : Fin 64) t x)) 0#32 = 1#1 ↔
      Visible (Listed (fun j => vi (ix3 b h j)) (vc (ix2 b h))) (Listed (fun j => si (ix3 b h j)) (sc (ix2 b h))) t.val x.val := by
  unfold maskBits
  rw [bits_at, extui_ne, IntOp.andi_eq_one, IntOp.ori_eq_one, word_le, vertBits_at, slashBits_at]
  refine and_congr_right fun hle => or_congr Iff.rfl ?_
  have e : subi tokens keys (ix2 t x) = BitVec.ofNat 32 (t.val - x.val) := word_sub t x hle
  rw [e]
  exact Iff.rfl

end Cert.ReferenceIdeal.Value

end
-- ==== Proof.RefArrays.lean ====
module

public import proofs.«01_k».proof.Proof.RefMasks
public import proofs.«01_k».proof.Proof.Gen.ReferenceIdeal.Frame
public import Idealize.ShloMosaic.Lib.StableHlo.ReadAt

/-! # The reference's arrays

The six arrays that the reference's host code hands to its body, read off the ten arguments. -/

@[expose] public section

set_option maxRecDepth 16384

noncomputable section

namespace Cert.ReferenceIdeal.Value

open Cert.ReferenceIdeal Cert.ReferenceIdeal.Gen Cert.Attn
open Idealize.ShloMosaic Idealize.ShloMosaic.TcCoe Idealize.ShloMosaic.Tactic
open Idealize.SL.Sem

theorem grp_of_row (b : Fin 2) (h : Fin 32) (p : (32 * b.val + h.val) / 4 % 8 < 8) : (⟨(32 * b.val + h.val) / 4 % 8, p⟩ : Fin 8) = grp h :=
  Fin.ext (by show (32 * b.val + h.val) / 4 % 8 = h.val / 4; omega)

/-! ## The layouts -/

/-- The queries, one matrix per head. -/
def qRows (X : Vec Ideal S2x1024x32x160 .fp8e4m3) : Vec Ideal S64x1024x160 .fp8e4m3 :=
  shapeCast S64x1024x160 (transpose S2x32x1024x160 [0, 2, 1, 3] X transposes_S2x1024x32x160_S2x32x1024x160_0_2_1_3)
    shapeCasts_S2x32x1024x160_S64x1024x160

theorem qRows_at (X : Vec Ideal S2x1024x32x160 .fp8e4m3) (b : Fin 2) (h : Fin 32) (t : Fin 1024) (d : Fin 160) :
    qRows X (ix3 (⟨32 * b.val + h.val, by omega⟩ : Fin 64) t d) = X (ix4 b t h d) := by
  pointwise [qRows]

/-- The keys or values, one matrix per query head: that of the head's group. -/
def kvRows (X : Vec Ideal S2x1024x8x160 .fp8e4m3) : Vec Ideal S64x1024x160 .fp8e4m3 :=
  shapeCast S64x1024x160 (broadcastInDim S2x8x4x1024x160 ![0, 1, 2, 3, 4] bcast_S2x8x1x1024x160_S2x8x4x1024x160_0_1_2_3_4
    (broadcastInDim S2x8x1x1024x160 ![0, 1, 3, 4] bcast_S2x8x1024x160_S2x8x1x1024x160_0_1_3_4
      (transpose S2x8x1024x160 [0, 2, 1, 3] X transposes_S2x1024x8x160_S2x8x1024x160_0_2_1_3))) shapeCasts_S2x8x4x1024x160_S64x1024x160

theorem kvRows_at (X : Vec Ideal S2x1024x8x160 .fp8e4m3) (b : Fin 2) (h : Fin 32) (t : Fin 1024) (d : Fin 160) :
    kvRows X (ix3 (⟨32 * b.val + h.val, by omega⟩ : Fin 64) t d) = X (ix4 b t (grp h) d) := by
  pointwise [kvRows]
  rw [grp_of_row]

/-- A scale per group, as a scale per query head. -/
def grpRows (X : Vec Ideal S2x8 .f32) : Vec Ideal S2x8x4 .f32 :=
  broadcastInDim S2x8x4 ![0, 1, 2] bcast_S2x8x1_S2x8x4_0_1_2 (broadcastInDim S2x8x1 ![0, 1] bcast_S2x8_S2x8x1_0_1 X)

/-- The factor of every head's scores. -/
def multRows (X : Vec Ideal S2x32 .f32) (Y : Vec Ideal S2x8 .f32) : Vec Ideal S64x1x1 .f32 :=
  shapeCast S64x1x1 (mulf (mulf (shapeCast S2x8x4 X shapeCasts_S2x32_S2x8x4) (grpRows Y))
    (broadcastInDim S2x8x4 ![] bcast_S_S2x8x4 (constant (F := Ideal) S_ .f32 0x3DA1E89B#32))) shapeCasts_S2x8x4_S64x1x1

theorem multRows_at (X : Vec Ideal S2x32 .f32) (Y : Vec Ideal S2x8 .f32) (b : Fin 2) (h : Fin 32) :
    multRows X Y (ix3 (⟨32 * b.val + h.val, by omega⟩ : Fin 64) 0 0) = X (ix2 b h) * Y (ix2 b (grp h)) * smScale := by
  pointwise [multRows, grpRows]
  rw [grp_of_row]

theorem scaleRows_at (Y : Vec Ideal S2x8 .f32) (b : Fin 2) (h : Fin 32) :
    shapeCast S64x1x1 (grpRows Y) shapeCasts_S2x8x4_S64x1x1 (ix3 (⟨32 * b.val + h.val, by omega⟩ : Fin 64) 0 0) = Y (ix2 b (grp h)) := by
  pointwise [grpRows]
  rw [grp_of_row]

/-! ## The host code's results -/

variable (m : (ℓ : Loc nD τ sig) → Buf (Elt Ideal) ℓ) (c : Dev nD)

theorem q_array : V m c main_v1 = qRows (m ((c : Thread nD τ).loc main_arg0)) := by
  unfold V; simp only [hostOps0, StableHlo.after_cons, StableHlo.after_nil]; rfl

theorem k_array : V m c main_v52 = kvRows (m ((c : Thread nD τ).loc main_arg2)) := by
  unfold V; simp only [hostOps0, StableHlo.after_cons, StableHlo.after_nil]; rfl

theorem v_array : V m c main_v56 = kvRows (m ((c : Thread nD τ).loc main_arg4)) := by
  unfold V; simp only [hostOps0, StableHlo.after_cons, StableHlo.after_nil]; rfl

theorem mult_array : V m c main_v57 = multRows (m ((c : Thread nD τ).loc main_arg1)) (m ((c : Thread nD τ).loc main_arg3)) := by
  unfold V; simp only [hostOps0, StableHlo.after_cons, StableHlo.after_nil]; rfl

theorem scale_array : V m c main_v58 = shapeCast S64x1x1 (grpRows (m ((c : Thread nD τ).loc main_arg5))) shapeCasts_S2x8x4_S64x1x1 := by
  unfold V; simp only [hostOps0, StableHlo.after_cons, StableHlo.after_nil]; rfl

theorem mask_array : V m c main_v59 = maskBits (m ((c : Thread nD τ).loc main_arg6)) (m ((c : Thread nD τ).loc main_arg7))
    (m ((c : Thread nD τ).loc main_arg8)) (m ((c : Thread nD τ).loc main_arg9)) := by
  unfold V maskBits vertBits slashBits
  after_reads_simp
  rfl

end Cert.ReferenceIdeal.Value

end
-- ==== Proof.RefRun.lean ====
module

public import proofs.«01_k».proof.Proof.RefBody
public import proofs.«01_k».proof.Proof.RefArrays
public import Idealize.ShloMosaic.Lib.Pipeline.Value
public import Idealize.ShloMosaic.Lib.Pipeline.ValueKit.Geometry
public import Idealize.ShloMosaic.Lib.Pipeline.ValueKit.Acc

/-! # The reference's run

The reference's two results are the codes and the scales of its arguments. -/

@[expose] public section

set_option maxRecDepth 16384

noncomputable section

namespace Cert.ReferenceIdeal.Value

open Cert.ReferenceIdeal Cert.ReferenceIdeal.Gen Cert.Attn
open Idealize.ShloMosaic Idealize.ShloMosaic.TcCoe Idealize.ShloMosaic.Tactic
open Idealize.SL.Sem
open Idealize.ShloMosaic.Pipeline (Dat)

/-! ## The body on arrays laid out from the arguments -/

/-- The six arrays are those of the arguments `A`. -/
structure Rows (A : Inputs) (q k v : Vec Ideal S64x1024x160 .fp8e4m3) (mult scl : Vec Ideal S64x1x1 .f32) (vis : Vec Ideal S64x1024x1024 .i32) : Prop where
  hq : ∀ (b : Fin 2) (h : Fin 32) (t : Fin 1024) (d : Fin 160), q (ix3 (⟨32 * b.val + h.val, by omega⟩ : Fin 64) t d) = A.q b t h d
  hk : ∀ (b : Fin 2) (h : Fin 32) (t : Fin 1024) (d : Fin 160), k (ix3 (⟨32 * b.val + h.val, by omega⟩ : Fin 64) t d) = A.k b t (grp h) d
  hv : ∀ (b : Fin 2) (h : Fin 32) (t : Fin 1024) (d : Fin 160), v (ix3 (⟨32 * b.val + h.val, by omega⟩ : Fin 64) t d) = A.v b t (grp h) d
  hm : ∀ (b : Fin 2) (h : Fin 32), mult (ix3 (⟨32 * b.val + h.val, by omega⟩ : Fin 64) 0 0) = A.qs b h * A.ks b (grp h) * smScale
  hs : ∀ (b : Fin 2) (h : Fin 32), scl (ix3 (⟨32 * b.val + h.val, by omega⟩ : Fin 64) 0 0) = A.vs b (grp h)
  hvis : ∀ (b : Fin 2) (h : Fin 32) (t x : Fin 1024), IntOp.cmpi CmpIPredicate.ne (vis (ix3 (⟨32 * b.val + h.val, by omega⟩ : Fin 64) t x)) 0#32 = 1#1 ↔
    Visible (Listed (A.vi b h) (A.vc b h)) (Listed (A.si b h) (A.sc b h)) t.val x.val

section body
variable {A : Inputs} {q k v : Vec Ideal S64x1024x160 .fp8e4m3} {mult scl : Vec Ideal S64x1x1 .f32} {vis : Vec Ideal S64x1024x1024 .i32}

open Classical in
theorem out_at (H : Rows A q k v mult scl vis) (b : Fin 2) (h : Fin 32) (t : Fin 1024) (d : Fin 160) :
    k0_pay5 q k vis mult v (ix3 (⟨32 * b.val + h.val, by omega⟩ : Fin 64) t d) = A.out b h d t := by
  rw [attend_at]
  unfold Inputs.out
  simp only [H.hq, H.hk, H.hv, H.hm]
  refine congrArg (fun y => attend y _) (funext fun x => ?_)
  unfold score
  by_cases hx : Visible (Listed (A.vi b h) (A.vc b h)) (Listed (A.si b h) (A.sc b h)) t.val x.val
  · rw [if_pos hx, (H.hvis b h t x).2 hx]; rfl
  · rw [if_neg hx]
    have e := mt (H.hvis b h t x).1 hx
    exact if_neg e

theorem scaled_at (H : Rows A q k v mult scl vis) (b : Fin 2) (t : Fin 1024) (x : Fin 5120) :
    k0_pay1 (k0_pay5 q k vis mult v) scl (ix3 b t x) = A.scaled b ⟨x.val / 160, by omega⟩ ⟨x.val % 160, by omega⟩ t := by
  rw [pay1_at]
  exact congrArg₂ (fun y z : EReal => y * z) (out_at H b ⟨x.val / 160, by omega⟩ t ⟨x.val % 160, by omega⟩) (H.hs b ⟨x.val / 160, by omega⟩)

theorem exponent_at (H : Rows A q k v mult scl vis) (b : Fin 2) (t : Fin 1024) :
    k0_pay2 (k0_pay5 q k vis mult v) scl (ix2 b t) = A.rexp b t := by
  rw [pay2_at]
  unfold Inputs.rexp
  simp only [scaled_at H]

theorem code_at (H : Rows A q k v mult scl vis) (b : Fin 2) (t : Fin 1024) (x : Fin 5120) :
    k0_pay4 (k0_pay5 q k vis mult v) scl (ix3 b t x) = A.rcode b t ⟨x.val / 160, by omega⟩ ⟨x.val % 160, by omega⟩ := by
  rw [pay4_at, scaled_at H, exponent_at H]
  rfl

theorem scale_out (H : Rows A q k v mult scl vis) (b : Fin 2) (i : Fin 8) (l : Fin 128) :
    k0_pay3 (k0_pay5 q k vis mult v) scl (ix3 b i l) = Ideal.exp2 (A.rexp b ⟨128 * i.val + l.val, by omega⟩) := by
  rw [pay3_at, exponent_at H]

end body

/-! ## The arrays of the run -/

section arrays
variable (m : (ℓ : Loc nD τ sig) → Buf (Elt Ideal) ℓ) (c : Dev nD)

/-- The arguments on core `c`, by coordinates. -/
def inputs : Inputs where
  q b t h d := (m ((c : Thread nD τ).loc main_arg0) : Vec Ideal S2x1024x32x160 .fp8e4m3) (ix4 b t h d)
  qs b h := (m ((c : Thread nD τ).loc main_arg1) : Vec Ideal S2x32 .f32) (ix2 b h)
  k b t g d := (m ((c : Thread nD τ).loc main_arg2) : Vec Ideal S2x1024x8x160 .fp8e4m3) (ix4 b t g d)
  ks b g := (m ((c : Thread nD τ).loc main_arg3) : Vec Ideal S2x8 .f32) (ix2 b g)
  v b t g d := (m ((c : Thread nD τ).loc main_arg4) : Vec Ideal S2x1024x8x160 .fp8e4m3) (ix4 b t g d)
  vs b g := (m ((c : Thread nD τ).loc main_arg5) : Vec Ideal S2x8 .f32) (ix2 b g)
  vi b h x := (m ((c : Thread nD τ).loc main_arg6) : Vec Ideal S2x32x220 .i32) (ix3 b h x)
  vc b h := (m ((c : Thread nD τ).loc main_arg7) : Vec Ideal S2x32 .i32) (ix2 b h)
  si b h x := (m ((c : Thread nD τ).loc main_arg8) : Vec Ideal S2x32x400 .i32) (ix3 b h x)
  sc b h := (m ((c : Thread nD τ).loc main_arg9) : Vec Ideal S2x32 .i32) (ix2 b h)

theorem rows : Rows (inputs m c) (V m c main_v1) (V m c main_v52) (V m c main_v56) (V m c main_v57) (V m c main_v58) (V m c main_v59) where
  hq b h t d := (congrFun (q_array m c) _).trans (qRows_at _ b h t d)
  hk b h t d := (congrFun (k_array m c) _).trans (kvRows_at _ b h t d)
  hv b h t d := (congrFun (v_array m c) _).trans (kvRows_at _ b h t d)
  hm b h := (congrFun (mult_array m c) _).trans (multRows_at _ _ b h)
  hs b h := (congrFun (scale_array m c) _).trans (scaleRows_at _ b h)
  hvis b h t x := by
    rw [mask_array]
    exact mask_at _ _ _ _ b h t x

theorem t0_lt : 0 < cfg0.N := by decide +kernel

/-- The one grid point. -/
abbrev t0_ : Fin cfg0.N := ⟨0, t0_lt⟩

theorem e0 : ∀ t : Fin cfg0.N, win0_0.index t = ![0, 0, 0] := (by decide +kernel : ∀ t : Fin grid0.N, win0_0.index t = ![0, 0, 0])
theorem e1 : ∀ t : Fin cfg0.N, win0_1.index t = ![0, 0, 0] := (by decide +kernel : ∀ t : Fin grid0.N, win0_1.index t = ![0, 0, 0])
theorem e2 : ∀ t : Fin cfg0.N, win0_2.index t = ![0, 0, 0] := (by decide +kernel : ∀ t : Fin grid0.N, win0_2.index t = ![0, 0, 0])
theorem e3 : ∀ t : Fin cfg0.N, win0_3.index t = ![0, 0, 0] := (by decide +kernel : ∀ t : Fin grid0.N, win0_3.index t = ![0, 0, 0])
theorem e4 : ∀ t : Fin cfg0.N, win0_4.index t = ![0, 0, 0] := (by decide +kernel : ∀ t : Fin grid0.N, win0_4.index t = ![0, 0, 0])
theorem e5 : ∀ t : Fin cfg0.N, win0_5.index t = ![0, 0, 0] := (by decide +kernel : ∀ t : Fin grid0.N, win0_5.index t = ![0, 0, 0])

theorem blk0 (t : Fin cfg0.N) : iblk m c 0 t = V m c main_v1 := by
  unfold iblk
  generalize V m c = X
  funext y
  blk_ext [e0 t]

theorem blk1 (t : Fin cfg0.N) : iblk m c 1 t = V m c main_v52 := by
  unfold iblk
  generalize V m c = X
  funext y
  blk_ext [e1 t]

theorem blk2 (t : Fin cfg0.N) : iblk m c 2 t = V m c main_v56 := by
  unfold iblk
  generalize V m c = X
  funext y
  blk_ext [e2 t]

theorem blk3 (t : Fin cfg0.N) : iblk m c 3 t = V m c main_v57 := by
  unfold iblk
  generalize V m c = X
  funext y
  blk_ext [e3 t]

theorem blk4 (t : Fin cfg0.N) : iblk m c 4 t = V m c main_v58 := by
  unfold iblk
  generalize V m c = X
  funext y
  blk_ext [e4 t]

theorem blk5 (t : Fin cfg0.N) : iblk m c 5 t = V m c main_v59 := by
  unfold iblk
  generalize V m c = X
  funext y
  blk_ext [e5 t]

/-- The codes of the arguments on core `c`. -/
def codes (y : S2x1024x5120.Idx) : EReal :=
  (inputs m c).rcode (y 0) (y 1) ⟨(y 2).val / 160, by have h : (y 2).val < 5120 := (y 2).isLt; omega⟩ ⟨(y 2).val % 160, Nat.mod_lt _ (by omega)⟩

/-- The scales of the arguments on core `c`. -/
def scales (y : S2x8x128.Idx) : EReal :=
  Ideal.exp2 ((inputs m c).rexp (y 0) ⟨128 * (y 1).val + (y 2).val, by have h : (y 1).val < 8 := (y 1).isLt; have h' : (y 2).val < 128 := (y 2).isLt; omega⟩)

theorem after_codes (t : Fin cfg0.N) : (dats m 0 c).after 6 t = codes m c := by
  rw [after0_6, blk0, blk1, blk2, blk3, blk4, blk5]
  unfold out0_6 k0_pay6
  frame_out
  funext y
  obtain ⟨b, t, x, rfl⟩ : ∃ (b : Fin 2) (t : Fin 1024) (x : Fin 5120), y = ix3 b t x := ⟨y 0, y 1, y 2, eq_ix3 y⟩
  exact code_at (rows m c) b t x

theorem after_scales (t : Fin cfg0.N) : (dats m 0 c).after 7 t = scales m c := by
  rw [after0_7, blk0, blk1, blk2, blk3, blk4, blk5]
  unfold out0_7 k0_pay6
  frame_out
  funext y
  obtain ⟨b, i, l, rfl⟩ : ∃ (b : Fin 2) (i : Fin 8) (l : Fin 128), y = ix3 b i l := ⟨y 0, y 1, y 2, eq_ix3 y⟩
  exact scale_out (rows m c) b i l

theorem codes_array : (dats m 0 c).arrAt 6 cfg0.N = codes m c := by
  refine (dats m 0 c).arrAt_eq_of_after_last 6 t0_ (by decide +kernel) _ fun j => ?_
  rw [after_codes]
  rfl

theorem scales_array : (dats m 0 c).arrAt 7 cfg0.N = scales m c := by
  refine (dats m 0 c).arrAt_eq_of_after_last 7 t0_ (by decide +kernel) _ fun j => ?_
  rw [after_scales]
  rfl

end arrays

/-! ## The run -/

section run
variable {F : FTy → Type} [FloatOps F] [Named F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v60_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v60_1) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v60_0) = (dats m 0 c).arrAt 6 cfg0.N
      ∧ r.2.mem ((c : Thread nD τ).loc main_v60_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end run

end Cert.ReferenceIdeal.Value

end
-- ==== Proof.lean ====
/-
  The certificate's claims: the three frames, the constants of the idealized kernel, and the equality of the results.
-/
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.KernelRun
public import proofs.«01_k».proof.Proof.RefRun

@[expose] public section

noncomputable section

namespace Cert.Proof

open Idealize.ShloMosaic Idealize.SL.Sem

/-- The three named constants of the idealized kernel are bound to the values they stand for. -/
theorem preserves : Cert.preserves_Kernel_KernelIdeal :=
  ⟨IdealRules.named_const.statement Cert.KernelIdeal.κ "hidden" .f32 0xF149F2CA#32 ⊥ rfl,
    IdealRules.named_const.statement Cert.KernelIdeal.κ "shown" .f32 0x7149F2CA#32 ⊤ rfl,
    IdealRules.named_const.statement Cert.KernelIdeal.κ "log2e" .f32 0x3FB8AA3B#32 (((Real.log 2)⁻¹ : ℝ) : EReal) rfl⟩

/-- Over the extended reals the idealized kernel and the reference leave the same codes and the same scales. -/
theorem algebraic : Cert.algebraic_KernelIdeal_ReferenceIdeal := by
  intro m g m' g' _ hargs
  refine ⟨Cert.KernelIdeal.Value.codes m, Cert.KernelIdeal.Value.scales m, Cert.KernelIdeal.Value.run m g,
    (θ_run _ _ _).mono (fun r h c => ?_) (Cert.ReferenceIdeal.Value.run_blocks m' g')⟩
  have e : Cert.ReferenceIdeal.Value.inputs m' c = Cert.KernelIdeal.Hand.inputs m c := by
    obtain ⟨h0, h1, h2, h3, h4, h5, h6, h7, h8, h9⟩ := hargs c
    unfold Cert.ReferenceIdeal.Value.inputs Cert.KernelIdeal.Hand.inputs
    rw [h0, h1, h2, h3, h4, h5, h6, h7, h8, h9]
  obtain ⟨hcodes, hscales, hkept⟩ := h c
  refine ⟨hcodes.trans ((Cert.ReferenceIdeal.Value.codes_array m' c).trans (funext fun y => ?_)),
    hscales.trans ((Cert.ReferenceIdeal.Value.scales_array m' c).trans (funext fun y => ?_)), hkept⟩
  · unfold Cert.ReferenceIdeal.Value.codes Cert.KernelIdeal.Value.codes
    rw [e]
    exact (Cert.Attn.Inputs.kcode_eq _ _ _ _ _).symm
  · unfold Cert.ReferenceIdeal.Value.scales Cert.KernelIdeal.Value.scales
    rw [e]
    exact congrArg Ideal.exp2 (Cert.Attn.Inputs.kexp_eq _ _ _).symm

theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, preserves, algebraic⟩

end Cert.Proof

end
